-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_with_ones [hPre_finite_with_ones : Cert.Pre_finite_with_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_with_ones [hPre_finite_with_ones : Cert.Pre_finite_with_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_with_ones [hKernelIdeal : Cert.KernelIdeal.Facts] [hPre_finite_with_ones : Cert.Pre_finite_with_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_with_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_with_ones [hReferenceIdeal : Cert.ReferenceIdeal.Facts] [hPre_finite_with_ones : Cert.Pre_finite_with_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_with_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal_pre_finite_with_ones [hKernelIdeal : Cert.KernelIdeal.Facts] [hReferenceIdeal : Cert.ReferenceIdeal.Facts] [hPre_finite_with_ones : Cert.Pre_finite_with_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_with_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)) (v3 : (c : Dev Cert.Kernel3Ideal.nD) → Buf (Elt Ideal) ((c.tc : Thread Cert.Kernel3Ideal.nD Cert.Kernel3Ideal.τ).loc Cert.Kernel3Ideal.main_v9_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_v9_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v71) = v0 c
          ∧ r.2.mem ((c.tc : Thread Cert.Reference3Ideal.nD Cert.Reference3Ideal.τ).loc Cert.Reference3Ideal.main_v179) = v1 c
          ∧ r.2.mem ((c.tc : Thread Cert.Reference3Ideal.nD Cert.Reference3Ideal.τ).loc Cert.Reference3Ideal.main_v180) = v2 c
          ∧ r.2.mem ((c.tc : Thread Cert.Reference3Ideal.nD Cert.Reference3Ideal.τ).loc Cert.Reference3Ideal.main_v181) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v108) = v0 c
          ∧ r.2.mem ((c.tc : Thread Cert.Reference5Ideal.nD Cert.Reference5Ideal.τ).loc Cert.Reference5Ideal.main_v109) = v1 c
          ∧ r.2.mem ((c.tc : Thread Cert.Reference5Ideal.nD Cert.Reference5Ideal.τ).loc Cert.Reference5Ideal.main_v110) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_with_ones : Cert.Pre_finite_with_ones.Facts),
    quiescent_Kernel (hKernel := hKernel)
    ∧ quiescent_KernelIdeal (hKernelIdeal := hKernelIdeal)
    ∧ quiescent_KernelIdeal_pre_finite_with_ones (hKernelIdeal := hKernelIdeal) (hPre_finite_with_ones := hPre_finite_with_ones)
    ∧ quiescent_ReferenceIdeal (hReferenceIdeal := hReferenceIdeal)
    ∧ quiescent_ReferenceIdeal_pre_finite_with_ones (hReferenceIdeal := hReferenceIdeal) (hPre_finite_with_ones := hPre_finite_with_ones)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_with_ones (hKernelIdeal := hKernelIdeal) (hReferenceIdeal := hReferenceIdeal) (hPre_finite_with_ones := hPre_finite_with_ones)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_with_ones.lean ====
abbrev S4x8448x1024 : Shape := ⟨3, ![4, 8448, 1024]⟩
abbrev S4x8x8448x128 : Shape := ⟨4, ![4, 8, 8448, 128]⟩
abbrev S4x8x144x8448 : Shape := ⟨4, ![4, 8, 144, 8448]⟩
abbrev S4x64 : Shape := ⟨2, ![4, 64]⟩
abbrev S128x1 : Shape := ⟨2, ![128, 1]⟩
abbrev S_ : Shape := ⟨0, ![]⟩
abbrev S4x8x1x8448 : Shape := ⟨4, ![4, 8, 1, 8448]⟩
abbrev S4x8x8448 : Shape := ⟨3, ![4, 8, 8448]⟩

class Facts : Prop where
  bitsLt_bf16_f32 : FTy.bits .bf16 < FTy.bits .f32
  bcast_S_S4x8448x1024 : S_.BroadcastsInDim S4x8448x1024 (![] : Fin 0 → Fin S4x8448x1024.rank)
  bcast_S_S4x8x8448x128 : S_.BroadcastsInDim S4x8x8448x128 (![] : Fin 0 → Fin S4x8x8448x128.rank)
  bcast_S_S4x8x144x8448 : S_.BroadcastsInDim S4x8x144x8448 (![] : Fin 0 → Fin S4x8x144x8448.rank)
  slices_S4x8x144x8448_S4x8x1x8448_0_0_128_0 : S4x8x144x8448.Slices ![0, 0, 128, 0] S4x8x1x8448
  shapeCasts_S4x8x1x8448_S4x8x8448 : S4x8x1x8448.ShapeCasts S4x8x8448
  bcast_S_S4x8x8448 : S_.BroadcastsInDim S4x8x8448 (![] : Fin 0 → Fin S4x8x8448.rank)
  bcast_S_S4x64 : S_.BroadcastsInDim S4x64 (![] : Fin 0 → Fin S4x64.rank)

variable [Facts]

def fn_part1 {F : FTy → Type} [FloatOps F] (main_v3 : IVec S4x8448x1024 1) (main_v7 : IVec S4x8x8448x128 1) (main_v11 : IVec S4x8x144x8448 1) (main_v16 : IVec S4x8x8448 1) (main_v17 : FVec F S4x64 .f32) (main_v18 : FVec F S4x64 .f32) : IVec S4x8448x1024 1 × IVec S4x8x8448x128 1 × IVec S4x8x144x8448 1 × IVec S4x8x8448 1 × IVec S4x64 1 :=
  let main_v19 : IVec S4x64 1 := cmpf .olt main_v17 main_v18
  (main_v3, main_v7, main_v11, main_v16, main_v19)

def fn {F : FTy → Type} [FloatOps F] (main_arg0 : FVec F S4x8448x1024 .bf16) (main_arg1 : FVec F S4x8x8448x128 .bf16) (main_arg2 : FVec F S4x8x144x8448 .bf16) (main_arg3 : FVec F S4x64 .f32) (main_arg4 : FVec F S128x1 .f32) : IVec S4x8448x1024 1 × IVec S4x8x8448x128 1 × IVec S4x8x144x8448 1 × IVec S4x8x8448 1 × IVec S4x64 1 :=
  let main_v0 : FVec F S4x8448x1024 .f32 := (extf .f32 · bitsLt_bf16_f32) main_arg0
  let main_v1 : FVec F S4x8448x1024 .f32 := Host.absf main_v0
  let main_cst : FVec F S_ .f32 := constant S_ .f32 0x7F800000#32
  let main_v2 : FVec F S4x8448x1024 .f32 := broadcastInDim S4x8448x1024 ![] bcast_S_S4x8448x1024 main_cst
  let main_v3 : IVec S4x8448x1024 1 := cmpf .olt main_v1 main_v2
  let main_v4 : FVec F S4x8x8448x128 .f32 := (extf .f32 · bitsLt_bf16_f32) main_arg1
  let main_v5 : FVec F S4x8x8448x128 .f32 := Host.absf main_v4
  let main_cst_0 : FVec F S_ .f32 := constant S_ .f32 0x7F800000#32
  let main_v6 : FVec F S4x8x8448x128 .f32 := broadcastInDim S4x8x8448x128 ![] bcast_S_S4x8x8448x128 main_cst_0
  let main_v7 : IVec S4x8x8448x128 1 := cmpf .olt main_v5 main_v6
  let main_v8 : FVec F S4x8x144x8448 .f32 := (extf .f32 · bitsLt_bf16_f32) main_arg2
  let main_v9 : FVec F S4x8x144x8448 .f32 := Host.absf main_v8
  let main_cst_1 : FVec F S_ .f32 := constant S_ .f32 0x7F800000#32
  let main_v10 : FVec F S4x8x144x8448 .f32 := broadcastInDim S4x8x144x8448 ![] bcast_S_S4x8x144x8448 main_cst_1
  let main_v11 : IVec S4x8x144x8448 1 := cmpf .olt main_v9 main_v10
  let main_v12 : FVec F S4x8x1x8448 .bf16 := (extractStridedSlice S4x8x1x8448 ![0, 0, 128, 0] · slices_S4x8x144x8448_S4x8x1x8448_0_0_128_0) main_arg2
  let main_v13 : FVec F S4x8x8448 .bf16 := shapeCast S4x8x8448 main_v12 shapeCasts_S4x8x1x8448_S4x8x8448
  let main_v14 : FVec F S4x8x8448 .f32 := (extf .f32 · bitsLt_bf16_f32) main_v13
  let main_cst_2 : FVec F S_ .f32 := constant S_ .f32 0x3F800000#32
  let main_v15 : FVec F S4x8x8448 .f32 := broadcastInDim S4x8x8448 ![] bcast_S_S4x8x8448 main_cst_2
  let main_v16 : IVec S4x8x8448 1 := cmpf .oeq main_v14 main_v15
  let main_v17 : FVec F S4x64 .f32 := Host.absf main_arg3
  let main_cst_3 : FVec F S_ .f32 := constant S_ .f32 0x7F800000#32
  let main_v18 : FVec F S4x64 .f32 := broadcastInDim S4x64 ![] bcast_S_S4x64 main_cst_3
  fn_part1 (F := F) main_v3 main_v7 main_v11 main_v16 main_v17 main_v18
-- ==== Kernel.lean ====
abbrev S4x8448x1024 : Shape := ⟨3, ![4, 8448, 1024]⟩
abbrev S4x8x8448x128 : Shape := ⟨4, ![4, 8, 8448, 128]⟩
abbrev S4x8x144x8448 : Shape := ⟨4, ![4, 8, 144, 8448]⟩
abbrev S4x64 : Shape := ⟨2, ![4, 64]⟩
abbrev S128x1 : Shape := ⟨2, ![128, 1]⟩
abbrev S4x8x128x8192 : Shape := ⟨4, ![4, 8, 128, 8192]⟩
abbrev S1x256x256 : Shape := ⟨3, ![1, 256, 256]⟩
abbrev S1x2x8448x128 : Shape := ⟨4, ![1, 2, 8448, 128]⟩
abbrev S1x2x144x8448 : Shape := ⟨4, ![1, 2, 144, 8448]⟩
abbrev S1x2x128x512 : Shape := ⟨4, ![1, 2, 128, 512]⟩
abbrev S256x256 : Shape := ⟨2, ![256, 256]⟩
abbrev S256x128 : Shape := ⟨2, ![256, 128]⟩
abbrev S1x64 : Shape := ⟨2, ![1, 64]⟩
abbrev S1 : Shape := ⟨1, ![1]⟩
abbrev S1x1 : Shape := ⟨2, ![1, 1]⟩
abbrev S1x256x128 : Shape := ⟨3, ![1, 256, 128]⟩
abbrev S1x1x256x128 : Shape := ⟨4, ![1, 1, 256, 128]⟩
abbrev S256 : Shape := ⟨1, ![256]⟩
abbrev S1x256 : Shape := ⟨2, ![1, 256]⟩
abbrev S64x256 : Shape := ⟨2, ![64, 256]⟩
abbrev S1x1x144x256 : Shape := ⟨4, ![1, 1, 144, 256]⟩
abbrev S144x256 : Shape := ⟨2, ![144, 256]⟩
abbrev S128x256 : Shape := ⟨2, ![128, 256]⟩
abbrev S128x512 : Shape := ⟨2, ![128, 512]⟩
abbrev S512 : Shape := ⟨1, ![512]⟩
abbrev S1x512 : Shape := ⟨2, ![1, 512]⟩
abbrev S1x1x128x512 : Shape := ⟨4, ![1, 1, 128, 512]⟩

abbrev nBuf : Space → Nat
  | .hbm => 6
  | .vmem => 76
  | .smem => 0
  | _ => 0

abbrev bufTy : (tb : Table) → Fin (tcTables nBuf tb) → BufTy
  | .hbm, ⟨0, _⟩ => ⟨S4x8448x1024, .bf16⟩
  | .hbm, ⟨1, _⟩ => ⟨S4x8x8448x128, .bf16⟩
  | .hbm, ⟨2, _⟩ => ⟨S4x8x144x8448, .bf16⟩
  | .hbm, ⟨3, _⟩ => ⟨S4x64, .f32⟩
  | .hbm, ⟨4, _⟩ => ⟨S128x1, .f32⟩
  | .hbm, ⟨5, _⟩ => ⟨S4x8x128x8192, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x2x8448x128, .bf16⟩
  | .local _ .vmem, ⟨5, _⟩ => ⟨S1x2x8448x128, .bf16⟩
  | .local _ .vmem, ⟨6, _⟩ => ⟨S1x2x144x8448, .bf16⟩
  | .local _ .vmem, ⟨7, _⟩ => ⟨S1x2x144x8448, .bf16⟩
  | .local _ .vmem, ⟨8, _⟩ => ⟨S4x64, .f32⟩
  | .local _ .vmem, ⟨9, _⟩ => ⟨S128x1, .f32⟩
  | .local _ .vmem, ⟨10, _⟩ => ⟨S1x2x128x512, .bf16⟩
  | .local _ .vmem, ⟨11, _⟩ => ⟨S1x2x128x512, .bf16⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | .local _ .vmem, ⟨34, _⟩ => ⟨S256x256, .f32⟩
  | .local _ .vmem, ⟨35, _⟩ => ⟨S256x256, .f32⟩
  | .local _ .vmem, ⟨36, _⟩ => ⟨S256x256, .f32⟩
  | .local _ .vmem, ⟨37, _⟩ => ⟨S256x256, .f32⟩
  | .local _ .vmem, ⟨38, _⟩ => ⟨S256x256, .f32⟩
  | .local _ .vmem, ⟨39, _⟩ => ⟨S256x256, .f32⟩
  | .local _ .vmem, ⟨40, _⟩ => ⟨S256x256, .f32⟩
  | .local _ .vmem, ⟨41, _⟩ => ⟨S256x256, .f32⟩
  | .local _ .vmem, ⟨42, _⟩ => ⟨S256x256, .f32⟩
  | .local _ .vmem, ⟨43, _⟩ => ⟨S256x256, .f32⟩
  | .local _ .vmem, ⟨44, _⟩ => ⟨S256x256, .bf16⟩
  | .local _ .vmem, ⟨45, _⟩ => ⟨S256x256, .bf16⟩
  | .local _ .vmem, ⟨46, _⟩ => ⟨S256x256, .bf16⟩
  | .local _ .vmem, ⟨47, _⟩ => ⟨S256x256, .bf16⟩
  | .local _ .vmem, ⟨48, _⟩ => ⟨S256x256, .bf16⟩
  | .local _ .vmem, ⟨49, _⟩ => ⟨S256x256, .bf16⟩
  | .local _ .vmem, ⟨50, _⟩ => ⟨S256x256, .bf16⟩
  | .local _ .vmem, ⟨51, _⟩ => ⟨S256x256, .bf16⟩
  | .local _ .vmem, ⟨52, _⟩ => ⟨S256x256, .bf16⟩
  | .local _ .vmem, ⟨53, _⟩ => ⟨S256x256, .bf16⟩
  | .local _ .vmem, ⟨54, _⟩ => ⟨S256x256, .bf16⟩
  | .local _ .vmem, ⟨55, _⟩ => ⟨S256x256, .bf16⟩
  | .local _ .vmem, ⟨56, _⟩ => ⟨S256x256, .bf16⟩
  | .local _ .vmem, ⟨57, _⟩ => ⟨S256x256, .bf16⟩
  | .local _ .vmem, ⟨58, _⟩ => ⟨S256x256, .bf16⟩
  | .local _ .vmem, ⟨59, _⟩ => ⟨S256x256, .bf16⟩
  | .local _ .vmem, ⟨60, _⟩ => ⟨S256x256, .bf16⟩
  | .local _ .vmem, ⟨61, _⟩ => ⟨S256x256, .bf16⟩
  | .local _ .vmem, ⟨62, _⟩ => ⟨S256x256, .bf16⟩
  | .local _ .vmem, ⟨63, _⟩ => ⟨S256x256, .bf16⟩
  | .local _ .vmem, ⟨64, _⟩ => ⟨S256x256, .bf16⟩
  | .local _ .vmem, ⟨65, _⟩ => ⟨S256x256, .bf16⟩
  | .local _ .vmem, ⟨66, _⟩ => ⟨S256x256, .bf16⟩
  | .local _ .vmem, ⟨67, _⟩ => ⟨S256x256, .bf16⟩
  | .local _ .vmem, ⟨68, _⟩ => ⟨S256x256, .bf16⟩
  | .local _ .vmem, ⟨69, _⟩ => ⟨S256x256, .bf16⟩
  | .local _ .vmem, ⟨70, _⟩ => ⟨S256x256, .bf16⟩
  | .local _ .vmem, ⟨71, _⟩ => ⟨S256x256, .bf16⟩
  | .local _ .vmem, ⟨72, _⟩ => ⟨S256x256, .bf16⟩
  | .local _ .vmem, ⟨73, _⟩ => ⟨S256x256, .bf16⟩
  | .local _ .vmem, ⟨74, _⟩ => ⟨S256x256, .bf16⟩
  | .local _ .vmem, ⟨75, _⟩ => ⟨S256x256, .bf16⟩
  | _, _ => ⟨S4x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_scratch11 : Ref sig .tc := ⟨.vmem, 23, rfl⟩
abbrev cc0_scratch12 : Ref sig .tc := ⟨.vmem, 24, rfl⟩
abbrev cc0_scratch13 : Ref sig .tc := ⟨.vmem, 25, rfl⟩
abbrev cc0_scratch14 : Ref sig .tc := ⟨.vmem, 26, rfl⟩
abbrev cc0_scratch15 : Ref sig .tc := ⟨.vmem, 27, rfl⟩
abbrev cc0_scratch16 : Ref sig .tc := ⟨.vmem, 28, rfl⟩
abbrev cc0_scratch17 : Ref sig .tc := ⟨.vmem, 29, rfl⟩
abbrev cc0_scratch18 : Ref sig .tc := ⟨.vmem, 30, rfl⟩
abbrev cc0_scratch19 : Ref sig .tc := ⟨.vmem, 31, rfl⟩
abbrev cc0_scratch20 : Ref sig .tc := ⟨.vmem, 32, rfl⟩
abbrev cc0_scratch21 : Ref sig .tc := ⟨.vmem, 33, rfl⟩
abbrev cc0_scratch22 : Ref sig .tc := ⟨.vmem, 34, rfl⟩
abbrev cc0_scratch23 : Ref sig .tc := ⟨.vmem, 35, rfl⟩
abbrev cc0_scratch24 : Ref sig .tc := ⟨.vmem, 36, rfl⟩
abbrev cc0_scratch25 : Ref sig .tc := ⟨.vmem, 37, rfl⟩
abbrev cc0_scratch26 : Ref sig .tc := ⟨.vmem, 38, rfl⟩
abbrev cc0_scratch27 : Ref sig .tc := ⟨.vmem, 39, rfl⟩
abbrev cc0_scratch28 : Ref sig .tc := ⟨.vmem, 40, rfl⟩
abbrev cc0_scratch29 : Ref sig .tc := ⟨.vmem, 41, rfl⟩
abbrev cc0_scratch30 : Ref sig .tc := ⟨.vmem, 42, rfl⟩
abbrev cc0_scratch31 : Ref sig .tc := ⟨.vmem, 43, rfl⟩
abbrev cc0_scratch32 : Ref sig .tc := ⟨.vmem, 44, rfl⟩
abbrev cc0_scratch33 : Ref sig .tc := ⟨.vmem, 45, rfl⟩
abbrev cc0_scratch34 : Ref sig .tc := ⟨.vmem, 46, rfl⟩
abbrev cc0_scratch35 : Ref sig .tc := ⟨.vmem, 47, rfl⟩
abbrev cc0_scratch36 : Ref sig .tc := ⟨.vmem, 48, rfl⟩
abbrev cc0_scratch37 : Ref sig .tc := ⟨.vmem, 49, rfl⟩
abbrev cc0_scratch38 : Ref sig .tc := ⟨.vmem, 50, rfl⟩
abbrev cc0_scratch39 : Ref sig .tc := ⟨.vmem, 51, rfl⟩
abbrev cc0_scratch40 : Ref sig .tc := ⟨.vmem, 52, rfl⟩
abbrev cc0_scratch41 : Ref sig .tc := ⟨.vmem, 53, rfl⟩
abbrev cc0_scratch42 : Ref sig .tc := ⟨.vmem, 54, rfl⟩
abbrev cc0_scratch43 : Ref sig .tc := ⟨.vmem, 55, rfl⟩
abbrev cc0_scratch44 : Ref sig .tc := ⟨.vmem, 56, rfl⟩
abbrev cc0_scratch45 : Ref sig .tc := ⟨.vmem, 57, rfl⟩
abbrev cc0_scratch46 : Ref sig .tc := ⟨.vmem, 58, rfl⟩
abbrev cc0_scratch47 : Ref sig .tc := ⟨.vmem, 59, rfl⟩
abbrev cc0_scratch48 : Ref sig .tc := ⟨.vmem, 60, rfl⟩
abbrev cc0_scratch49 : Ref sig .tc := ⟨.vmem, 61, rfl⟩
abbrev cc0_scratch50 : Ref sig .tc := ⟨.vmem, 62, rfl⟩
abbrev cc0_scratch51 : Ref sig .tc := ⟨.vmem, 63, rfl⟩
abbrev cc0_scratch52 : Ref sig .tc := ⟨.vmem, 64, rfl⟩
abbrev cc0_scratch53 : Ref sig .tc := ⟨.vmem, 65, rfl⟩
abbrev cc0_scratch54 : Ref sig .tc := ⟨.vmem, 66, rfl⟩
abbrev cc0_scratch55 : Ref sig .tc := ⟨.vmem, 67, rfl⟩
abbrev cc0_scratch56 : Ref sig .tc := ⟨.vmem, 68, rfl⟩
abbrev cc0_scratch57 : Ref sig .tc := ⟨.vmem, 69, rfl⟩
abbrev cc0_scratch58 : Ref sig .tc := ⟨.vmem, 70, rfl⟩
abbrev cc0_scratch59 : Ref sig .tc := ⟨.vmem, 71, rfl⟩
abbrev cc0_scratch60 : Ref sig .tc := ⟨.vmem, 72, rfl⟩
abbrev cc0_scratch61 : Ref sig .tc := ⟨.vmem, 73, rfl⟩
abbrev cc0_scratch62 : Ref sig .tc := ⟨.vmem, 74, rfl⟩
abbrev cc0_scratch63 : Ref sig .tc := ⟨.vmem, 75, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  ![arg0.toNat, v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  ![arg0.toNat, v2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x144x8448 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x2x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S4x8448x1024 : Shape := ⟨3, ![4, 8448, 1024]⟩
abbrev S4x8x8448x128 : Shape := ⟨4, ![4, 8, 8448, 128]⟩
abbrev S4x8x144x8448 : Shape := ⟨4, ![4, 8, 144, 8448]⟩
abbrev S4x64 : Shape := ⟨2, ![4, 64]⟩
abbrev S128x1 : Shape := ⟨2, ![128, 1]⟩
abbrev S4x8192x1024 : Shape := ⟨3, ![4, 8192, 1024]⟩
abbrev S4x8192x8x2x64 : Shape := ⟨5, ![4, 8192, 8, 2, 64]⟩
abbrev S4x8x8448x2x64 : Shape := ⟨5, ![4, 8, 8448, 2, 64]⟩
abbrev S4x8x128x8448 : Shape := ⟨4, ![4, 8, 128, 8448]⟩
abbrev S4x8x2x8192x8448 : Shape := ⟨5, ![4, 8, 2, 8192, 8448]⟩
abbrev S_ : Shape := ⟨0, ![]⟩
abbrev S4x8x2x8192 : Shape := ⟨4, ![4, 8, 2, 8192]⟩
abbrev S4x8x2x8192x1 : Shape := ⟨5, ![4, 8, 2, 8192, 1]⟩
abbrev S1x64 : Shape := ⟨2, ![1, 64]⟩
abbrev S64 : Shape := ⟨1, ![64]⟩
abbrev S4x8x1x8192x8448 : Shape := ⟨5, ![4, 8, 1, 8192, 8448]⟩
abbrev S4x8x8192x8448 : Shape := ⟨4, ![4, 8, 8192, 8448]⟩
abbrev S4x8x8192x128 : Shape := ⟨4, ![4, 8, 8192, 128]⟩
abbrev S4x8x8192 : Shape := ⟨3, ![4, 8, 8192]⟩
abbrev S4x8x8192x1 : Shape := ⟨4, ![4, 8, 8192, 1]⟩
abbrev S128 : Shape := ⟨1, ![128]⟩
abbrev S1x1x1x128 : Shape := ⟨4, ![1, 1, 1, 128]⟩
abbrev S4x8x128x8192 : Shape := ⟨4, ![4, 8, 128, 8192]⟩

abbrev nBuf : Space → Nat
  | .hbm => 78
  | .vmem => 0
  | .smem => 0
  | _ => 0

abbrev bufTy : (tb : Table) → Fin (tcTables nBuf tb) → BufTy
  | .hbm, ⟨0, _⟩ => ⟨S4x8448x1024, .bf16⟩
  | .hbm, ⟨1, _⟩ => ⟨S4x8x8448x128, .bf16⟩
  | .hbm, ⟨2, _⟩ => ⟨S4x8x144x8448, .bf16⟩
  | .hbm, ⟨3, _⟩ => ⟨S4x64, .f32⟩
  | .hbm, ⟨4, _⟩ => ⟨S128x1, .f32⟩
  | .hbm, ⟨5, _⟩ => ⟨S4x8192x1024, .bf16⟩
  | .hbm, ⟨6, _⟩ => ⟨S4x8192x1024, .f32⟩
  | .hbm, ⟨7, _⟩ => ⟨S4x8192x8x2x64, .f32⟩
  | .hbm, ⟨8, _⟩ => ⟨S4x8x8448x128, .f32⟩
  | .hbm, ⟨9, _⟩ => ⟨S4x8x8448x2x64, .f32⟩
  | .hbm, ⟨10, _⟩ => ⟨S4x8x128x8448, .bf16⟩
  | .hbm, ⟨11, _⟩ => ⟨S4x8x128x8448, .f32⟩
  | .hbm, ⟨12, _⟩ => ⟨S4x8x2x8192x8448, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x8x2x8192, .f32⟩
  | .hbm, ⟨17, _⟩ => ⟨S4x8x2x8192x1, .f32⟩
  | .hbm, ⟨18, _⟩ => ⟨S4x8x2x8192x8448, .f32⟩
  | .hbm, ⟨19, _⟩ => ⟨S4x8x2x8192x8448, .f32⟩
  | .hbm, ⟨20, _⟩ => ⟨S_, .f32⟩
  | .hbm, ⟨21, _⟩ => ⟨S4x8x2x8192x8448, .f32⟩
  | .hbm, ⟨22, _⟩ => ⟨S4x8x2x8192x8448, .f32⟩
  | .hbm, ⟨23, _⟩ => ⟨S4x8x2x8192x8448, .f32⟩
  | .hbm, ⟨24, _⟩ => ⟨S_, .f32⟩
  | .hbm, ⟨25, _⟩ => ⟨S4x8x2x8192, .f32⟩
  | .hbm, ⟨26, _⟩ => ⟨S4x8x2x8192x1, .f32⟩
  | .hbm, ⟨27, _⟩ => ⟨S4x8x2x8192x8448, .f32⟩
  | .hbm, ⟨28, _⟩ => ⟨S4x8x2x8192x8448, .f32⟩
  | .hbm, ⟨29, _⟩ => ⟨S1x64, .f32⟩
  | .hbm, ⟨30, _⟩ => ⟨S64, .f32⟩
  | .hbm, ⟨31, _⟩ => ⟨S1x64, .f32⟩
  | .hbm, ⟨32, _⟩ => ⟨S64, .f32⟩
  | .hbm, ⟨33, _⟩ => ⟨S1x64, .f32⟩
  | .hbm, ⟨34, _⟩ => ⟨S64, .f32⟩
  | .hbm, ⟨35, _⟩ => ⟨S1x64, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4x8x1x8192x8448, .f32⟩
  | .hbm, ⟨49, _⟩ => ⟨S4x8x8192x8448, .f32⟩
  | .hbm, ⟨50, _⟩ => ⟨S4x8x1x8192x8448, .f32⟩
  | .hbm, ⟨51, _⟩ => ⟨S4x8x8192x8448, .f32⟩
  | .hbm, ⟨52, _⟩ => ⟨S4x8x8192x8448, .f32⟩
  | .hbm, ⟨53, _⟩ => ⟨S4x8x8192x8448, .f32⟩
  | .hbm, ⟨54, _⟩ => ⟨S4x8x8192x8448, .f32⟩
  | .hbm, ⟨55, _⟩ => ⟨S4x8x8192x128, .f32⟩
  | .hbm, ⟨56, _⟩ => ⟨S4x8x8192x128, .f32⟩
  | .hbm, ⟨57, _⟩ => ⟨S_, .f32⟩
  | .hbm, ⟨58, _⟩ => ⟨S4x8x8192, .f32⟩
  | .hbm, ⟨59, _⟩ => ⟨S4x8x8192x1, .f32⟩
  | .hbm, ⟨60, _⟩ => ⟨S_, .f32⟩
  | .hbm, ⟨61, _⟩ => ⟨S4x8x8192x1, .f32⟩
  | .hbm, ⟨62, _⟩ => ⟨S4x8x8192x1, .f32⟩
  | .hbm, ⟨63, _⟩ => ⟨S_, .f32⟩
  | .hbm, ⟨64, _⟩ => ⟨S4x8x8192x1, .f32⟩
  | .hbm, ⟨65, _⟩ => ⟨S4x8x8192x1, .f32⟩
  | .hbm, ⟨66, _⟩ => ⟨S4x8x8192x1, .f32⟩
  | .hbm, ⟨67, _⟩ => ⟨S4x8x8192x128, .f32⟩
  | .hbm, ⟨68, _⟩ => ⟨S4x8x8192x128, .f32⟩
  | .hbm, ⟨69, _⟩ => ⟨S128, .f32⟩
  | .hbm, ⟨70, _⟩ => ⟨S1x1x1x128, .f32⟩
  | .hbm, ⟨71, _⟩ => ⟨S4x8x8192x128, .f32⟩
  | .hbm, ⟨72, _⟩ => ⟨S4x8x8192x128, .f32⟩
  | .hbm, ⟨73, _⟩ => ⟨S_, .f32⟩
  | .hbm, ⟨74, _⟩ => ⟨S4x8x8192x128, .f32⟩
  | .hbm, ⟨75, _⟩ => ⟨S4x8x8192x128, .f32⟩
  | .hbm, ⟨76, _⟩ => ⟨S4x8x128x8192, .f32⟩
  | .hbm, ⟨77, _⟩ => ⟨S4x8x128x8192, .bf16⟩
  | _, _ => ⟨S4x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩

abbrev nD : Nat := 1
abbrev τ : Topo := Topo.v7x

variable {F : FTy → Type} [FloatOps F]
-- ==== Kernel2.lean ====
abbrev S4x8448x1024 : Shape := ⟨3, ![4, 8448, 1024]⟩
abbrev S4x2x8x1024 : Shape := ⟨4, ![4, 2, 8, 1024]⟩
abbrev S4x8x128x8192 : Shape := ⟨4, ![4, 8, 128, 8192]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S4x8192x1024 : Shape := ⟨3, ![4, 8192, 1024]⟩
abbrev S1x256x1024 : Shape := ⟨3, ![1, 256, 1024]⟩
abbrev S1x1x8x1024 : Shape := ⟨4, ![1, 1, 8, 1024]⟩
abbrev S1x8x128x512 : Shape := ⟨4, ![1, 8, 128, 512]⟩
abbrev S1x512x1024 : Shape := ⟨3, ![1, 512, 1024]⟩
abbrev S1x8x128x256 : Shape := ⟨4, ![1, 8, 128, 256]⟩
abbrev S8x128x256 : Shape := ⟨3, ![8, 128, 256]⟩
abbrev S256x1024 : Shape := ⟨2, ![256, 1024]⟩
abbrev S8x1024 : Shape := ⟨2, ![8, 1024]⟩
abbrev S1024x256 : Shape := ⟨2, ![1024, 256]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 8
  | .vmem => 14
  | .smem => 0
  | _ => 0

abbrev bufTy : (tb : Table) → Fin (tcTables nBuf tb) → BufTy
  | .hbm, ⟨0, _⟩ => ⟨S4x8448x1024, .f32⟩
  | .hbm, ⟨1, _⟩ => ⟨S4x2x8x1024, .f32⟩
  | .hbm, ⟨2, _⟩ => ⟨S4x8x128x8192, .bf16⟩
  | .hbm, ⟨3, _⟩ => ⟨S1024x1024, .bf16⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x8x1024, .f32⟩
  | .local _ .vmem, ⟨5, _⟩ => ⟨S1x1x8x1024, .f32⟩
  | .local _ .vmem, ⟨6, _⟩ => ⟨S1x8x128x512, .bf16⟩
  | .local _ .vmem, ⟨7, _⟩ => ⟨S1x8x128x512, .bf16⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S2816x1024, .bf16⟩
  | .local _ .vmem, ⟨12, _⟩ => ⟨S1x512x1024, .f32⟩
  | .local _ .vmem, ⟨13, _⟩ => ⟨S1x512x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![arg0.toNat, v2.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S4x8448x1024 : Shape := ⟨3, ![4, 8448, 1024]⟩
abbrev S4x2x8x1024 : Shape := ⟨4, ![4, 2, 8, 1024]⟩
abbrev S4x8x128x8192 : Shape := ⟨4, ![4, 8, 128, 8192]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S4x8192x1024 : Shape := ⟨3, ![4, 8192, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S4x1024x8192 : Shape := ⟨3, ![4, 1024, 8192]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩

abbrev nBuf : Space → Nat
  | .hbm => 70
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S4x2x8x1024, .f32⟩
  | .hbm, ⟨2, _⟩ => ⟨S4x8x128x8192, .bf16⟩
  | .hbm, ⟨3, _⟩ => ⟨S1024x1024, .bf16⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S4x8192x1024, .f32⟩
  | .hbm, ⟨8, _⟩ => ⟨S4x1x1x1024, .f32⟩
  | .hbm, ⟨9, _⟩ => ⟨S4x1024, .f32⟩
  | .hbm, ⟨10, _⟩ => ⟨S4x1x1024, .f32⟩
  | .hbm, ⟨11, _⟩ => ⟨S4x1x1x1024, .f32⟩
  | .hbm, ⟨12, _⟩ => ⟨S4x1024, .f32⟩
  | .hbm, ⟨13, _⟩ => ⟨S4x1x1024, .f32⟩
  | .hbm, ⟨14, _⟩ => ⟨S4x1x1x1024, .f32⟩
  | .hbm, ⟨15, _⟩ => ⟨S4x1024, .f32⟩
  | .hbm, ⟨16, _⟩ => ⟨S4x1x1024, .f32⟩
  | .hbm, ⟨17, _⟩ => ⟨S4x1x1x1024, .f32⟩
  | .hbm, ⟨18, _⟩ => ⟨S4x1024, .f32⟩
  | .hbm, ⟨19, _⟩ => ⟨S4x1x1024, .f32⟩
  | .hbm, ⟨20, _⟩ => ⟨S4x8x128x8192, .f32⟩
  | .hbm, ⟨21, _⟩ => ⟨S4x1024x8192, .f32⟩
  | .hbm, ⟨22, _⟩ => ⟨S4x8192x1024, .f32⟩
  | .hbm, ⟨23, _⟩ => ⟨S1024x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S_, .f32⟩
  | .hbm, ⟨33, _⟩ => ⟨S4x8192x1, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S4x8192x1, .f32⟩
  | .hbm, ⟨39, _⟩ => ⟨S4x8192x1024, .f32⟩
  | .hbm, ⟨40, _⟩ => ⟨S4x8192x1024, .f32⟩
  | .hbm, ⟨41, _⟩ => ⟨S1x1x1024, .f32⟩
  | .hbm, ⟨42, _⟩ => ⟨S4x8192x1024, .f32⟩
  | .hbm, ⟨43, _⟩ => ⟨S4x8192x1024, .f32⟩
  | .hbm, ⟨44, _⟩ => ⟨S_, .f32⟩
  | .hbm, ⟨45, _⟩ => ⟨S4x1x1024, .f32⟩
  | .hbm, ⟨46, _⟩ => ⟨S4x1x1024, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | .hbm, ⟨51, _⟩ => ⟨S1024x5632, .f32⟩
  | .hbm, ⟨52, _⟩ => ⟨S4x8192x5632, .f32⟩
  | .hbm, ⟨53, _⟩ => ⟨S4x8192x2816, .f32⟩
  | .hbm, ⟨54, _⟩ => ⟨S4x8192x2816, .f32⟩
  | .hbm, ⟨55, _⟩ => ⟨S4x8192x2816, .f32⟩
  | .hbm, ⟨56, _⟩ => ⟨S4x8192x2816, .f32⟩
  | .hbm, ⟨57, _⟩ => ⟨S_, .f32⟩
  | .hbm, ⟨58, _⟩ => ⟨S4x8192x2816, .f32⟩
  | .hbm, ⟨59, _⟩ => ⟨S4x8192x2816, .f32⟩
  | .hbm, ⟨60, _⟩ => ⟨S_, .f32⟩
  | .hbm, ⟨61, _⟩ => ⟨S4x8192x2816, .f32⟩
  | .hbm, ⟨62, _⟩ => ⟨S4x8192x2816, .f32⟩
  | .hbm, ⟨63, _⟩ => ⟨S4x8192x2816, .f32⟩
  | .hbm, ⟨64, _⟩ => ⟨S4x8192x2816, .f32⟩
  | .hbm, ⟨65, _⟩ => ⟨S2816x1024, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S4x8192x1024, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel3.lean ====
abbrev S4x256x1024 : Shape := ⟨3, ![4, 256, 1024]⟩
abbrev S4x8192x1024 : Shape := ⟨3, ![4, 8192, 1024]⟩
abbrev S4x2x8x1024 : Shape := ⟨4, ![4, 2, 8, 1024]⟩
abbrev S4x8x64x8448 : Shape := ⟨4, ![4, 8, 64, 8448]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1024x2048 : Shape := ⟨2, ![1024, 2048]⟩
abbrev S1x2048 : Shape := ⟨2, ![1, 2048]⟩
abbrev S8448x128 : Shape := ⟨2, ![8448, 128]⟩
abbrev S4x4 : Shape := ⟨2, ![4, 4]⟩
abbrev S_ : Shape := ⟨0, ![]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S4x8448x1024 : Shape := ⟨3, ![4, 8448, 1024]⟩
abbrev S4x8x8448x128 : Shape := ⟨4, ![4, 8, 8448, 128]⟩
abbrev S4x8x144x8448 : Shape := ⟨4, ![4, 8, 144, 8448]⟩
abbrev S1x256x1024 : Shape := ⟨3, ![1, 256, 1024]⟩
abbrev S1x1x8x1024 : Shape := ⟨4, ![1, 1, 8, 1024]⟩
abbrev S1x8x64x256 : Shape := ⟨4, ![1, 8, 64, 256]⟩
abbrev S256x128 : Shape := ⟨2, ![256, 128]⟩
abbrev S1x8x256x128 : Shape := ⟨4, ![1, 8, 256, 128]⟩
abbrev S1x8x144x256 : Shape := ⟨4, ![1, 8, 144, 256]⟩
abbrev S8x64x256 : Shape := ⟨3, ![8, 64, 256]⟩
abbrev S256x1024 : Shape := ⟨2, ![256, 1024]⟩
abbrev S8x1024 : Shape := ⟨2, ![8, 1024]⟩
abbrev S512x256 : Shape := ⟨2, ![512, 256]⟩
abbrev S512x1024 : Shape := ⟨2, ![512, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩
abbrev S1x1x1x1024 : Shape := ⟨4, ![1, 1, 1, 1024]⟩
abbrev S256x2048 : Shape := ⟨2, ![256, 2048]⟩
abbrev S1x256 : Shape := ⟨2, ![1, 256]⟩
abbrev S1x256x128 : Shape := ⟨3, ![1, 256, 128]⟩
abbrev S1x1x256x128 : Shape := ⟨4, ![1, 1, 256, 128]⟩
abbrev S1024x256 : Shape := ⟨2, ![1024, 256]⟩
abbrev S16x256 : Shape := ⟨2, ![16, 256]⟩
abbrev S128x256 : Shape := ⟨2, ![128, 256]⟩
abbrev S1x1x128x256 : Shape := ⟨4, ![1, 1, 128, 256]⟩
abbrev S1x1x16x256 : Shape := ⟨4, ![1, 1, 16, 256]⟩

abbrev nBuf : Space → Nat
  | .hbm => 36
  | .vmem => 33
  | .smem => 0
  | _ => 0

abbrev bufTy : (tb : Table) → Fin (tcTables nBuf tb) → BufTy
  | .hbm, ⟨0, _⟩ => ⟨S4x256x1024, .f32⟩
  | .hbm, ⟨1, _⟩ => ⟨S4x8192x1024, .f32⟩
  | .hbm, ⟨2, _⟩ => ⟨S4x2x8x1024, .f32⟩
  | .hbm, ⟨3, _⟩ => ⟨S4x8x64x8448, .bf16⟩
  | .hbm, ⟨4, _⟩ => ⟨S4x8x64x8448, .bf16⟩
  | .hbm, ⟨5, _⟩ => ⟨S1024x1024, .bf16⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S4x2x8x1024, .f32⟩
  | .hbm, ⟨10, _⟩ => ⟨S1x1024, .f32⟩
  | .hbm, ⟨11, _⟩ => ⟨S1024x2048, .bf16⟩
  | .hbm, ⟨12, _⟩ => ⟨S1024x1024, .bf16⟩
  | .hbm, ⟨13, _⟩ => ⟨S1x2048, .f32⟩
  | .hbm, ⟨14, _⟩ => ⟨S8448x128, .f32⟩
  | .hbm, ⟨15, _⟩ => ⟨S8448x128, .f32⟩
  | .hbm, ⟨16, _⟩ => ⟨S4x4, .i32⟩
  | .hbm, ⟨17, _⟩ => ⟨S4x4, .i32⟩
  | .hbm, ⟨18, _⟩ => ⟨S_, .i32⟩
  | .hbm, ⟨19, _⟩ => ⟨S4x4, .i32⟩
  | .hbm, ⟨20, _⟩ => ⟨S4x4, .i32⟩
  | .hbm, ⟨21, _⟩ => ⟨S4x4, .i1⟩
  | .hbm, ⟨22, _⟩ => ⟨S4x4, .f32⟩
  | .hbm, ⟨23, _⟩ => ⟨S_, .f32⟩
  | .hbm, ⟨24, _⟩ => ⟨S64x64, .f32⟩
  | .hbm, ⟨25, _⟩ => ⟨S4x1x4x1, .f32⟩
  | .hbm, ⟨26, _⟩ => ⟨S1x64x1x64, .f32⟩
  | .hbm, ⟨27, _⟩ => ⟨S4x64x4x64, .f32⟩
  | .hbm, ⟨28, _⟩ => ⟨S4x64x4x64, .f32⟩
  | .hbm, ⟨29, _⟩ => ⟨S4x64x4x64, .f32⟩
  | .hbm, ⟨30, _⟩ => ⟨S256x256, .f32⟩
  | .hbm, ⟨31, _⟩ => ⟨S256x256, .bf16⟩
  | .hbm, ⟨32, _⟩ => ⟨S4x8448x1024, .f32⟩
  | .hbm, ⟨33, _⟩ => ⟨S4x8448x1024, .bf16⟩
  | .hbm, ⟨34, _⟩ => ⟨S4x8x8448x128, .bf16⟩
  | .hbm, ⟨35, _⟩ => ⟨S4x8x144x8448, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x8x1024, .f32⟩
  | .local _ .vmem, ⟨5, _⟩ => ⟨S1x1x8x1024, .f32⟩
  | .local _ .vmem, ⟨6, _⟩ => ⟨S1x8x64x256, .bf16⟩
  | .local _ .vmem, ⟨7, _⟩ => ⟨S1x8x64x256, .bf16⟩
  | .local _ .vmem, ⟨8, _⟩ => ⟨S1x8x64x256, .bf16⟩
  | .local _ .vmem, ⟨9, _⟩ => ⟨S1x8x64x256, .bf16⟩
  | .local _ .vmem, ⟨10, _⟩ => ⟨S1024x1024, .bf16⟩
  | .local _ .vmem, ⟨11, _⟩ => ⟨S1x1024, .f32⟩
  | .local _ .vmem, ⟨12, _⟩ => ⟨S1024x5632, .bf16⟩
  | .local _ .vmem, ⟨13, _⟩ => ⟨S2816x1024, .bf16⟩
  | .local _ .vmem, ⟨14, _⟩ => ⟨S1x1x8x1024, .f32⟩
  | .local _ .vmem, ⟨15, _⟩ => ⟨S1x1x8x1024, .f32⟩
  | .local _ .vmem, ⟨16, _⟩ => ⟨S1x1024, .f32⟩
  | .local _ .vmem, ⟨17, _⟩ => ⟨S1024x2048, .bf16⟩
  | .local _ .vmem, ⟨18, _⟩ => ⟨S1024x1024, .bf16⟩
  | .local _ .vmem, ⟨19, _⟩ => ⟨S1x2048, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x256, .bf16⟩
  | .local _ .vmem, ⟨25, _⟩ => ⟨S1x256x1024, .f32⟩
  | .local _ .vmem, ⟨26, _⟩ => ⟨S1x256x1024, .f32⟩
  | .local _ .vmem, ⟨27, _⟩ => ⟨S1x256x1024, .bf16⟩
  | .local _ .vmem, ⟨28, _⟩ => ⟨S1x256x1024, .bf16⟩
  | .local _ .vmem, ⟨29, _⟩ => ⟨S1x8x256x128, .bf16⟩
  | .local _ .vmem, ⟨30, _⟩ => ⟨S1x8x256x128, .bf16⟩
  | .local _ .vmem, ⟨31, _⟩ => ⟨S1x8x144x256, .bf16⟩
  | .local _ .vmem, ⟨32, _⟩ => ⟨S1x8x144x256, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v7 : Ref sig .tc := ⟨.hbm, 30, rfl⟩
abbrev main_v8 : Ref sig .tc := ⟨.hbm, 31, rfl⟩
abbrev main_v9_0 : Ref sig .tc := ⟨.hbm, 32, rfl⟩
abbrev main_v9_1 : Ref sig .tc := ⟨.hbm, 33, rfl⟩
abbrev main_v9_2 : Ref sig .tc := ⟨.hbm, 34, rfl⟩
abbrev main_v9_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.minsi v0 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x144x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference3Ideal.lean ====
abbrev S4x256x1024 : Shape := ⟨3, ![4, 256, 1024]⟩
abbrev S4x8192x1024 : Shape := ⟨3, ![4, 8192, 1024]⟩
abbrev S4x2x8x1024 : Shape := ⟨4, ![4, 2, 8, 1024]⟩
abbrev S4x8x64x8448 : Shape := ⟨4, ![4, 8, 64, 8448]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1024x2048 : Shape := ⟨2, ![1024, 2048]⟩
abbrev S1x2048 : Shape := ⟨2, ![1, 2048]⟩
abbrev S8448x128 : Shape := ⟨2, ![8448, 128]⟩
abbrev S4x16x64x8448 : Shape := ⟨4, ![4, 16, 64, 8448]⟩
abbrev S4x1024x8448 : Shape := ⟨3, ![4, 1024, 8448]⟩
abbrev S4x8448x1024 : Shape := ⟨3, ![4, 8448, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S_ : Shape := ⟨0, ![]⟩
abbrev S4x8448 : Shape := ⟨2, ![4, 8448]⟩
abbrev S4x8448x1 : Shape := ⟨3, ![4, 8448, 1]⟩
abbrev S1x1x1024 : Shape := ⟨3, ![1, 1, 1024]⟩
abbrev S4x8448x5632 : Shape := ⟨3, ![4, 8448, 5632]⟩
abbrev S4x8448x2816 : Shape := ⟨3, ![4, 8448, 2816]⟩
abbrev S4x8448x2048 : Shape := ⟨3, ![4, 8448, 2048]⟩
abbrev S4x8448x8x2x64 : Shape := ⟨5, ![4, 8448, 8, 2, 64]⟩
abbrev S4x8448x8x2 : Shape := ⟨4, ![4, 8448, 8, 2]⟩
abbrev S4x8448x8x2x1 : Shape := ⟨5, ![4, 8448, 8, 2, 1]⟩
abbrev S8x2x64 : Shape := ⟨3, ![8, 2, 64]⟩
abbrev S1x1x8x2x64 : Shape := ⟨5, ![1, 1, 8, 2, 64]⟩
abbrev S4x8448x8x2x32 : Shape := ⟨5, ![4, 8448, 8, 2, 32]⟩
abbrev S8448x1x2x64 : Shape := ⟨4, ![8448, 1, 2, 64]⟩
abbrev S1x8448x1x2x64 : Shape := ⟨5, ![1, 8448, 1, 2, 64]⟩
abbrev S4x8x128x8448 : Shape := ⟨4, ![4, 8, 128, 8448]⟩
abbrev S4x8x1x8448 : Shape := ⟨4, ![4, 8, 1, 8448]⟩
abbrev S4x8x15x8448 : Shape := ⟨4, ![4, 8, 15, 8448]⟩
abbrev S4x8x144x8448 : Shape := ⟨4, ![4, 8, 144, 8448]⟩
abbrev S4x8448x8x128 : Shape := ⟨4, ![4, 8448, 8, 128]⟩
abbrev S4x8x8448x128 : Shape := ⟨4, ![4, 8, 8448, 128]⟩

abbrev nBuf : Space → Nat
  | .hbm => 223
  | .vmem => 0
  | .smem => 0
  | _ => 0

abbrev hbmTy0_0 (i : Nat) : BufTy := match i % 128 with
  | 0 => ⟨S4x256x1024, .f32⟩
  | 1 => ⟨S4x8192x1024, .f32⟩
  | 2 => ⟨S4x2x8x1024, .f32⟩
  | 3 => ⟨S4x8x64x8448, .bf16⟩
  | 4 => ⟨S4x8x64x8448, .bf16⟩
  | 5 => ⟨S1024x1024, .bf16⟩
  | 6 => ⟨S1x1024, .f32⟩
  | 7 => ⟨S1024x5632, .bf16⟩
  | 8 => ⟨S2816x1024, .bf16⟩
  | 9 => ⟨S4x2x8x1024, .f32⟩
  | 10 => ⟨S1x1024, .f32⟩
  | 11 => ⟨S1024x2048, .bf16⟩
  | 12 => ⟨S1024x1024, .bf16⟩
  | 13 => ⟨S1x2048, .f32⟩
  | 14 => ⟨S8448x128, .f32⟩
  | 15 => ⟨S8448x128, .f32⟩
  | 16 => ⟨S4x16x64x8448, .bf16⟩
  | 17 => ⟨S4x16x64x8448, .f32⟩
  | 18 => ⟨S4x1024x8448, .f32⟩
  | 19 => ⟨S4x8448x1024, .f32⟩
  | 20 => ⟨S4x8448x1024, .f32⟩
  | 21 => ⟨S4x1x1x1024, .f32⟩
  | 22 => ⟨S4x1024, .f32⟩
  | 23 => ⟨S4x1x1024, .f32⟩
  | 24 => ⟨S4x256x1024, .f32⟩
  | 25 => ⟨S4x1x1x1024, .f32⟩
  | 26 => ⟨S4x1024, .f32⟩
  | 27 => ⟨S4x1x1024, .f32⟩
  | 28 => ⟨S4x8192x1024, .f32⟩
  | 29 => ⟨S4x8448x1024, .f32⟩
  | 30 => ⟨S1024x1024, .f32⟩
  | 31 => ⟨S4x8448x1024, .f32⟩
  | 32 => ⟨S4x8448x1024, .f32⟩
  | 33 => ⟨S4x8448x1024, .f32⟩
  | 34 => ⟨S4x1x1x1024, .f32⟩
  | 35 => ⟨S4x1024, .f32⟩
  | 36 => ⟨S4x1x1024, .f32⟩
  | 37 => ⟨S4x256x1024, .f32⟩
  | 38 => ⟨S4x1x1x1024, .f32⟩
  | 39 => ⟨S4x1024, .f32⟩
  | 40 => ⟨S4x1x1024, .f32⟩
  | 41 => ⟨S4x8192x1024, .f32⟩
  | 42 => ⟨S4x8448x1024, .f32⟩
  | 43 => ⟨S4x1x1x1024, .f32⟩
  | 44 => ⟨S4x1024, .f32⟩
  | 45 => ⟨S4x1x1024, .f32⟩
  | 46 => ⟨S4x256x1024, .f32⟩
  | 47 => ⟨S4x1x1x1024, .f32⟩
  | 48 => ⟨S4x1024, .f32⟩
  | 49 => ⟨S4x1x1024, .f32⟩
  | 50 => ⟨S4x8192x1024, .f32⟩
  | 51 => ⟨S4x8448x1024, .f32⟩
  | 52 => ⟨S4x8448x1024, .f32⟩
  | 53 => ⟨S_, .f32⟩
  | 54 => ⟨S4x8448, .f32⟩
  | 55 => ⟨S4x8448x1, .f32⟩
  | 56 => ⟨S_, .f32⟩
  | 57 => ⟨S4x8448x1, .f32⟩
  | 58 => ⟨S4x8448x1, .f32⟩
  | 59 => ⟨S_, .f32⟩
  | 60 => ⟨S4x8448x1, .f32⟩
  | 61 => ⟨S4x8448x1, .f32⟩
  | 62 => ⟨S4x8448x1, .f32⟩
  | 63 => ⟨S4x8448x1024, .f32⟩
  | 64 => ⟨S4x8448x1024, .f32⟩
  | 65 => ⟨S1x1x1024, .f32⟩
  | 66 => ⟨S4x8448x1024, .f32⟩
  | 67 => ⟨S4x8448x1024, .f32⟩
  | 68 => ⟨S_, .f32⟩
  | 69 => ⟨S4x8448x1024, .f32⟩
  | 70 => ⟨S4x8448x1024, .f32⟩
  | 71 => ⟨S4x8448x1024, .f32⟩
  | 72 => ⟨S4x8448x1024, .f32⟩
  | 73 => ⟨S1024x5632, .f32⟩
  | 74 => ⟨S4x8448x5632, .f32⟩
  | 75 => ⟨S4x8448x2816, .f32⟩
  | 76 => ⟨S4x8448x2816, .f32⟩
  | 77 => ⟨S4x1x1x1024, .f32⟩
  | 78 => ⟨S4x1024, .f32⟩
  | 79 => ⟨S4x1x1024, .f32⟩
  | 80 => ⟨S4x256x1024, .f32⟩
  | 81 => ⟨S4x1x1x1024, .f32⟩
  | 82 => ⟨S4x1024, .f32⟩
  | 83 => ⟨S4x1x1024, .f32⟩
  | 84 => ⟨S4x8192x1024, .f32⟩
  | 85 => ⟨S4x8448x1024, .f32⟩
  | 86 => ⟨S4x8448x2816, .f32⟩
  | 87 => ⟨S4x8448x2816, .f32⟩
  | 88 => ⟨S_, .f32⟩
  | 89 => ⟨S4x8448x2816, .f32⟩
  | 90 => ⟨S4x8448x2816, .f32⟩
  | 91 => ⟨S_, .f32⟩
  | 92 => ⟨S4x8448x2816, .f32⟩
  | 93 => ⟨S4x8448x2816, .f32⟩
  | 94 => ⟨S4x8448x2816, .f32⟩
  | 95 => ⟨S4x8448x2816, .f32⟩
  | 96 => ⟨S2816x1024, .f32⟩
  | 97 => ⟨S4x8448x1024, .f32⟩
  | 98 => ⟨S4x8448x1024, .f32⟩
  | 99 => ⟨S4x8448x1024, .f32⟩
  | 100 => ⟨S4x1x1x1024, .f32⟩
  | 101 => ⟨S4x1024, .f32⟩
  | 102 => ⟨S4x1x1024, .f32⟩
  | 103 => ⟨S4x256x1024, .f32⟩
  | 104 => ⟨S4x1x1x1024, .f32⟩
  | 105 => ⟨S4x1024, .f32⟩
  | 106 => ⟨S4x1x1024, .f32⟩
  | 107 => ⟨S4x8192x1024, .f32⟩
  | 108 => ⟨S4x8448x1024, .f32⟩
  | 109 => ⟨S4x1x1x1024, .f32⟩
  | 110 => ⟨S4x1024, .f32⟩
  | 111 => ⟨S4x1x1024, .f32⟩
  | 112 => ⟨S4x256x1024, .f32⟩
  | 113 => ⟨S4x1x1x1024, .f32⟩
  | 114 => ⟨S4x1024, .f32⟩
  | 115 => ⟨S4x1x1024, .f32⟩
  | 116 => ⟨S4x8192x1024, .f32⟩
  | 117 => ⟨S4x8448x1024, .f32⟩
  | 118 => ⟨S4x8448x1024, .f32⟩
  | 119 => ⟨S_, .f32⟩
  | 120 => ⟨S4x8448, .f32⟩
  | 121 => ⟨S4x8448x1, .f32⟩
  | 122 => ⟨S_, .f32⟩
  | 123 => ⟨S4x8448x1, .f32⟩
  | 124 => ⟨S4x8448x1, .f32⟩
  | 125 => ⟨S_, .f32⟩
  | 126 => ⟨S4x8448x1, .f32⟩
  | 127 => ⟨S4x8448x1, .f32⟩
  | _ => ⟨S4x256x1024, .f32⟩

abbrev hbmTy0_1 (i : Nat) : BufTy := match i % 128 with
  | 0 => ⟨S4x8448x1, .f32⟩
  | 1 => ⟨S4x8448x1024, .f32⟩
  | 2 => ⟨S4x8448x1024, .f32⟩
  | 3 => ⟨S1x1x1024, .f32⟩
  | 4 => ⟨S4x8448x1024, .f32⟩
  | 5 => ⟨S4x8448x1024, .f32⟩
  | 6 => ⟨S_, .f32⟩
  | 7 => ⟨S4x8448x1024, .f32⟩
  | 8 => ⟨S4x8448x1024, .f32⟩
  | 9 => ⟨S4x8448x1024, .f32⟩
  | 10 => ⟨S4x8448x1024, .f32⟩
  | 11 => ⟨S1024x2048, .f32⟩
  | 12 => ⟨S4x8448x2048, .f32⟩
  | 13 => ⟨S4x8448x1024, .f32⟩
  | 14 => ⟨S1x1024, .f32⟩
  | 15 => ⟨S4x8448x8x2x64, .f32⟩
  | 16 => ⟨S4x8448x8x2x64, .f32⟩
  | 17 => ⟨S_, .f32⟩
  | 18 => ⟨S4x8448x8x2, .f32⟩
  | 19 => ⟨S4x8448x8x2x1, .f32⟩
  | 20 => ⟨S_, .f32⟩
  | 21 => ⟨S4x8448x8x2x1, .f32⟩
  | 22 => ⟨S4x8448x8x2x1, .f32⟩
  | 23 => ⟨S_, .f32⟩
  | 24 => ⟨S4x8448x8x2x1, .f32⟩
  | 25 => ⟨S4x8448x8x2x1, .f32⟩
  | 26 => ⟨S4x8448x8x2x1, .f32⟩
  | 27 => ⟨S4x8448x8x2x64, .f32⟩
  | 28 => ⟨S4x8448x8x2x64, .f32⟩
  | 29 => ⟨S8x2x64, .f32⟩
  | 30 => ⟨S1x1x8x2x64, .f32⟩
  | 31 => ⟨S4x8448x8x2x64, .f32⟩
  | 32 => ⟨S4x8448x8x2x64, .f32⟩
  | 33 => ⟨S4x8448x8x2x32, .f32⟩
  | 34 => ⟨S4x8448x8x2x32, .f32⟩
  | 35 => ⟨S4x8448x8x2x64, .f32⟩
  | 36 => ⟨S8448x1x2x64, .f32⟩
  | 37 => ⟨S1x8448x1x2x64, .f32⟩
  | 38 => ⟨S4x8448x8x2x64, .f32⟩
  | 39 => ⟨S4x8448x8x2x64, .f32⟩
  | 40 => ⟨S8448x1x2x64, .f32⟩
  | 41 => ⟨S1x8448x1x2x64, .f32⟩
  | 42 => ⟨S4x8448x8x2x64, .f32⟩
  | 43 => ⟨S4x8448x8x2x64, .f32⟩
  | 44 => ⟨S4x8448x8x2x64, .f32⟩
  | 45 => ⟨S_, .f32⟩
  | 46 => ⟨S4x8448x8x2x64, .f32⟩
  | 47 => ⟨S4x8448x8x2x64, .f32⟩
  | 48 => ⟨S4x8448x1024, .f32⟩
  | 49 => ⟨S1x1024, .f32⟩
  | 50 => ⟨S4x8448x8x2x64, .f32⟩
  | 51 => ⟨S4x8448x8x2x64, .f32⟩
  | 52 => ⟨S_, .f32⟩
  | 53 => ⟨S4x8448x8x2, .f32⟩
  | 54 => ⟨S4x8448x8x2x1, .f32⟩
  | 55 => ⟨S_, .f32⟩
  | 56 => ⟨S4x8448x8x2x1, .f32⟩
  | 57 => ⟨S4x8448x8x2x1, .f32⟩
  | 58 => ⟨S_, .f32⟩
  | 59 => ⟨S4x8448x8x2x1, .f32⟩
  | 60 => ⟨S4x8448x8x2x1, .f32⟩
  | 61 => ⟨S4x8448x8x2x1, .f32⟩
  | 62 => ⟨S4x8448x8x2x64, .f32⟩
  | 63 => ⟨S4x8448x8x2x64, .f32⟩
  | 64 => ⟨S8x2x64, .f32⟩
  | 65 => ⟨S1x1x8x2x64, .f32⟩
  | 66 => ⟨S4x8448x8x2x64, .f32⟩
  | 67 => ⟨S4x8448x8x2x64, .f32⟩
  | 68 => ⟨S4x8448x8x2x32, .f32⟩
  | 69 => ⟨S4x8448x8x2x32, .f32⟩
  | 70 => ⟨S4x8448x8x2x64, .f32⟩
  | 71 => ⟨S8448x1x2x64, .f32⟩
  | 72 => ⟨S1x8448x1x2x64, .f32⟩
  | 73 => ⟨S4x8448x8x2x64, .f32⟩
  | 74 => ⟨S4x8448x8x2x64, .f32⟩
  | 75 => ⟨S8448x1x2x64, .f32⟩
  | 76 => ⟨S1x8448x1x2x64, .f32⟩
  | 77 => ⟨S4x8448x8x2x64, .f32⟩
  | 78 => ⟨S4x8448x8x2x64, .f32⟩
  | 79 => ⟨S4x8448x8x2x64, .f32⟩
  | 80 => ⟨S1024x1024, .f32⟩
  | 81 => ⟨S4x8448x1024, .f32⟩
  | 82 => ⟨S4x1024x8448, .f32⟩
  | 83 => ⟨S4x8x128x8448, .f32⟩
  | 84 => ⟨S_, .f32⟩
  | 85 => ⟨S4x8x1x8448, .f32⟩
  | 86 => ⟨S_, .f32⟩
  | 87 => ⟨S4x8x15x8448, .f32⟩
  | 88 => ⟨S4x8x144x8448, .f32⟩
  | 89 => ⟨S4x8448x8x128, .f32⟩
  | 90 => ⟨S4x8x8448x128, .f32⟩
  | 91 => ⟨S4x8448x1024, .f32⟩
  | 92 => ⟨S4x8448x1024, .bf16⟩
  | 93 => ⟨S4x8x8448x128, .bf16⟩
  | 94 => ⟨S4x8x144x8448, .bf16⟩
  | _ => ⟨S4x256x1024, .f32⟩

abbrev hbmTy (i : Nat) : BufTy := match i / 128 with
  | 0 => hbmTy0_0 i
  | 1 => hbmTy0_1 i
  | _ => ⟨S4x256x1024, .f32⟩

abbrev bufTy : (tb : Table) → Fin (tcTables nBuf tb) → BufTy
  | .hbm, ⟨i, _⟩ => hbmTy i
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst : Ref sig .tc := ⟨.hbm, 53, rfl⟩
abbrev main_v37 : Ref sig .tc := ⟨.hbm, 54, rfl⟩
abbrev main_v38 : Ref sig .tc := ⟨.hbm, 55, rfl⟩
abbrev main_cst_0 : Ref sig .tc := ⟨.hbm, 56, rfl⟩
abbrev main_v39 : Ref sig .tc := ⟨.hbm, 57, rfl⟩
abbrev main_v40 : Ref sig .tc := ⟨.hbm, 58, rfl⟩
abbrev main_cst_1 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_2 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_call0_v0 : Ref sig .tc := ⟨.hbm, 86, rfl⟩
abbrev main_call0_v1 : Ref sig .tc := ⟨.hbm, 87, rfl⟩
abbrev main_call0_cst : Ref sig .tc := ⟨.hbm, 88, rfl⟩
abbrev main_call0_v2 : Ref sig .tc := ⟨.hbm, 89, rfl⟩
abbrev main_call0_v3 : Ref sig .tc := ⟨.hbm, 90, rfl⟩
abbrev main_call0_cst_0 : Ref sig .tc := ⟨.hbm, 91, rfl⟩
abbrev main_call0_v4 : Ref sig .tc := ⟨.hbm, 92, rfl⟩
abbrev main_call0_v5 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_3 : Ref sig .tc := ⟨.hbm, 119, rfl⟩
abbrev main_v91 : Ref sig .tc := ⟨.hbm, 120, rfl⟩
abbrev main_v92 : Ref sig .tc := ⟨.hbm, 121, rfl⟩
abbrev main_cst_4 : Ref sig .tc := ⟨.hbm, 122, rfl⟩
abbrev main_v93 : Ref sig .tc := ⟨.hbm, 123, rfl⟩
abbrev main_v94 : Ref sig .tc := ⟨.hbm, 124, rfl⟩
abbrev main_cst_5 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_6 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_7 : Ref sig .tc := ⟨.hbm, 145, rfl⟩
abbrev main_v113 : Ref sig .tc := ⟨.hbm, 146, rfl⟩
abbrev main_v114 : Ref sig .tc := ⟨.hbm, 147, rfl⟩
abbrev main_cst_8 : Ref sig .tc := ⟨.hbm, 148, rfl⟩
abbrev main_v115 : Ref sig .tc := ⟨.hbm, 149, rfl⟩
abbrev main_v116 : Ref sig .tc := ⟨.hbm, 150, rfl⟩
abbrev main_cst_9 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_cst_10 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_11 : Ref sig .tc := ⟨.hbm, 180, rfl⟩
abbrev main_v144 : Ref sig .tc := ⟨.hbm, 181, rfl⟩
abbrev main_v145 : Ref sig .tc := ⟨.hbm, 182, rfl⟩
abbrev main_cst_12 : Ref sig .tc := ⟨.hbm, 183, rfl⟩
abbrev main_v146 : Ref sig .tc := ⟨.hbm, 184, rfl⟩
abbrev main_v147 : Ref sig .tc := ⟨.hbm, 185, rfl⟩
abbrev main_cst_13 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_cst_14 : Ref sig .tc := ⟨.hbm, 212, rfl⟩
abbrev main_v173 : Ref sig .tc := ⟨.hbm, 213, rfl⟩
abbrev main_cst_15 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩

abbrev nD : Nat := 1
abbrev τ : Topo := Topo.v7x

variable {F : FTy → Type} [FloatOps F]
-- ==== Kernel4.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x6144x8, .f32⟩
  | .hbm, ⟨13, _⟩ => ⟨S2x8x6144, .f32⟩
  | .hbm, ⟨14, _⟩ => ⟨S2x1x6144, .f32⟩
  | .hbm, ⟨15, _⟩ => ⟨S2x8x6144, .f32⟩
  | .hbm, ⟨16, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel5.lean ====
abbrev S4x256x1024 : Shape := ⟨3, ![4, 256, 1024]⟩
abbrev S4x8192x1024 : Shape := ⟨3, ![4, 8192, 1024]⟩
abbrev S4x2x8x1024 : Shape := ⟨4, ![4, 2, 8, 1024]⟩
abbrev S1x1024 : Shape := ⟨2, ![1, 1024]⟩
abbrev S1024x1280 : Shape := ⟨2, ![1024, 1280]⟩
abbrev S256x1024 : Shape := ⟨2, ![256, 1024]⟩
abbrev S1x1280 : Shape := ⟨2, ![1, 1280]⟩
abbrev S8448x128 : Shape := ⟨2, ![8448, 128]⟩
abbrev S4x4 : Shape := ⟨2, ![4, 4]⟩
abbrev S_ : Shape := ⟨0, ![]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S4x8448x1024 : Shape := ⟨3, ![4, 8448, 1024]⟩
abbrev S4x4x8448x64 : Shape := ⟨4, ![4, 4, 8448, 64]⟩
abbrev S4x4x80x8448 : Shape := ⟨4, ![4, 4, 80, 8448]⟩
abbrev S1x256x1024 : Shape := ⟨3, ![1, 256, 1024]⟩
abbrev S1x1x8x1024 : Shape := ⟨4, ![1, 1, 8, 1024]⟩
abbrev S256x128 : Shape := ⟨2, ![256, 128]⟩
abbrev S1x4x256x64 : Shape := ⟨4, ![1, 4, 256, 64]⟩
abbrev S1x4x80x256 : Shape := ⟨4, ![1, 4, 80, 256]⟩
abbrev S1x1x1x1024 : Shape := ⟨4, ![1, 1, 1, 1024]⟩
abbrev S256 : Shape := ⟨1, ![256]⟩
abbrev S256x1 : Shape := ⟨2, ![256, 1]⟩
abbrev S256x1280 : Shape := ⟨2, ![256, 1280]⟩
abbrev S1x256 : Shape := ⟨2, ![1, 256]⟩
abbrev S1x256x128 : Shape := ⟨3, ![1, 256, 128]⟩
abbrev S256x64 : Shape := ⟨2, ![256, 64]⟩
abbrev S1x1x256x64 : Shape := ⟨4, ![1, 1, 256, 64]⟩
abbrev S16x256 : Shape := ⟨2, ![16, 256]⟩
abbrev S64x256 : Shape := ⟨2, ![64, 256]⟩
abbrev S1x1x64x256 : Shape := ⟨4, ![1, 1, 64, 256]⟩
abbrev S1x1x16x256 : Shape := ⟨4, ![1, 1, 16, 256]⟩

abbrev nBuf : Space → Nat
  | .hbm => 28
  | .vmem => 21
  | .smem => 0
  | _ => 0

abbrev bufTy : (tb : Table) → Fin (tcTables nBuf tb) → BufTy
  | .hbm, ⟨0, _⟩ => ⟨S4x256x1024, .f32⟩
  | .hbm, ⟨1, _⟩ => ⟨S4x8192x1024, .f32⟩
  | .hbm, ⟨2, _⟩ => ⟨S4x2x8x1024, .f32⟩
  | .hbm, ⟨3, _⟩ => ⟨S1x1024, .f32⟩
  | .hbm, ⟨4, _⟩ => ⟨S1024x1280, .bf16⟩
  | .hbm, ⟨5, _⟩ => ⟨S256x1024, .bf16⟩
  | .hbm, ⟨6, _⟩ => ⟨S1x1280, .f32⟩
  | .hbm, ⟨7, _⟩ => ⟨S8448x128, .f32⟩
  | .hbm, ⟨8, _⟩ => ⟨S8448x128, .f32⟩
  | .hbm, ⟨9, _⟩ => ⟨S4x4, .i32⟩
  | .hbm, ⟨10, _⟩ => ⟨S4x4, .i32⟩
  | .hbm, ⟨11, _⟩ => ⟨S_, .i32⟩
  | .hbm, ⟨12, _⟩ => ⟨S4x4, .i32⟩
  | .hbm, ⟨13, _⟩ => ⟨S4x4, .i32⟩
  | .hbm, ⟨14, _⟩ => ⟨S4x4, .i1⟩
  | .hbm, ⟨15, _⟩ => ⟨S4x4, .f32⟩
  | .hbm, ⟨16, _⟩ => ⟨S_, .f32⟩
  | .hbm, ⟨17, _⟩ => ⟨S64x64, .f32⟩
  | .hbm, ⟨18, _⟩ => ⟨S4x1x4x1, .f32⟩
  | .hbm, ⟨19, _⟩ => ⟨S1x64x1x64, .f32⟩
  | .hbm, ⟨20, _⟩ => ⟨S4x64x4x64, .f32⟩
  | .hbm, ⟨21, _⟩ => ⟨S4x64x4x64, .f32⟩
  | .hbm, ⟨22, _⟩ => ⟨S4x64x4x64, .f32⟩
  | .hbm, ⟨23, _⟩ => ⟨S256x256, .f32⟩
  | .hbm, ⟨24, _⟩ => ⟨S256x256, .bf16⟩
  | .hbm, ⟨25, _⟩ => ⟨S4x8448x1024, .bf16⟩
  | .hbm, ⟨26, _⟩ => ⟨S4x4x8448x64, .bf16⟩
  | .hbm, ⟨27, _⟩ => ⟨S4x4x80x8448, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x8x1024, .f32⟩
  | .local _ .vmem, ⟨5, _⟩ => ⟨S1x1x8x1024, .f32⟩
  | .local _ .vmem, ⟨6, _⟩ => ⟨S1x1024, .f32⟩
  | .local _ .vmem, ⟨7, _⟩ => ⟨S1024x1280, .bf16⟩
  | .local _ .vmem, ⟨8, _⟩ => ⟨S256x1024, .bf16⟩
  | .local _ .vmem, ⟨9, _⟩ => ⟨S1x1280, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x256, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x4x256x64, .bf16⟩
  | .local _ .vmem, ⟨18, _⟩ => ⟨S1x4x256x64, .bf16⟩
  | .local _ .vmem, ⟨19, _⟩ => ⟨S1x4x80x256, .bf16⟩
  | .local _ .vmem, ⟨20, _⟩ => ⟨S1x4x80x256, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v7 : Ref sig .tc := ⟨.hbm, 23, rfl⟩
abbrev main_v8 : Ref sig .tc := ⟨.hbm, 24, rfl⟩
abbrev main_v9_0 : Ref sig .tc := ⟨.hbm, 25, rfl⟩
abbrev main_v9_1 : Ref sig .tc := ⟨.hbm, 26, rfl⟩
abbrev main_v9_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x256x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x80x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference5Ideal.lean ====
abbrev S4x256x1024 : Shape := ⟨3, ![4, 256, 1024]⟩
abbrev S4x8192x1024 : Shape := ⟨3, ![4, 8192, 1024]⟩
abbrev S4x2x8x1024 : Shape := ⟨4, ![4, 2, 8, 1024]⟩
abbrev S1x1024 : Shape := ⟨2, ![1, 1024]⟩
abbrev S1024x1280 : Shape := ⟨2, ![1024, 1280]⟩
abbrev S256x1024 : Shape := ⟨2, ![256, 1024]⟩
abbrev S1x1280 : Shape := ⟨2, ![1, 1280]⟩
abbrev S8448x128 : Shape := ⟨2, ![8448, 128]⟩
abbrev S4x8448x1024 : Shape := ⟨3, ![4, 8448, 1024]⟩
abbrev S_ : Shape := ⟨0, ![]⟩
abbrev S4x8448 : Shape := ⟨2, ![4, 8448]⟩
abbrev S4x8448x1 : Shape := ⟨3, ![4, 8448, 1]⟩
abbrev S1x1x1024 : Shape := ⟨3, ![1, 1, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S4x8448x1280 : Shape := ⟨3, ![4, 8448, 1280]⟩
abbrev S4x8448x8x2x64 : Shape := ⟨5, ![4, 8448, 8, 2, 64]⟩
abbrev S4x8448x8x2 : Shape := ⟨4, ![4, 8448, 8, 2]⟩
abbrev S4x8448x8x2x1 : Shape := ⟨5, ![4, 8448, 8, 2, 1]⟩
abbrev S8x2x64 : Shape := ⟨3, ![8, 2, 64]⟩
abbrev S1x1x8x2x64 : Shape := ⟨5, ![1, 1, 8, 2, 64]⟩
abbrev S4x8448x8x2x32 : Shape := ⟨5, ![4, 8448, 8, 2, 32]⟩
abbrev S8448x1x2x64 : Shape := ⟨4, ![8448, 1, 2, 64]⟩
abbrev S1x8448x1x2x64 : Shape := ⟨5, ![1, 8448, 1, 2, 64]⟩
abbrev S4x8448x256 : Shape := ⟨3, ![4, 8448, 256]⟩
abbrev S1x256 : Shape := ⟨2, ![1, 256]⟩
abbrev S4x8448x2x2x64 : Shape := ⟨5, ![4, 8448, 2, 2, 64]⟩
abbrev S4x8448x2x2 : Shape := ⟨4, ![4, 8448, 2, 2]⟩
abbrev S4x8448x2x2x1 : Shape := ⟨5, ![4, 8448, 2, 2, 1]⟩
abbrev S2x2x64 : Shape := ⟨3, ![2, 2, 64]⟩
abbrev S1x1x2x2x64 : Shape := ⟨5, ![1, 1, 2, 2, 64]⟩
abbrev S4x8448x2x2x32 : Shape := ⟨5, ![4, 8448, 2, 2, 32]⟩
abbrev S4x256x8448 : Shape := ⟨3, ![4, 256, 8448]⟩
abbrev S4x4x64x8448 : Shape := ⟨4, ![4, 4, 64, 8448]⟩
abbrev S4x4x1x8448 : Shape := ⟨4, ![4, 4, 1, 8448]⟩
abbrev S4x4x15x8448 : Shape := ⟨4, ![4, 4, 15, 8448]⟩
abbrev S4x4x80x8448 : Shape := ⟨4, ![4, 4, 80, 8448]⟩
abbrev S4x8448x4x64 : Shape := ⟨4, ![4, 8448, 4, 64]⟩
abbrev S4x4x8448x64 : Shape := ⟨4, ![4, 4, 8448, 64]⟩

abbrev nBuf : Space → Nat
  | .hbm => 133
  | .vmem => 0
  | .smem => 0
  | _ => 0

abbrev hbmTy0_0 (i : Nat) : BufTy := match i % 128 with
  | 0 => ⟨S4x256x1024, .f32⟩
  | 1 => ⟨S4x8192x1024, .f32⟩
  | 2 => ⟨S4x2x8x1024, .f32⟩
  | 3 => ⟨S1x1024, .f32⟩
  | 4 => ⟨S1024x1280, .bf16⟩
  | 5 => ⟨S256x1024, .bf16⟩
  | 6 => ⟨S1x1280, .f32⟩
  | 7 => ⟨S8448x128, .f32⟩
  | 8 => ⟨S8448x128, .f32⟩
  | 9 => ⟨S4x8448x1024, .f32⟩
  | 10 => ⟨S4x8448x1024, .f32⟩
  | 11 => ⟨S_, .f32⟩
  | 12 => ⟨S4x8448, .f32⟩
  | 13 => ⟨S4x8448x1, .f32⟩
  | 14 => ⟨S_, .f32⟩
  | 15 => ⟨S4x8448x1, .f32⟩
  | 16 => ⟨S4x8448x1, .f32⟩
  | 17 => ⟨S_, .f32⟩
  | 18 => ⟨S4x8448x1, .f32⟩
  | 19 => ⟨S4x8448x1, .f32⟩
  | 20 => ⟨S4x8448x1, .f32⟩
  | 21 => ⟨S4x8448x1024, .f32⟩
  | 22 => ⟨S4x8448x1024, .f32⟩
  | 23 => ⟨S1x1x1024, .f32⟩
  | 24 => ⟨S4x8448x1024, .f32⟩
  | 25 => ⟨S4x8448x1024, .f32⟩
  | 26 => ⟨S4x1x1x1024, .f32⟩
  | 27 => ⟨S4x1024, .f32⟩
  | 28 => ⟨S4x1x1024, .f32⟩
  | 29 => ⟨S4x256x1024, .f32⟩
  | 30 => ⟨S4x1x1x1024, .f32⟩
  | 31 => ⟨S4x1024, .f32⟩
  | 32 => ⟨S4x1x1024, .f32⟩
  | 33 => ⟨S4x8192x1024, .f32⟩
  | 34 => ⟨S4x8448x1024, .f32⟩
  | 35 => ⟨S_, .f32⟩
  | 36 => ⟨S4x8448x1024, .f32⟩
  | 37 => ⟨S4x8448x1024, .f32⟩
  | 38 => ⟨S4x8448x1024, .f32⟩
  | 39 => ⟨S4x1x1x1024, .f32⟩
  | 40 => ⟨S4x1024, .f32⟩
  | 41 => ⟨S4x1x1024, .f32⟩
  | 42 => ⟨S4x256x1024, .f32⟩
  | 43 => ⟨S4x1x1x1024, .f32⟩
  | 44 => ⟨S4x1024, .f32⟩
  | 45 => ⟨S4x1x1024, .f32⟩
  | 46 => ⟨S4x8192x1024, .f32⟩
  | 47 => ⟨S4x8448x1024, .f32⟩
  | 48 => ⟨S4x8448x1024, .f32⟩
  | 49 => ⟨S1024x1280, .f32⟩
  | 50 => ⟨S4x8448x1280, .f32⟩
  | 51 => ⟨S4x8448x1024, .f32⟩
  | 52 => ⟨S1x1024, .f32⟩
  | 53 => ⟨S4x8448x8x2x64, .f32⟩
  | 54 => ⟨S4x8448x8x2x64, .f32⟩
  | 55 => ⟨S_, .f32⟩
  | 56 => ⟨S4x8448x8x2, .f32⟩
  | 57 => ⟨S4x8448x8x2x1, .f32⟩
  | 58 => ⟨S_, .f32⟩
  | 59 => ⟨S4x8448x8x2x1, .f32⟩
  | 60 => ⟨S4x8448x8x2x1, .f32⟩
  | 61 => ⟨S_, .f32⟩
  | 62 => ⟨S4x8448x8x2x1, .f32⟩
  | 63 => ⟨S4x8448x8x2x1, .f32⟩
  | 64 => ⟨S4x8448x8x2x1, .f32⟩
  | 65 => ⟨S4x8448x8x2x64, .f32⟩
  | 66 => ⟨S4x8448x8x2x64, .f32⟩
  | 67 => ⟨S8x2x64, .f32⟩
  | 68 => ⟨S1x1x8x2x64, .f32⟩
  | 69 => ⟨S4x8448x8x2x64, .f32⟩
  | 70 => ⟨S4x8448x8x2x64, .f32⟩
  | 71 => ⟨S4x8448x8x2x32, .f32⟩
  | 72 => ⟨S4x8448x8x2x32, .f32⟩
  | 73 => ⟨S4x8448x8x2x64, .f32⟩
  | 74 => ⟨S8448x1x2x64, .f32⟩
  | 75 => ⟨S1x8448x1x2x64, .f32⟩
  | 76 => ⟨S4x8448x8x2x64, .f32⟩
  | 77 => ⟨S4x8448x8x2x64, .f32⟩
  | 78 => ⟨S8448x1x2x64, .f32⟩
  | 79 => ⟨S1x8448x1x2x64, .f32⟩
  | 80 => ⟨S4x8448x8x2x64, .f32⟩
  | 81 => ⟨S4x8448x8x2x64, .f32⟩
  | 82 => ⟨S4x8448x8x2x64, .f32⟩
  | 83 => ⟨S_, .f32⟩
  | 84 => ⟨S4x8448x8x2x64, .f32⟩
  | 85 => ⟨S4x8448x8x2x64, .f32⟩
  | 86 => ⟨S4x8448x256, .f32⟩
  | 87 => ⟨S1x256, .f32⟩
  | 88 => ⟨S4x8448x2x2x64, .f32⟩
  | 89 => ⟨S4x8448x2x2x64, .f32⟩
  | 90 => ⟨S_, .f32⟩
  | 91 => ⟨S4x8448x2x2, .f32⟩
  | 92 => ⟨S4x8448x2x2x1, .f32⟩
  | 93 => ⟨S_, .f32⟩
  | 94 => ⟨S4x8448x2x2x1, .f32⟩
  | 95 => ⟨S4x8448x2x2x1, .f32⟩
  | 96 => ⟨S_, .f32⟩
  | 97 => ⟨S4x8448x2x2x1, .f32⟩
  | 98 => ⟨S4x8448x2x2x1, .f32⟩
  | 99 => ⟨S4x8448x2x2x1, .f32⟩
  | 100 => ⟨S4x8448x2x2x64, .f32⟩
  | 101 => ⟨S4x8448x2x2x64, .f32⟩
  | 102 => ⟨S2x2x64, .f32⟩
  | 103 => ⟨S1x1x2x2x64, .f32⟩
  | 104 => ⟨S4x8448x2x2x64, .f32⟩
  | 105 => ⟨S4x8448x2x2x64, .f32⟩
  | 106 => ⟨S4x8448x2x2x32, .f32⟩
  | 107 => ⟨S4x8448x2x2x32, .f32⟩
  | 108 => ⟨S4x8448x2x2x64, .f32⟩
  | 109 => ⟨S8448x1x2x64, .f32⟩
  | 110 => ⟨S1x8448x1x2x64, .f32⟩
  | 111 => ⟨S4x8448x2x2x64, .f32⟩
  | 112 => ⟨S4x8448x2x2x64, .f32⟩
  | 113 => ⟨S8448x1x2x64, .f32⟩
  | 114 => ⟨S1x8448x1x2x64, .f32⟩
  | 115 => ⟨S4x8448x2x2x64, .f32⟩
  | 116 => ⟨S4x8448x2x2x64, .f32⟩
  | 117 => ⟨S4x8448x2x2x64, .f32⟩
  | 118 => ⟨S256x1024, .f32⟩
  | 119 => ⟨S4x8448x256, .f32⟩
  | 120 => ⟨S4x256x8448, .f32⟩
  | 121 => ⟨S4x4x64x8448, .f32⟩
  | 122 => ⟨S_, .f32⟩
  | 123 => ⟨S4x4x1x8448, .f32⟩
  | 124 => ⟨S_, .f32⟩
  | 125 => ⟨S4x4x15x8448, .f32⟩
  | 126 => ⟨S4x4x80x8448, .f32⟩
  | 127 => ⟨S4x8448x4x64, .f32⟩
  | _ => ⟨S4x256x1024, .f32⟩

abbrev hbmTy0_1 (i : Nat) : BufTy := match i % 128 with
  | 0 => ⟨S4x4x8448x64, .f32⟩
  | 1 => ⟨S4x8448x1024, .f32⟩
  | 2 => ⟨S4x8448x1024, .bf16⟩
  | 3 => ⟨S4x4x8448x64, .bf16⟩
  | 4 => ⟨S4x4x80x8448, .bf16⟩
  | _ => ⟨S4x256x1024, .f32⟩

abbrev hbmTy (i : Nat) : BufTy := match i / 128 with
  | 0 => hbmTy0_0 i
  | 1 => hbmTy0_1 i
  | _ => ⟨S4x256x1024, .f32⟩

abbrev bufTy : (tb : Table) → Fin (tcTables nBuf tb) → BufTy
  | .hbm, ⟨i, _⟩ => hbmTy i
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_6 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_7 : Ref sig .tc := ⟨.hbm, 90, rfl⟩
abbrev main_v73 : Ref sig .tc := ⟨.hbm, 91, rfl⟩
abbrev main_v74 : Ref sig .tc := ⟨.hbm, 92, rfl⟩
abbrev main_cst_8 : Ref sig .tc := ⟨.hbm, 93, rfl⟩
abbrev main_v75 : Ref sig .tc := ⟨.hbm, 94, rfl⟩
abbrev main_v76 : Ref sig .tc := ⟨.hbm, 95, rfl⟩
abbrev main_cst_9 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_cst_10 : Ref sig .tc := ⟨.hbm, 122, rfl⟩
abbrev main_v102 : Ref sig .tc := ⟨.hbm, 123, rfl⟩
abbrev main_cst_11 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩

abbrev nD : Nat := 1
abbrev τ : Topo := Topo.v7x

variable {F : FTy → Type} [FloatOps F]
-- ==== Proof.Roll.lean ====
/- The attention's kernel body written as a recursion over the key chunks, for any staging buffers and any
   scratch buffers: every operation takes the rest of the program as its last argument, so that the printed
   straight-line body can be compared with it one stream's step at a time. -/
module

public import Idealize.ShloMosaic.Lib.Pipeline
public import Idealize.ShloMosaic.Lib.Scf
public import Idealize.ShloMosaic.Lib.Sig
public import Idealize.ShloMosaic.Lib.StableHlo
public import Idealize.ShloMosaic.PureOps

@[expose] public section

set_option maxRecDepth 16384

noncomputable section

namespace Cert.Roll

open Idealize.ShloMosaic Idealize.SL.Sem

abbrev S1x256x256 : Shape := ⟨3, ![1, 256, 256]⟩
abbrev S1x256x128 : Shape := ⟨3, ![1, 256, 128]⟩
abbrev S256x128 : Shape := ⟨2, ![256, 128]⟩
abbrev S1x2x8448x128 : Shape := ⟨4, ![1, 2, 8448, 128]⟩
abbrev S1x1x256x128 : Shape := ⟨4, ![1, 1, 256, 128]⟩
abbrev S1x2x144x8448 : Shape := ⟨4, ![1, 2, 144, 8448]⟩
abbrev S1x1x144x256 : Shape := ⟨4, ![1, 1, 144, 256]⟩
abbrev S144x256 : Shape := ⟨2, ![144, 256]⟩
abbrev S4x64 : Shape := ⟨2, ![4, 64]⟩
abbrev S1x64 : Shape := ⟨2, ![1, 64]⟩
abbrev S1 : Shape := ⟨1, ![1]⟩
abbrev S1x1 : Shape := ⟨2, ![1, 1]⟩
abbrev S128x1 : Shape := ⟨2, ![128, 1]⟩
abbrev S256x256 : Shape := ⟨2, ![256, 256]⟩
abbrev S256 : Shape := ⟨1, ![256]⟩
abbrev S1x256 : Shape := ⟨2, ![1, 256]⟩
abbrev S64x256 : Shape := ⟨2, ![64, 256]⟩
abbrev S128x256 : Shape := ⟨2, ![128, 256]⟩
abbrev S128x512 : Shape := ⟨2, ![128, 512]⟩
abbrev S512 : Shape := ⟨1, ![512]⟩
abbrev S1x512 : Shape := ⟨2, ![1, 512]⟩
abbrev S1x1x128x512 : Shape := ⟨4, ![1, 1, 128, 512]⟩
abbrev S1x2x128x512 : Shape := ⟨4, ![1, 2, 128, 512]⟩

variable {nD : ℕ} {τ : Topo} {sig : RefSig} {Λ : Labels} {F : FTy → Type} [FloatOps F]

local notation "PR" α => Prog (TpuEff nD τ sig (Elt F) Λ (Proc.tc : Proc τ)) α

/-! ## The arithmetic of a step -/

/-- One chunk's scores: keys by queries. -/
def scoreOf (dKQ : DotDims S256x128 S256x128 S256x256) (kv : Vec F S1x1x256x128 .bf16) (q : FVec F S256x128 .bf16) :
    FVec F S256x256 .f32 :=
  matmul dKQ none (shapeCast S256x128 kv (by decide)) q (constant S256x256 .f32 0x00000000#32)

/-- The scores as they are stored. -/
def scoreSt (dKQ : DotDims S256x128 S256x128 S256x256) (kv : Vec F S1x1x256x128 .bf16) (q : FVec F S256x128 .bf16) :
    FVec F S256x256 .f32 :=
  shapeCast S256x256 (scoreOf dKQ kv q) (by decide)

/-- Each query's largest score in a chunk. -/
def colMax (s : FVec F S256x256 .f32) : FVec F S1x256 .f32 :=
  shapeCast S1x256 (multiReduction .maximumf [0] S256 s 0xFF800000#32 (by decide) (.inl rfl) rfl) (by decide)

/-- Sixty-four keys' weights against the running maximum. -/
def expRows (s : FVec F S64x256 .f32) (m : FVec F S1x256 .f32) : FVec F S64x256 .bf16 :=
  shapeCast S64x256 (truncf .bf16 (exp2 (subf s (broadcastTo S64x256 m (by decide)))) (by decide)) (by decide)

/-- A chunk's weighted values. -/
def pvOf (dPV : DotDims S144x256 S256x256 S144x256) (vv : Vec F S1x1x144x256 .bf16) (p : FVec F S256x256 .bf16) :
    FVec F S144x256 .f32 :=
  matmul dPV none (shapeCast S144x256 vv (by decide)) p (constant S144x256 .f32 0x00000000#32)

/-- The accumulator rescaled to the new maximum, with the chunk added. -/
def accNext (dPV : DotDims S144x256 S256x256 S144x256) (m m' : FVec F S1x256 .f32) (acc : FVec F S144x256 .f32)
    (vv : Vec F S1x1x144x256 .bf16) (p : FVec F S256x256 .bf16) : FVec F S144x256 .f32 :=
  addf (mulf (broadcastTo S144x256 (exp2 (subf m m')) (by decide)) acc) (pvOf dPV vv p)

/-- Which half of a head's 128 lanes a lane is in, as the floor division computes it. -/
def laneHalf : IVec S256x128 32 :=
  let v0 : IVec S256x128 32 := iota .tc S256x128 32 [1] (by decide)
  let z : IVec S256x128 32 := broadcast S256x128 (0#32 : BitVec 32)
  let d : IVec S256x128 32 := broadcast S256x128 (64#32 : BitVec 32)
  let sg : IVec S256x128 32 := subi (extui 32 (cmpi .sgt v0 z) (by decide)) (extui 32 (cmpi .slt v0 z) (by decide))
  let sd : BitVec 32 := Scalar.subi (Scalar.extui (Scalar.cmpi .sgt (64#32 : BitVec 32) 0#32)) (Scalar.extui (Scalar.cmpi .slt (64#32 : BitVec 32) 0#32))
  let neg : IVec S256x128 1 := andi (cmpi .ne sg (broadcast S256x128 sd)) (cmpi .ne (remsi v0 d) z)
  select neg (subi (divsi v0 d) (broadcast S256x128 (1#32 : BitVec 32))) (divsi v0 d)

/-- A head's queries with the other half's lanes zeroed. -/
def qHalf (a : BitVec 32) (qv : Vec F S1x256x128 .bf16) : FVec F S256x128 .bf16 :=
  select (cmpi .eq laneHalf (broadcast S256x128 a)) (shapeCast S256x128 qv (by decide))
    (broadcast S256x128 (Scalar.ofBits .bf16 0x0000#16 : F .bf16))

/-- The weight of the second softmax. -/
def lamOf (a b c d : Vec F S1x64 .f32) : FVec F S1x1 .f32 :=
  let e (x y : Vec F S1x64 .f32) : FVec F S1x1 .f32 :=
    exp (shapeCast S1x1 (multiReduction .add [1] S1 (mulf x y : FVec F S1x64 .f32) 0x00000000#32 (by decide) (.inl rfl) rfl) (by decide))
  addf (subf (e a b) (e c d)) (broadcast S1x1 (Scalar.ofBits .f32 0x3EB60549#32 : F .f32))

/-- One stream's output: its accumulator by its row of weights' sums. -/
def normOf (acc : FVec F S144x256 .f32) : FVec F S128x256 .f32 :=
  divf (extractStridedSlice S128x256 ![0, 0] acc (by decide))
    (broadcastTo S128x256 (extractStridedSlice S1x256 ![128, 0] acc (by decide)) (by decide))

theorem cat2 : Shape.Concatenates [S128x256, S128x256] S128x512 1 := by decide

/-- The difference of the two softmaxes' outputs, both query tiles side by side. -/
def diffOf (lam : FVec F S1x1 .f32) (x0 x1 x2 x3 : FVec F S144x256 .f32) : FVec F S128x512 .f32 :=
  subf (concatenate S128x512 1 [⟨S128x256, normOf x0⟩, ⟨S128x256, normOf x1⟩] cat2)
    (mulf (broadcastTo S128x512 lam (by decide))
      (concatenate S128x512 1 [⟨S128x256, normOf x2⟩, ⟨S128x256, normOf x3⟩] cat2))

/-- The head's output before its cast: root-mean-square normalised over the head's rows, by the gains. -/
def finOf (o : FVec F S128x512 .f32) (w : Vec F S128x1 .f32) : FVec F S128x512 .f32 :=
  mulf (mulf (mulf o (broadcastTo S128x512 (rsqrt (addf (divf
      (shapeCast S1x512 (multiReduction .add [0] S512 (mulf o o) 0x00000000#32 (by decide) (.inl rfl) rfl) (by decide))
      (broadcast S1x512 (Scalar.ofBits .f32 0x43000000#32 : F .f32)))
      (broadcast S1x512 (Scalar.ofBits .f32 0x358637BD#32 : F .f32)))) (by decide)))
    (broadcastTo S128x512 w (by decide)))
    (broadcast S128x512 (Scalar.ofBits .f32 0x3F24FD5C#32 : F .f32))

/-- The head's output as it is stored. -/
def outOf (lam : FVec F S1x1 .f32) (x0 x1 x2 x3 : FVec F S144x256 .f32) (w : Vec F S128x1 .f32) : FVec F S1x1x128x512 .bf16 :=
  shapeCast S1x1x128x512 (truncf .bf16 (finOf (diffOf lam x0 x1 x2 x3) w) (by decide)) (by decide)

/-! ## The rectangles -/

theorem inb_k {hh c : ℕ} (hhh : hh < 2) (hc : c < 33) :
    ∀ a, (![0, hh, 256 * c, 0] : Fin 4 → ℕ) a + S1x1x256x128.size a ≤ S1x2x8448x128.size a := by
  intro a; fin_cases a <;> simp <;> omega

theorem inb_v {hh c : ℕ} (hhh : hh < 2) (hc : c < 33) :
    ∀ a, (![0, hh, 0, 256 * c] : Fin 4 → ℕ) a + S1x1x144x256.size a ≤ S1x2x144x8448.size a := by
  intro a; fin_cases a <;> simp <;> omega

theorem inb_q {hh : ℕ} (hhh : hh < 2) :
    ∀ a, (![0, 0, 128 * hh] : Fin 3 → ℕ) a + S1x256x128.size a ≤ S1x256x256.size a := by
  intro a; fin_cases a <;> simp <;> omega

theorem inb_l {r : ℕ} (hr : r < 4) : ∀ a, (![r, 0] : Fin 2 → ℕ) a + S1x64.size a ≤ S4x64.size a := by
  intro a; fin_cases a <;> simp <;> omega

theorem inb_o {hh : ℕ} (hhh : hh < 2) :
    ∀ a, (![0, hh, 0, 0] : Fin 4 → ℕ) a + S1x1x128x512.size a ≤ S1x2x128x512.size a := by
  intro a; fin_cases a <;> simp <;> omega

theorem inb_f : ∀ a, (![0, 0] : Fin 2 → ℕ) a + S256x256.size a ≤ S256x256.size a := by decide
theorem inb_w : ∀ a, (![0, 0] : Fin 2 → ℕ) a + S128x1.size a ≤ S128x1.size a := by decide

theorem inb_r {o : ℕ} (ho : o ≤ 192) : ∀ a, (![o, 0] : Fin 2 → ℕ) a + S64x256.size a ≤ S256x256.size a := by
  intro a; fin_cases a <;> simp <;> omega

abbrev rK {hh c : ℕ} (hhh : hh < 2) (hc : c < 33) : Rect S1x2x8448x128 := Rect.unit ![0, hh, 256 * c, 0] S1x1x256x128.size (inb_k hhh hc)
abbrev rV {hh c : ℕ} (hhh : hh < 2) (hc : c < 33) : Rect S1x2x144x8448 := Rect.unit ![0, hh, 0, 256 * c] S1x1x144x256.size (inb_v hhh hc)
abbrev rQ {hh : ℕ} (hhh : hh < 2) : Rect S1x256x256 := Rect.unit ![0, 0, 128 * hh] S1x256x128.size (inb_q hhh)
abbrev rL {r : ℕ} (hr : r < 4) : Rect S4x64 := Rect.unit ![r, 0] S1x64.size (inb_l hr)
abbrev rO {hh : ℕ} (hhh : hh < 2) : Rect S1x2x128x512 := Rect.unit ![0, hh, 0, 0] S1x1x128x512.size (inb_o hhh)
abbrev rF : Rect S256x256 := Rect.unit ![0, 0] S256x256.size inb_f
abbrev rW : Rect S128x1 := Rect.unit ![0, 0] S128x1.size inb_w
abbrev rR {o : ℕ} (ho : o ≤ 192) : Rect S256x256 := Rect.unit ![o, 0] S64x256.size (inb_r ho)

theorem packed_o {hh : ℕ} (hhh : hh < 2) : (rO hhh).PackedRows (EltTy.packing .bf16) := by
  obtain rfl | rfl : hh = 0 ∨ hh = 1 := by omega
  · exact (by decide : (Rect.unit (s := S1x2x128x512) ![0, 0, 0, 0] S1x1x128x512.size (inb_o (by decide))).PackedRows (EltTy.packing .bf16))
  · exact (by decide : (Rect.unit (s := S1x2x128x512) ![0, 1, 0, 0] S1x1x128x512.size (inb_o (by decide))).PackedRows (EltTy.packing .bf16))

theorem packed_r {o : ℕ} (ho : o ≤ 192) (h8 : o ∈ [0, 64, 128, 192]) : (rR ho).PackedRows (EltTy.packing .bf16) := by
  simp only [List.mem_cons, List.not_mem_nil, or_false] at h8
  obtain rfl | rfl | rfl | rfl := h8
  · exact (by decide : (Rect.unit (s := S256x256) ![0, 0] S64x256.size (inb_r (by decide))).PackedRows (EltTy.packing .bf16))
  · exact (by decide : (Rect.unit (s := S256x256) ![64, 0] S64x256.size (inb_r (by decide))).PackedRows (EltTy.packing .bf16))
  · exact (by decide : (Rect.unit (s := S256x256) ![128, 0] S64x256.size (inb_r (by decide))).PackedRows (EltTy.packing .bf16))
  · exact (by decide : (Rect.unit (s := S256x256) ![192, 0] S64x256.size (inb_r (by decide))).PackedRows (EltTy.packing .bf16))

/-! ## The program -/

/-- A stream's scratch buffers: four for scores and four for weights, taken in turn. -/
structure Bufs (sig : RefSig) where
  s : ℕ → Memref sig .tc .vmem S256x256 .f32
  p : ℕ → Memref sig .tc .vmem S256x256 .bf16
  hp : ∀ n, (p n).IsWhole

/-- A chunk's scores computed and stored. -/
def writeScores {α : Type} (dKQ : DotDims S256x128 S256x128 S256x256) (k : Memref sig .tc .vmem S1x2x8448x128 .bf16)
    {hh c : ℕ} (hhh : hh < 2) (hc : c < 33) (q : FVec F S256x128 .bf16) (s : Memref sig .tc .vmem S256x256 .f32)
    (K : FVec F S1x256 .f32 → PR α) : PR α :=
  .op (.load k (rK hhh hc).toLoadRect (View.loadsAt_vmem (by decide : 0 < S1x1x256x128.numel))) fun (kv : Vec F S1x1x256x128 .bf16) =>
  .op (.load s rF.toLoadRect (View.loadsAt_vmem (by decide : 0 < S256x256.numel))) fun _ =>
  .op (.store s rF (scoreSt dKQ kv q) Finset.univ (View.stores_vmem_bits_univ (by decide : 0 < S256x256.numel) rfl) (.inl rfl)) fun _ =>
  K (colMax (scoreOf dKQ kv q))

/-- Sixty-four keys' weights from the stored scores. -/
def rowStep {α : Type} (s : Memref sig .tc .vmem S256x256 .f32) (p : Memref sig .tc .vmem S256x256 .bf16) (hp : p.IsWhole)
    (m : FVec F S1x256 .f32) {o : ℕ} (ho : o ≤ 192) (hk : (rR ho).PackedRows (EltTy.packing .bf16)) (K : PR α) : PR α :=
  .op (.load (s.slice rF (fun _ => rfl)) (rR ho).toLoadRect (View.loadsAt_vmem (by decide : 0 < S64x256.numel))) fun (sv : Vec F S64x256 .f32) =>
  .op (.load (p.slice rF (fun _ => rfl)) (rR ho).toLoadRect (View.loadsAt_vmem (by decide : 0 < S64x256.numel))) fun _ =>
  .op (.store p (rR ho) (expRows sv m) Finset.univ (View.stores_vmem (by decide : 0 < S64x256.numel)
    (hp.storeExact_slice rfl _ hk) (fun _ => rfl)) (.inl rfl)) fun _ => K

/-- A chunk's values and weights loaded. -/
def softLoads {α : Type} (v : Memref sig .tc .vmem S1x2x144x8448 .bf16) {hh c : ℕ} (hhh : hh < 2) (hc : c < 33)
    (p : Memref sig .tc .vmem S256x256 .bf16)
    (K : Vec F S1x1x144x256 .bf16 → FVec F S256x256 .bf16 → PR α) : PR α :=
  .op (.load v (rV hhh hc).toLoadRect (View.loadsAt_vmem (by decide : 0 < S1x1x144x256.numel))) fun (vv : Vec F S1x1x144x256 .bf16) =>
  .op (.load p rF.toLoadRect (View.loadsAt_vmem (by decide : 0 < S256x256.numel))) fun (pv : Vec F S256x256 .bf16) => K vv pv

/-- A chunk's weights, and its values and weights loaded. -/
def softStep {α : Type} (v : Memref sig .tc .vmem S1x2x144x8448 .bf16) {hh c : ℕ} (hhh : hh < 2) (hc : c < 33)
    (s : Memref sig .tc .vmem S256x256 .f32) (p : Memref sig .tc .vmem S256x256 .bf16) (hp : p.IsWhole)
    (m : FVec F S1x256 .f32) (K : Vec F S1x1x144x256 .bf16 → FVec F S256x256 .bf16 → PR α) : PR α :=
  rowStep s p hp m (o := 0) (by decide) (packed_r (by decide) (by decide)) <|
  rowStep s p hp m (o := 64) (by decide) (packed_r (by decide) (by decide)) <|
  rowStep s p hp m (o := 128) (by decide) (packed_r (by decide) (by decide)) <|
  rowStep s p hp m (o := 192) (by decide) (packed_r (by decide) (by decide)) <|
  softLoads v hhh hc p K

/-- A stream at the first chunk, the third chunk's scores written. -/
def stepFirst {α : Type} (dKQ : DotDims S256x128 S256x128 S256x256) (dPV : DotDims S144x256 S256x256 S144x256)
    (k : Memref sig .tc .vmem S1x2x8448x128 .bf16) (v : Memref sig .tc .vmem S1x2x144x8448 .bf16) {hh : ℕ} (hhh : hh < 2)
    (q : FVec F S256x128 .bf16) (B : Bufs sig) (a : FVec F S1x256 .f32)
    (K : FVec F S144x256 .f32 → FVec F S1x256 .f32 → PR α) : PR α :=
  writeScores dKQ k hhh (c := 2) (by decide) q (B.s 2) fun cm =>
  softStep v hhh (c := 0) (by decide) (B.s 0) (B.p 0) (B.hp 0) a fun vv pv =>
  K (pvOf dPV vv pv) cm

/-- A stream at chunk `c`, the scores of chunk `c + 2` written. -/
def stepMid {α : Type} (dKQ : DotDims S256x128 S256x128 S256x256) (dPV : DotDims S144x256 S256x256 S144x256)
    (k : Memref sig .tc .vmem S1x2x8448x128 .bf16) (v : Memref sig .tc .vmem S1x2x144x8448 .bf16) {hh : ℕ} (hhh : hh < 2)
    (c : ℕ) (hc : c + 2 < 33)
    (q : FVec F S256x128 .bf16) (B : Bufs sig) (m : FVec F S1x256 .f32) (acc : FVec F S144x256 .f32) (a : FVec F S1x256 .f32)
    (K : FVec F S1x256 .f32 → FVec F S144x256 .f32 → FVec F S1x256 .f32 → PR α) : PR α :=
  writeScores dKQ k hhh (c := c + 2) hc q (B.s (c + 2)) fun cm =>
  softStep v hhh (c := c) (by omega) (B.s c) (B.p c) (B.hp c) (maximumf m a) fun vv pv =>
  K (maximumf m a) (accNext dPV m (maximumf m a) acc vv pv) cm

/-- A stream at one of the last two chunks, whose successors' scores there are none of. -/
def stepLast {α : Type} (dPV : DotDims S144x256 S256x256 S144x256)
    (v : Memref sig .tc .vmem S1x2x144x8448 .bf16) {hh : ℕ} (hhh : hh < 2) (c : ℕ) (hc : c < 33)
    (B : Bufs sig) (m : FVec F S1x256 .f32) (acc : FVec F S144x256 .f32) (a : FVec F S1x256 .f32)
    (K : FVec F S1x256 .f32 → FVec F S144x256 .f32 → PR α) : PR α :=
  softStep v hhh (c := c) hc (B.s c) (B.p c) (B.hp c) (maximumf m a) fun vv pv =>
  K (maximumf m a) (accNext dPV m (maximumf m a) acc vv pv)

/-- What a stream carries between chunks: the maximum and the accumulator so far, and the next two chunks' maxima. -/
structure St (F : FTy → Type) where
  m : FVec F S1x256 .f32
  acc : FVec F S144x256 .f32
  a : FVec F S1x256 .f32
  b : FVec F S1x256 .f32

/-- Chunks `c … c + n - 1`, each through the four streams. -/
def chunks {α : Type} (dKQ : DotDims S256x128 S256x128 S256x256) (dPV : DotDims S144x256 S256x256 S144x256)
    (k : Memref sig .tc .vmem S1x2x8448x128 .bf16) (v : Memref sig .tc .vmem S1x2x144x8448 .bf16) {hh : ℕ} (hhh : hh < 2)
    (q0 q1 q2 q3 : FVec F S256x128 .bf16) (B0 B1 B2 B3 : Bufs sig) (K : St F → St F → St F → St F → PR α) :
    (n c : ℕ) → (c + n ≤ 31) → St F → St F → St F → St F → PR α
  | 0, _, _, t0, t1, t2, t3 => K t0 t1 t2 t3
  | n + 1, c, h, ⟨m0, x0, a0, b0⟩, ⟨m1, x1, a1, b1⟩, ⟨m2, x2, a2, b2⟩, ⟨m3, x3, a3, b3⟩ =>
    stepMid dKQ dPV k v hhh c (by omega) q0 B0 m0 x0 a0 fun m0 x0 d0 =>
    stepMid dKQ dPV k v hhh c (by omega) q1 B1 m1 x1 a1 fun m1 x1 d1 =>
    stepMid dKQ dPV k v hhh c (by omega) q2 B2 m2 x2 a2 fun m2 x2 d2 =>
    stepMid dKQ dPV k v hhh c (by omega) q3 B3 m3 x3 a3 fun m3 x3 d3 =>
    chunks dKQ dPV k v hhh q0 q1 q2 q3 B0 B1 B2 B3 K n (c + 1) (by omega)
      ⟨m0, x0, b0, d0⟩ ⟨m1, x1, b1, d1⟩ ⟨m2, x2, b2, d2⟩ ⟨m3, x3, b3, d3⟩

/-- The four streams' outputs combined and stored. -/
def finish {α : Type} (w : Memref sig .tc .vmem S128x1 .f32) (o : Memref sig .tc .vmem S1x2x128x512 .bf16) (ho : o.IsWhole)
    {hh : ℕ} (hhh : hh < 2) (lam : FVec F S1x1 .f32) (x0 x1 x2 x3 : FVec F S144x256 .f32) (K : PR α) : PR α :=
  .op (.load w rW.toLoadRect (View.loadsAt_vmem (by decide : 0 < S128x1.numel))) fun (wv : Vec F S128x1 .f32) =>
  .op (.load o (rO hhh).toLoadRect (View.loadsAt_vmem (by decide : 0 < S1x1x128x512.numel))) fun _ =>
  .op (.store o (rO hhh) (outOf lam x0 x1 x2 x3 wv) Finset.univ (View.stores_vmem (by decide : 0 < S1x1x128x512.numel)
    (ho.storeExact_slice rfl _ (packed_o hhh)) (fun _ => rfl)) (.inl rfl)) fun _ => K

/-- The last two chunks of the four streams. -/
def tailOf {α : Type} (dPV : DotDims S144x256 S256x256 S144x256)
    (v : Memref sig .tc .vmem S1x2x144x8448 .bf16) {hh : ℕ} (hhh : hh < 2) (B0 B1 B2 B3 : Bufs sig)
    (K : FVec F S144x256 .f32 → FVec F S144x256 .f32 → FVec F S144x256 .f32 → FVec F S144x256 .f32 → PR α) :
    St F → St F → St F → St F → PR α
  | ⟨m0, x0, a0, b0⟩, ⟨m1, x1, a1, b1⟩, ⟨m2, x2, a2, b2⟩, ⟨m3, x3, a3, b3⟩ =>
    stepLast dPV v hhh 31 (by decide) B0 m0 x0 a0 fun m0 x0 =>
    stepLast dPV v hhh 31 (by decide) B1 m1 x1 a1 fun m1 x1 =>
    stepLast dPV v hhh 31 (by decide) B2 m2 x2 a2 fun m2 x2 =>
    stepLast dPV v hhh 31 (by decide) B3 m3 x3 a3 fun m3 x3 =>
    stepLast dPV v hhh 32 (by decide) B0 m0 x0 b0 fun _ x0 =>
    stepLast dPV v hhh 32 (by decide) B1 m1 x1 b1 fun _ x1 =>
    stepLast dPV v hhh 32 (by decide) B2 m2 x2 b2 fun _ x2 =>
    stepLast dPV v hhh 32 (by decide) B3 m3 x3 b3 fun _ x3 =>
    K x0 x1 x2 x3

/-- One head: the queries, the first two chunks' scores, the chunks, the output. -/
def headOf {α : Type} (dKQ : DotDims S256x128 S256x128 S256x256) (dPV : DotDims S144x256 S256x256 S144x256)
    (qa qb : Memref sig .tc .vmem S1x256x256 .bf16)
    (k : Memref sig .tc .vmem S1x2x8448x128 .bf16) (v : Memref sig .tc .vmem S1x2x144x8448 .bf16)
    (w : Memref sig .tc .vmem S128x1 .f32) (o : Memref sig .tc .vmem S1x2x128x512 .bf16) (ho : o.IsWhole)
    {hh : ℕ} (hhh : hh < 2) (lam : FVec F S1x1 .f32) (B0 B1 B2 B3 : Bufs sig) (K : PR α) : PR α :=
  .op (.load qa (rQ hhh).toLoadRect (View.loadsAt_vmem (by decide : 0 < S1x256x128.numel))) fun (q0 : Vec F S1x256x128 .bf16) =>
  .op (.load qb (rQ hhh).toLoadRect (View.loadsAt_vmem (by decide : 0 < S1x256x128.numel))) fun (q1 : Vec F S1x256x128 .bf16) =>
  .op (.load qa (rQ hhh).toLoadRect (View.loadsAt_vmem (by decide : 0 < S1x256x128.numel))) fun (q2 : Vec F S1x256x128 .bf16) =>
  .op (.load qb (rQ hhh).toLoadRect (View.loadsAt_vmem (by decide : 0 < S1x256x128.numel))) fun (q3 : Vec F S1x256x128 .bf16) =>
  writeScores dKQ k hhh (c := 0) (by decide) (qHalf 0#32 q0) (B0.s 0) fun a0 =>
  writeScores dKQ k hhh (c := 0) (by decide) (qHalf 0#32 q1) (B1.s 0) fun a1 =>
  writeScores dKQ k hhh (c := 0) (by decide) (qHalf 1#32 q2) (B2.s 0) fun a2 =>
  writeScores dKQ k hhh (c := 0) (by decide) (qHalf 1#32 q3) (B3.s 0) fun a3 =>
  writeScores dKQ k hhh (c := 1) (by decide) (qHalf 0#32 q0) (B0.s 1) fun b0 =>
  writeScores dKQ k hhh (c := 1) (by decide) (qHalf 0#32 q1) (B1.s 1) fun b1 =>
  writeScores dKQ k hhh (c := 1) (by decide) (qHalf 1#32 q2) (B2.s 1) fun b2 =>
  writeScores dKQ k hhh (c := 1) (by decide) (qHalf 1#32 q3) (B3.s 1) fun b3 =>
  stepFirst dKQ dPV k v hhh (qHalf 0#32 q0) B0 a0 fun x0 d0 =>
  stepFirst dKQ dPV k v hhh (qHalf 0#32 q1) B1 a1 fun x1 d1 =>
  stepFirst dKQ dPV k v hhh (qHalf 1#32 q2) B2 a2 fun x2 d2 =>
  stepFirst dKQ dPV k v hhh (qHalf 1#32 q3) B3 a3 fun x3 d3 =>
  chunks dKQ dPV k v hhh (qHalf 0#32 q0) (qHalf 0#32 q1) (qHalf 1#32 q2) (qHalf 1#32 q3) B0 B1 B2 B3
    (tailOf dPV v hhh B0 B1 B2 B3 fun x0 x1 x2 x3 => finish w o ho hhh lam x0 x1 x2 x3 K)
    30 1 (by decide) ⟨a0, x0, b0, d0⟩ ⟨a1, x1, b1, d1⟩ ⟨a2, x2, b2, d2⟩ ⟨a3, x3, b3, d3⟩

/-- The second softmax's weight from its four vectors. -/
def lamProg {α : Type} (l : Memref sig .tc .vmem S4x64 .f32) (K : FVec F S1x1 .f32 → PR α) : PR α :=
  .op (.load l (rL (r := 0) (by decide)).toLoadRect (View.loadsAt_vmem (by decide : 0 < S1x64.numel))) fun (a : Vec F S1x64 .f32) =>
  .op (.load l (rL (r := 1) (by decide)).toLoadRect (View.loadsAt_vmem (by decide : 0 < S1x64.numel))) fun (b : Vec F S1x64 .f32) =>
  .op (.load l (rL (r := 2) (by decide)).toLoadRect (View.loadsAt_vmem (by decide : 0 < S1x64.numel))) fun (c : Vec F S1x64 .f32) =>
  .op (.load l (rL (r := 3) (by decide)).toLoadRect (View.loadsAt_vmem (by decide : 0 < S1x64.numel))) fun (d : Vec F S1x64 .f32) =>
  K (lamOf a b c d)

/-- The whole body: the weight, then the two heads. -/
def body (dKQ : DotDims S256x128 S256x128 S256x256) (dPV : DotDims S144x256 S256x256 S144x256)
    (qa qb : Memref sig .tc .vmem S1x256x256 .bf16)
    (k : Memref sig .tc .vmem S1x2x8448x128 .bf16) (v : Memref sig .tc .vmem S1x2x144x8448 .bf16) (l : Memref sig .tc .vmem S4x64 .f32)
    (w : Memref sig .tc .vmem S128x1 .f32) (o : Memref sig .tc .vmem S1x2x128x512 .bf16) (ho : o.IsWhole)
    (B0 B1 B2 B3 C0 C1 C2 C3 : Bufs sig) : PR PUnit :=
  lamProg l fun lam =>
  headOf dKQ dPV qa qb k v w o ho (hh := 0) (by decide) lam B0 B1 B2 B3 <|
  headOf dKQ dPV qa qb k v w o ho (hh := 1) (by decide) lam C0 C1 C2 C3 <|
  .ret ⟨⟩

/-- Four buffers taken in turn. -/
def pick {α : Sort*} (a b c d : α) (n : ℕ) : α := match n % 4 with | 0 => a | 1 => b | 2 => c | _ => d

theorem pick_all {α : Sort*} {P : α → Prop} {a b c d : α} (ha : P a) (hb : P b) (hc : P c) (hd : P d) (n : ℕ) : P (pick a b c d n) := by
  unfold pick; split <;> assumption

/-- A stream's eight buffers. -/
def bufs (s0 s1 s2 s3 : Memref sig .tc .vmem S256x256 .f32) (p0 p1 p2 p3 : Memref sig .tc .vmem S256x256 .bf16)
    (h0 : p0.IsWhole) (h1 : p1.IsWhole) (h2 : p2.IsWhole) (h3 : p3.IsWhole) : Bufs sig where
  s := pick s0 s1 s2 s3
  p := pick p0 p1 p2 p3
  hp n := pick_all (P := fun p => Memref.IsWhole p) h0 h1 h2 h3 n

end Cert.Roll

end
-- ==== Proof.RollRun.lean ====
/- What the recursion does to owned buffers, for any staging and scratch buffers. -/
module

public import proofs.«01_k».proof.Proof.Roll
public import Idealize.ShloMosaic.Lib.Pipeline.FrameBody
public import Idealize.ShloMosaic.Lib.Pipeline.Value
public import Idealize.ShloMosaic.Lib.ValueLayout
public import Idealize.ShloMosaic.Lib.Tactic

@[expose] public section

set_option maxRecDepth 16384

noncomputable section

namespace Cert.Roll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]
  {Ix : Type} [DecidableEq Ix] {Name : Type} [DecidableEq Name] {U : Type} [URA U] {Lvl : Type} [Preorder Lvl]
  {D : Defs nD τ sig (Elt F) Λ} {𝒱 : Variants} {bd : Option 𝒱.V} {E : Set Name} {α : Type} {c : Dev nD}

local notation "𝕄" => MT nD τ sig Ix (Elt F) Name U Lvl
local notation "PR" α => Prog (TpuEff nD τ sig (Elt F) Λ (Proc.tc : Proc τ)) α
local notation "own" => owns (Ix := Ix) (Name := Name) (U := U) (Lvl := Lvl) (nD := nD) (τ := τ) (sig := sig) (Val := Elt F) (c : Thread nD τ)
local notation "run" => wp (frame : sProp 𝕄) (wpE D 𝒱 (c : Thread nD τ) bd) E

/-- A load from an owned buffer reads its contents at the rectangle. -/
theorem load_own {sp : CoreSpace} {s : Shape} {e : EltTy} {M : Memref sig .tc sp s e} {r : Rect s} {hl : M.view.LoadsAt r.toLoadRect}
    {q : PosShare TreeShare} {X : s.Idx → Elt F e} {k : (r.shape.Idx → Elt F e) → PR α} {Q : α → sProp 𝕄} :
    iprop(owns (c : Thread nD τ) M q X ∗ (owns (c : Thread nD τ) M q X -∗ wp frame (wpE D 𝒱 (c : Thread nD τ) bd) E (k (View.ld X r)) Q))
      ⊢ wp frame (wpE D 𝒱 (c : Thread nD τ) bd) E (.op (.load M r.toLoadRect hl) k) Q := by
  unfold owns
  iintro ⟨⟨%f, %hf, H⟩, Hk⟩
  subst hf
  iapply (wp_load (defs := D) 𝒱 (c : Thread nD τ) bd E (S := M.view.set) (q := q) (f := f) (m := M) (r := r.toLoadRect) (hl := hl) (k := k) (Q := Q) (by
    exact Finset.map_subset_map.mpr (Finset.subset_univ _))) $$ H
  iintro H
  iapply Hk
  iexists f
  isplitr; · ipureintro; rfl
  iexact H

/-- A load through the whole-buffer window of an owned buffer. -/
theorem load_slice_own {sp : CoreSpace} {s : Shape} {e : EltTy} {M : Memref sig .tc sp s e} {r0 : Rect s} {h0 : ∀ a, r0.stride a = 1}
    {r : Rect r0.shape} {hl : (M.slice r0 h0).view.LoadsAt r.toLoadRect}
    {q : PosShare TreeShare} {X : s.Idx → Elt F e} {k : (r.shape.Idx → Elt F e) → PR α} {Q : α → sProp 𝕄} :
    iprop(owns (c : Thread nD τ) M q X ∗ (owns (c : Thread nD τ) M q X -∗ wp frame (wpE D 𝒱 (c : Thread nD τ) bd) E (k (View.ld (View.ld X r0) r)) Q))
      ⊢ wp frame (wpE D 𝒱 (c : Thread nD τ) bd) E (.op (.load (M.slice r0 h0) r.toLoadRect hl) k) Q := by
  unfold owns
  iintro ⟨⟨%f, %hf, H⟩, Hk⟩
  subst hf
  iapply (wp_load (defs := D) 𝒱 (c : Thread nD τ) bd E (S := M.view.set) (q := q) (f := f) (m := M.slice r0 h0) (r := r.toLoadRect) (hl := hl) (k := k) (Q := Q) (by
    refine (Finset.map_subset_map.mpr (Finset.subset_univ _)).trans ?_
    exact View.set_slice_subset _ _)) $$ H
  iintro H
  iapply Hk
  iexists f
  isplitr; · ipureintro; rfl
  iexact H

/-- A whole store into a rectangle of an owned buffer. -/
theorem store_own {sp : CoreSpace} {s : Shape} {e : EltTy} {M : Memref sig .tc sp s e} {r : Rect s} {w : r.shape.Idx → Elt F e}
    {hx : (M.access r).Stores Finset.univ} {hm : (Finset.univ : Finset r.shape.Idx) = Finset.univ ∨ ∀ a, r.stride a = 1}
    {X X' : s.Idx → Elt F e} {k : PUnit → PR α} {Q : α → sProp 𝕄}
    (h1 : ∀ j, X' (r.idx j) = w j) (h2 : ∀ i, (∀ j, r.idx j ≠ i) → X' i = X i) :
    iprop(owns (c : Thread nD τ) M fullShare X ∗ (owns (c : Thread nD τ) M fullShare X' -∗ wp frame (wpE D 𝒱 (c : Thread nD τ) bd) E (k ⟨⟩) Q))
      ⊢ wp frame (wpE D 𝒱 (c : Thread nD τ) bd) E (.op (.store M r w Finset.univ hx hm) k) Q := by
  unfold owns
  iintro ⟨⟨%f, %hf, H⟩, Hk⟩
  subst hf
  iapply (wp_store (defs := D) 𝒱 (c : Thread nD τ) bd E (S := M.view.set) (f := f) (m := M) (r := r) (w := w) (hx := hx) (hm := hm) (k := k) (Q := Q) (by
    exact View.set_slice_subset _ _)) $$ H
  iintro H
  iapply Hk
  iexists _
  isplitr
  swap; · iexact H
  ipureintro
  funext i
  by_cases hi : ∃ j, r.idx j = i
  · obtain ⟨j, rfl⟩ := hi
    rw [h1]
    exact View.read_write_of_mem (v := M.view.slice r) f w (Finset.mem_univ j)
  · rw [h2 i fun j hj => hi ⟨j, hj⟩]
    exact View.read_slice_write_of_not_mem r f w _ fun hm => by
      obtain ⟨j, -, hj⟩ := Finset.mem_map.mp hm
      exact hi ⟨j, hj⟩

/-! ## The steps -/

/-- Rows below `o` from `P`, the others from `X`. -/
def mix {e : Type} (o : ℕ) (P X : S256x256.Idx → e) : S256x256.Idx → e := fun i => if (i 0).val < o then P i else X i

/-- A chunk's weights against a maximum. -/
def probOf (s : FVec F S256x256 .f32) (m : FVec F S1x256 .f32) : FVec F S256x256 .bf16 :=
  truncf .bf16 (exp2 (subf s (broadcastTo S256x256 m (by decide)))) (by decide)

theorem idx_r0 {o : ℕ} (ho : o ≤ 192) (j : S64x256.Idx) : (((rR ho).idx j) 0).val = o + (j 0).val :=
  congrArg (o + ·) (Nat.one_mul _)

theorem idx_r1 {o : ℕ} (ho : o ≤ 192) (j : S64x256.Idx) : (((rR ho).idx j) 1).val = (j 1).val :=
  (Nat.zero_add _).trans (Nat.one_mul _)

theorem ld_rF {e : Type} (X : S256x256.Idx → e) : (fun x => X (rF.idx x)) = X :=
  funext fun x => congrArg X (funext fun a => Fin.ext (by
    fin_cases a
    · exact (Nat.zero_add _).trans (Nat.one_mul _)
    · exact (Nat.zero_add _).trans (Nat.one_mul _)))

theorem expRows_eq {o : ℕ} (ho : o ≤ 192) (s : FVec F S256x256 .f32) (m : FVec F S1x256 .f32) (j : S64x256.Idx) :
    expRows (fun x => s ((rR ho).idx x)) m j = probOf s m ((rR ho).idx j) := by
  have hb : (broadcastTo S64x256 m (by decide) : FVec F S64x256 .f32) j = (broadcastTo S256x256 m (by decide) : FVec F S256x256 .f32) ((rR ho).idx j) := by
    rw [broadcastTo_apply m _ j (ValueIdx.ix2 (0 : Fin 1) (j 1)) (by intro a; fin_cases a <;> rfl)]
    rw [broadcastTo_apply m _ ((rR ho).idx j) (ValueIdx.ix2 (0 : Fin 1) (j 1)) (by
          intro a; fin_cases a
          · rfl
          · exact (idx_r1 ho j).symm)]
  unfold expRows probOf
  rw [shapeCast_self]
  show FloatOps.truncf _ _ (FloatOps.exp2 (FloatOps.subf _ _)) = FloatOps.truncf _ _ (FloatOps.exp2 (FloatOps.subf _ _))
  rw [hb]

/-- What the steps read and write: the keys and values at known contents. -/
def kv (k : Memref sig .tc .vmem S1x2x8448x128 .bf16) (v : Memref sig .tc .vmem S1x2x144x8448 .bf16)
    (Kx : S1x2x8448x128.Idx → Elt F .bf16) (Vx : S1x2x144x8448.Idx → Elt F .bf16) : sProp 𝕄 :=
  iprop(owns (c : Thread nD τ) k fullShare Kx ∗ owns (c : Thread nD τ) v fullShare Vx)

/-- A buffer at some contents. -/
def any {s : Shape} {e : EltTy} (M : Memref sig .tc .vmem s e) : sProp 𝕄 :=
  iprop(∃ X, owns (c : Thread nD τ) M fullShare X)

/-- A stream's buffers: the scores of chunks `n` and `n + 1`, the rest at some contents. -/
def two (B : Bufs sig) (n : ℕ) (X Y : FVec F S256x256 .f32) : sProp 𝕄 :=
  iprop(owns (c : Thread nD τ) (B.s n) fullShare X ∗ owns (c : Thread nD τ) (B.s (n + 1)) fullShare Y
    ∗ any (F := F) (c := c) (B.s (n + 2)) ∗ any (F := F) (c := c) (B.s (n + 3))
    ∗ any (F := F) (c := c) (B.p n) ∗ any (F := F) (c := c) (B.p (n + 1)) ∗ any (F := F) (c := c) (B.p (n + 2)) ∗ any (F := F) (c := c) (B.p (n + 3)))

/-- A buffer of weights, all stored, is what the next load reads. -/
theorem rowStep_run {s : Memref sig .tc .vmem S256x256 .f32} {p : Memref sig .tc .vmem S256x256 .bf16} {hp : p.IsWhole}
    {m : FVec F S1x256 .f32} {o : ℕ} {ho : o ≤ 192} {hk : (rR ho).PackedRows (EltTy.packing .bf16)} {K : PR α} {Q : α → sProp 𝕄}
    {S : FVec F S256x256 .f32} {X : FVec F S256x256 .bf16} :
    iprop(owns (c : Thread nD τ) s fullShare S ∗ owns (c : Thread nD τ) p fullShare (mix o (probOf S m) X)
        ∗ (owns (c : Thread nD τ) s fullShare S ∗ owns (c : Thread nD τ) p fullShare (mix (o + 64) (probOf S m) X)
          -∗ wp frame (wpE D 𝒱 (c : Thread nD τ) bd) E K Q))
      ⊢ wp frame (wpE D 𝒱 (c : Thread nD τ) bd) E (rowStep s p hp m ho hk K) Q := by
  unfold rowStep
  iintro ⟨Hs, Hp, Hk⟩
  iapply (load_slice_own (M := s) (X := S))
  isplitl [Hs]; · iexact Hs
  iintro Hs
  iapply (load_slice_own (M := p) (X := mix o (probOf S m) X))
  isplitl [Hp]; · iexact Hp
  iintro Hp
  iapply (store_own (M := p) (X := mix o (probOf S m) X) (X' := mix (o + 64) (probOf S m) X) ?_ ?_)
  · intro j
    show (if (((rR ho).idx j) 0).val < o + 64 then probOf S m ((rR ho).idx j) else X ((rR ho).idx j)) = _
    rw [if_pos (by rw [idx_r0]; have := (j 0).isLt; exact Nat.add_lt_add_left this o), ← expRows_eq ho]
    congr 1
    exact congrArg (fun Y : FVec F S256x256 .f32 => fun x => Y ((rR ho).idx x)) (ld_rF S).symm
  · intro i hi
    unfold mix
    by_cases h1 : (i 0).val < o
    · rw [if_pos h1, if_pos (by omega)]
    · by_cases h2 : (i 0).val < o + 64
      · exfalso
        refine hi (ValueIdx.ix2 (⟨(i 0).val - o, by omega⟩ : Fin 64) (i 1)) (funext fun a => Fin.ext ?_)
        fin_cases a
        · refine (idx_r0 ho _).trans ?_
          show o + ((i 0).val - o) = (i 0).val
          omega
        · exact (idx_r1 ho _)
      · rw [if_neg h1, if_neg h2]
  isplitl [Hp]; · iexact Hp
  iintro Hp
  iapply Hk
  isplitl [Hs]; · iexact Hs
  iexact Hp

theorem mix_zero {e : Type} (P X : S256x256.Idx → e) : mix 0 P X = X := funext fun _ => rfl

theorem mix_all {e : Type} (P X : S256x256.Idx → e) : mix (0 + 64 + 64 + 64 + 64) P X = P :=
  funext fun i => if_pos (i 0).isLt

theorem idx_rF (j : S256x256.Idx) : rF.idx j = j := funext fun a => Fin.ext (by
  fin_cases a
  · exact (Nat.zero_add _).trans (Nat.one_mul _)
  · exact (Nat.zero_add _).trans (Nat.one_mul _))

theorem ld_rF' {e : EltTy} (X : S256x256.Idx → Elt F e) : View.ld X rF = X := funext fun j => congrArg X (idx_rF j)

/-- A chunk's scores stored. -/
theorem writeScores_run {dKQ : DotDims S256x128 S256x128 S256x256} {k : Memref sig .tc .vmem S1x2x8448x128 .bf16}
    {hh n : ℕ} {hhh : hh < 2} {hn : n < 33} {q : FVec F S256x128 .bf16} {s : Memref sig .tc .vmem S256x256 .f32}
    {K : FVec F S1x256 .f32 → PR α} {Q : α → sProp 𝕄} {Kx : S1x2x8448x128.Idx → Elt F .bf16} :
    iprop(owns (c : Thread nD τ) k fullShare Kx ∗ any (F := F) (c := c) s
        ∗ (owns (c : Thread nD τ) k fullShare Kx ∗ owns (c : Thread nD τ) s fullShare (scoreSt dKQ (View.ld Kx (rK hhh hn)) q)
          -∗ wp frame (wpE D 𝒱 (c : Thread nD τ) bd) E (K (colMax (scoreOf dKQ (View.ld Kx (rK hhh hn)) q))) Q))
      ⊢ wp frame (wpE D 𝒱 (c : Thread nD τ) bd) E (writeScores dKQ k hhh hn q s K) Q := by
  unfold writeScores any
  iintro ⟨Hk, ⟨%X, Hs⟩, Hc⟩
  iapply (load_own (M := k) (X := Kx))
  isplitl [Hk]; · iexact Hk
  iintro Hk
  iapply (load_own (M := s) (X := X))
  isplitl [Hs]; · iexact Hs
  iintro Hs
  iapply (store_own (M := s) (X := X) (X' := scoreSt dKQ (View.ld Kx (rK hhh hn)) q) ?_ ?_)
  · intro j
    exact congrArg (scoreSt dKQ (View.ld Kx (rK hhh hn)) q) (idx_rF j)
  · intro i hi
    exact absurd (idx_rF i) (hi i)
  isplitl [Hs]; · iexact Hs
  iintro Hs
  iapply Hc
  isplitl [Hk]; · iexact Hk
  iexact Hs

/-- A chunk's weights stored and read back, with its values. -/
theorem softStep_run {v : Memref sig .tc .vmem S1x2x144x8448 .bf16} {hh n : ℕ} {hhh : hh < 2} {hn : n < 33}
    {s : Memref sig .tc .vmem S256x256 .f32} {p : Memref sig .tc .vmem S256x256 .bf16} {hp : p.IsWhole}
    {m : FVec F S1x256 .f32} {K : Vec F S1x1x144x256 .bf16 → FVec F S256x256 .bf16 → PR α} {Q : α → sProp 𝕄}
    {Vx : S1x2x144x8448.Idx → Elt F .bf16} {S : FVec F S256x256 .f32} :
    iprop(owns (c : Thread nD τ) v fullShare Vx ∗ owns (c : Thread nD τ) s fullShare S ∗ any (F := F) (c := c) p
        ∗ (owns (c : Thread nD τ) v fullShare Vx ∗ any (F := F) (c := c) s ∗ any (F := F) (c := c) p
          -∗ wp frame (wpE D 𝒱 (c : Thread nD τ) bd) E (K (View.ld Vx (rV hhh hn)) (probOf S m)) Q))
      ⊢ wp frame (wpE D 𝒱 (c : Thread nD τ) bd) E (softStep v hhh hn s p hp m K) Q := by
  unfold softStep any
  iintro ⟨Hv, Hs, ⟨%X, Hp⟩, Hc⟩
  iapply (rowStep_run (S := S) (X := X))
  isplitl [Hs]; · iexact Hs
  isplitl [Hp]; · rw [mix_zero]; iexact Hp
  iintro ⟨Hs, Hp⟩
  iapply (rowStep_run (S := S) (X := X))
  isplitl [Hs]; · iexact Hs
  isplitl [Hp]; · iexact Hp
  iintro ⟨Hs, Hp⟩
  iapply (rowStep_run (S := S) (X := X))
  isplitl [Hs]; · iexact Hs
  isplitl [Hp]; · iexact Hp
  iintro ⟨Hs, Hp⟩
  iapply (rowStep_run (S := S) (X := X))
  isplitl [Hs]; · iexact Hs
  isplitl [Hp]; · iexact Hp
  iintro ⟨Hs, Hp⟩
  unfold softLoads
  iapply (load_own (M := v) (X := Vx))
  isplitl [Hv]; · iexact Hv
  iintro Hv
  iapply (load_own (M := p) (X := probOf S m))
  isplitl [Hp]; · rw [mix_all]; iexact Hp
  iintro Hp
  rw [ld_rF']
  iapply Hc
  isplitl [Hv]; · iexact Hv
  isplitl [Hs]; · iexists _; iexact Hs
  iexists _; iexact Hp

/-! ## A stream -/

/-- The keys of chunk `n`. -/
def kAt {hh : ℕ} (hhh : hh < 2) (Kx : S1x2x8448x128.Idx → Elt F .bf16) (n : ℕ) : Vec F S1x1x256x128 .bf16 :=
  if h : n < 33 then View.ld Kx (rK hhh h) else View.ld Kx (rK (c := 0) hhh (by decide))

/-- The values of chunk `n`. -/
def vAt {hh : ℕ} (hhh : hh < 2) (Vx : S1x2x144x8448.Idx → Elt F .bf16) (n : ℕ) : Vec F S1x1x144x256 .bf16 :=
  if h : n < 33 then View.ld Vx (rV hhh h) else View.ld Vx (rV (c := 0) hhh (by decide))

theorem kAt_eq {hh n : ℕ} {hhh : hh < 2} {Kx : S1x2x8448x128.Idx → Elt F .bf16} (h : n < 33) :
    View.ld Kx (rK hhh h) = kAt hhh Kx n := by
  unfold kAt; rw [dif_pos h]
theorem vAt_eq {hh n : ℕ} {hhh : hh < 2} {Vx : S1x2x144x8448.Idx → Elt F .bf16} (h : n < 33) :
    View.ld Vx (rV hhh h) = vAt hhh Vx n := by
  unfold vAt; rw [dif_pos h]

section Stream

variable (dKQ : DotDims S256x128 S256x128 S256x256) (dPV : DotDims S144x256 S256x256 S144x256)
  (ks : ℕ → Vec F S1x1x256x128 .bf16) (vs : ℕ → Vec F S1x1x144x256 .bf16) (q : FVec F S256x128 .bf16)

/-- The scores of chunk `n`. -/
abbrev sc (n : ℕ) : FVec F S256x256 .f32 := scoreSt dKQ (ks n) q
/-- Their maxima. -/
abbrev cm (n : ℕ) : FVec F S1x256 .f32 := colMax (scoreOf dKQ (ks n) q)

/-- The running maximum after chunk `n`. -/
def mAt : ℕ → FVec F S1x256 .f32
  | 0 => cm dKQ ks q 0
  | n + 1 => maximumf (mAt n) (cm dKQ ks q (n + 1))

/-- The accumulator after chunk `n`. -/
def xAt : ℕ → FVec F S144x256 .f32
  | 0 => pvOf dPV (vs 0) (probOf (sc dKQ ks q 0) (mAt dKQ ks q 0))
  | n + 1 => accNext dPV (mAt dKQ ks q n) (mAt dKQ ks q (n + 1)) (xAt n) (vs (n + 1))
      (probOf (sc dKQ ks q (n + 1)) (mAt dKQ ks q (n + 1)))

/-- What the stream carries before chunk `n + 1`. -/
def stAt (n : ℕ) : St F := ⟨mAt dKQ ks q n, xAt dKQ dPV ks vs q n, cm dKQ ks q (n + 1), cm dKQ ks q (n + 2)⟩

end Stream

/-- The buffers come round after four. -/
def Bufs.Turn (B : Bufs sig) : Prop := ∀ n, B.s (n + 4) = B.s n ∧ B.p (n + 4) = B.p n

/-- A stream through a chunk in the middle. -/
theorem stepMid_run {dKQ : DotDims S256x128 S256x128 S256x256} {dPV : DotDims S144x256 S256x256 S144x256}
    {k : Memref sig .tc .vmem S1x2x8448x128 .bf16} {v : Memref sig .tc .vmem S1x2x144x8448 .bf16} {hh n : ℕ} {hhh : hh < 2} {hn : n + 2 < 33}
    {q : FVec F S256x128 .bf16} {B : Bufs sig} (hB : B.Turn) {m : FVec F S1x256 .f32} {acc : FVec F S144x256 .f32} {a : FVec F S1x256 .f32}
    {K : FVec F S1x256 .f32 → FVec F S144x256 .f32 → FVec F S1x256 .f32 → PR α} {Q : α → sProp 𝕄}
    {Kx : S1x2x8448x128.Idx → Elt F .bf16} {Vx : S1x2x144x8448.Idx → Elt F .bf16} {X Y : FVec F S256x256 .f32} :
    iprop(kv (c := c) k v Kx Vx ∗ two (c := c) B n X Y
        ∗ (kv (c := c) k v Kx Vx ∗ two (c := c) B (n + 1) Y (scoreSt dKQ (kAt hhh Kx (n + 2)) q)
          -∗ wp frame (wpE D 𝒱 (c : Thread nD τ) bd) E (K (maximumf m a)
            (accNext dPV m (maximumf m a) acc (vAt hhh Vx n) (probOf X (maximumf m a))) (colMax (scoreOf dKQ (kAt hhh Kx (n + 2)) q))) Q))
      ⊢ wp frame (wpE D 𝒱 (c : Thread nD τ) bd) E (stepMid dKQ dPV k v hhh n hn q B m acc a K) Q := by
  unfold stepMid kv two
  rw [show n + 1 + 3 = n + 4 from rfl, (hB n).1, (hB n).2, ← kAt_eq hn, ← vAt_eq (by omega : n < 33)]
  iintro ⟨⟨Hk, Hv⟩, ⟨H0, H1, H2, H3, P0, P1, P2, P3⟩, Hc⟩
  iapply (writeScores_run (Kx := Kx))
  isplitl [Hk]; · iexact Hk
  isplitl [H2]; · iexact H2
  iintro ⟨Hk, H2⟩
  iapply (softStep_run (Vx := Vx) (S := X))
  isplitl [Hv]; · iexact Hv
  isplitl [H0]; · iexact H0
  isplitl [P0]; · iexact P0
  iintro ⟨Hv, H0, P0⟩
  iapply Hc
  isplitl [Hk Hv]
  · isplitl [Hk]; · iexact Hk
    iexact Hv
  isplitl [H1]; · iexact H1
  isplitl [H2]; · iexact H2
  isplitl [H3]; · iexact H3
  isplitl [H0]; · iexact H0
  isplitl [P1]; · iexact P1
  isplitl [P2]; · iexact P2
  isplitl [P3]; · iexact P3
  iexact P0

/-- A stream through the first chunk. -/
theorem stepFirst_run {dKQ : DotDims S256x128 S256x128 S256x256} {dPV : DotDims S144x256 S256x256 S144x256}
    {k : Memref sig .tc .vmem S1x2x8448x128 .bf16} {v : Memref sig .tc .vmem S1x2x144x8448 .bf16} {hh : ℕ} {hhh : hh < 2}
    {q : FVec F S256x128 .bf16} {B : Bufs sig} (hB : B.Turn) {a : FVec F S1x256 .f32}
    {K : FVec F S144x256 .f32 → FVec F S1x256 .f32 → PR α} {Q : α → sProp 𝕄}
    {Kx : S1x2x8448x128.Idx → Elt F .bf16} {Vx : S1x2x144x8448.Idx → Elt F .bf16} {X Y : FVec F S256x256 .f32} :
    iprop(kv (c := c) k v Kx Vx ∗ two (c := c) B 0 X Y
        ∗ (kv (c := c) k v Kx Vx ∗ two (c := c) B 1 Y (scoreSt dKQ (kAt hhh Kx 2) q)
          -∗ wp frame (wpE D 𝒱 (c : Thread nD τ) bd) E (K (pvOf dPV (vAt hhh Vx 0) (probOf X a)) (colMax (scoreOf dKQ (kAt hhh Kx 2) q))) Q))
      ⊢ wp frame (wpE D 𝒱 (c : Thread nD τ) bd) E (stepFirst dKQ dPV k v hhh q B a K) Q := by
  unfold stepFirst kv two
  rw [show 1 + 3 = 0 + 4 from rfl, (hB 0).1, (hB 0).2, ← kAt_eq (by omega : 2 < 33), ← vAt_eq (by omega : 0 < 33)]
  iintro ⟨⟨Hk, Hv⟩, ⟨H0, H1, H2, H3, P0, P1, P2, P3⟩, Hc⟩
  iapply (writeScores_run (Kx := Kx))
  isplitl [Hk]; · iexact Hk
  isplitl [H2]; · iexact H2
  iintro ⟨Hk, H2⟩
  iapply (softStep_run (Vx := Vx) (S := X))
  isplitl [Hv]; · iexact Hv
  isplitl [H0]; · iexact H0
  isplitl [P0]; · iexact P0
  iintro ⟨Hv, H0, P0⟩
  iapply Hc
  isplitl [Hk Hv]
  · isplitl [Hk]; · iexact Hk
    iexact Hv
  isplitl [H1]; · iexact H1
  isplitl [H2]; · iexact H2
  isplitl [H3]; · iexact H3
  isplitl [H0]; · iexact H0
  isplitl [P1]; · iexact P1
  isplitl [P2]; · iexact P2
  isplitl [P3]; · iexact P3
  iexact P0

/-- A stream's buffers at some contents. -/
def free (B : Bufs sig) (n : ℕ) : sProp 𝕄 :=
  iprop(any (F := F) (c := c) (B.s n) ∗ any (F := F) (c := c) (B.s (n + 1))
    ∗ any (F := F) (c := c) (B.s (n + 2)) ∗ any (F := F) (c := c) (B.s (n + 3))
    ∗ any (F := F) (c := c) (B.p n) ∗ any (F := F) (c := c) (B.p (n + 1)) ∗ any (F := F) (c := c) (B.p (n + 2)) ∗ any (F := F) (c := c) (B.p (n + 3)))

/-- A stream's buffers with the scores of chunk `n + 1` alone. -/
def one (B : Bufs sig) (n : ℕ) (Y : FVec F S256x256 .f32) : sProp 𝕄 :=
  iprop(any (F := F) (c := c) (B.s n) ∗ owns (c : Thread nD τ) (B.s (n + 1)) fullShare Y
    ∗ any (F := F) (c := c) (B.s (n + 2)) ∗ any (F := F) (c := c) (B.s (n + 3))
    ∗ any (F := F) (c := c) (B.p n) ∗ any (F := F) (c := c) (B.p (n + 1)) ∗ any (F := F) (c := c) (B.p (n + 2)) ∗ any (F := F) (c := c) (B.p (n + 3)))

/-- A stream through the last chunk but one. -/
theorem stepLast_run {dPV : DotDims S144x256 S256x256 S144x256}
    {k : Memref sig .tc .vmem S1x2x8448x128 .bf16} {v : Memref sig .tc .vmem S1x2x144x8448 .bf16} {hh n : ℕ} {hhh : hh < 2} {hn : n < 33}
    {B : Bufs sig} {m : FVec F S1x256 .f32} {acc : FVec F S144x256 .f32} {a : FVec F S1x256 .f32}
    {K : FVec F S1x256 .f32 → FVec F S144x256 .f32 → PR α} {Q : α → sProp 𝕄}
    {Kx : S1x2x8448x128.Idx → Elt F .bf16} {Vx : S1x2x144x8448.Idx → Elt F .bf16} {X Y : FVec F S256x256 .f32} :
    iprop(kv (c := c) k v Kx Vx ∗ two (c := c) B n X Y
        ∗ (kv (c := c) k v Kx Vx ∗ one (c := c) B n Y
          -∗ wp frame (wpE D 𝒱 (c : Thread nD τ) bd) E (K (maximumf m a)
            (accNext dPV m (maximumf m a) acc (vAt hhh Vx n) (probOf X (maximumf m a)))) Q))
      ⊢ wp frame (wpE D 𝒱 (c : Thread nD τ) bd) E (stepLast dPV v hhh n hn B m acc a K) Q := by
  unfold stepLast kv two one
  rw [← vAt_eq hn]
  iintro ⟨⟨Hk, Hv⟩, ⟨H0, H1, H2, H3, P0, P1, P2, P3⟩, Hc⟩
  iapply (softStep_run (Vx := Vx) (S := X))
  isplitl [Hv]; · iexact Hv
  isplitl [H0]; · iexact H0
  isplitl [P0]; · iexact P0
  iintro ⟨Hv, H0, P0⟩
  iapply Hc
  isplitl [Hk Hv]
  · isplitl [Hk]; · iexact Hk
    iexact Hv
  isplitl [H0]; · iexact H0
  isplitl [H1]; · iexact H1
  isplitl [H2]; · iexact H2
  isplitl [H3]; · iexact H3
  isplitl [P0]; · iexact P0
  isplitl [P1]; · iexact P1
  isplitl [P2]; · iexact P2
  iexact P3

/-- A stream through the last chunk. -/
theorem stepEnd_run {dPV : DotDims S144x256 S256x256 S144x256}
    {k : Memref sig .tc .vmem S1x2x8448x128 .bf16} {v : Memref sig .tc .vmem S1x2x144x8448 .bf16} {hh n : ℕ} {hhh : hh < 2} {hn : n + 1 < 33}
    {B : Bufs sig} {m : FVec F S1x256 .f32} {acc : FVec F S144x256 .f32} {a : FVec F S1x256 .f32}
    {K : FVec F S1x256 .f32 → FVec F S144x256 .f32 → PR α} {Q : α → sProp 𝕄}
    {Kx : S1x2x8448x128.Idx → Elt F .bf16} {Vx : S1x2x144x8448.Idx → Elt F .bf16} {Y : FVec F S256x256 .f32} :
    iprop(kv (c := c) k v Kx Vx ∗ one (c := c) B n Y
        ∗ (kv (c := c) k v Kx Vx ∗ free (F := F) (c := c) B n
          -∗ wp frame (wpE D 𝒱 (c : Thread nD τ) bd) E (K (maximumf m a)
            (accNext dPV m (maximumf m a) acc (vAt hhh Vx (n + 1)) (probOf Y (maximumf m a)))) Q))
      ⊢ wp frame (wpE D 𝒱 (c : Thread nD τ) bd) E (stepLast dPV v hhh (n + 1) hn B m acc a K) Q := by
  unfold stepLast kv one free
  rw [← vAt_eq hn]
  iintro ⟨⟨Hk, Hv⟩, ⟨H0, H1, H2, H3, P0, P1, P2, P3⟩, Hc⟩
  iapply (softStep_run (Vx := Vx) (S := Y))
  isplitl [Hv]; · iexact Hv
  isplitl [H1]; · iexact H1
  isplitl [P1]; · iexact P1
  iintro ⟨Hv, H1, P1⟩
  iapply Hc
  isplitl [Hk Hv]
  · isplitl [Hk]; · iexact Hk
    iexact Hv
  isplitl [H0]; · iexact H0
  isplitl [H1]; · iexact H1
  isplitl [H2]; · iexact H2
  isplitl [H3]; · iexact H3
  isplitl [P0]; · iexact P0
  isplitl [P1]; · iexact P1
  isplitl [P2]; · iexact P2
  iexact P3

theorem Bufs.Turn.at {B : Bufs sig} (hB : B.Turn) (n : ℕ) : ∀ k, B.s (n + 4 * k) = B.s n ∧ B.p (n + 4 * k) = B.p n
  | 0 => ⟨rfl, rfl⟩
  | k + 1 => ⟨(hB (n + 4 * k)).1.trans (hB.at n k).1, (hB (n + 4 * k)).2.trans (hB.at n k).2⟩

/-- After the last chunk the buffers are the stream's again. -/
theorem free_turn {B : Bufs sig} (hB : B.Turn) : free (F := F) (Ix := Ix) (Name := Name) (U := U) (Lvl := Lvl) (τ := τ) (c := c) B 31 ⊢ free (F := F) (c := c) B 0 := by
  unfold free
  rw [show B.s 31 = B.s 3 from (hB.at 3 7).1, show B.s (31 + 1) = B.s 0 from (hB.at 0 8).1, show B.s (31 + 2) = B.s 1 from (hB.at 1 8).1,
    show B.s (31 + 3) = B.s 2 from (hB.at 2 8).1, show B.p 31 = B.p 3 from (hB.at 3 7).2, show B.p (31 + 1) = B.p 0 from (hB.at 0 8).2,
    show B.p (31 + 2) = B.p 1 from (hB.at 1 8).2, show B.p (31 + 3) = B.p 2 from (hB.at 2 8).2]
  iintro ⟨H3, H0, H1, H2, P3, P0, P1, P2⟩
  isplitl [H0]; · iexact H0
  isplitl [H1]; · iexact H1
  isplitl [H2]; · iexact H2
  isplitl [H3]; · iexact H3
  isplitl [P0]; · iexact P0
  isplitl [P1]; · iexact P1
  isplitl [P2]; · iexact P2
  iexact P3

/-! ## The four streams -/

section Head

variable {dKQ : DotDims S256x128 S256x128 S256x256} {dPV : DotDims S144x256 S256x256 S144x256}
  {k : Memref sig .tc .vmem S1x2x8448x128 .bf16} {v : Memref sig .tc .vmem S1x2x144x8448 .bf16} {hh : ℕ} {hhh : hh < 2}
  {q0 q1 q2 q3 : FVec F S256x128 .bf16} {B0 B1 B2 B3 : Bufs sig}
  {Kx : S1x2x8448x128.Idx → Elt F .bf16} {Vx : S1x2x144x8448.Idx → Elt F .bf16}

variable (dKQ q0 q1 q2 q3 B0 B1 B2 B3) in
/-- The four streams' buffers before chunk `n`. -/
def four (ks : ℕ → Vec F S1x1x256x128 .bf16) (n : ℕ) : sProp 𝕄 :=
  iprop(two (c := c) B0 n (sc dKQ ks q0 n) (sc dKQ ks q0 (n + 1)) ∗ two (c := c) B1 n (sc dKQ ks q1 n) (sc dKQ ks q1 (n + 1))
    ∗ two (c := c) B2 n (sc dKQ ks q2 n) (sc dKQ ks q2 (n + 1)) ∗ two (c := c) B3 n (sc dKQ ks q3 n) (sc dKQ ks q3 (n + 1)))

theorem chunks_run (h0 : B0.Turn) (h1 : B1.Turn) (h2 : B2.Turn) (h3 : B3.Turn) {K : St F → St F → St F → St F → PR α} {Q : α → sProp 𝕄} :
    ∀ (n i : ℕ) (hi : i + 1 + n ≤ 31) (e : ℕ) (he : e = i + n),
    iprop(kv (c := c) k v Kx Vx ∗ four (c := c) dKQ q0 q1 q2 q3 B0 B1 B2 B3 (kAt hhh Kx) (i + 1)
        ∗ (kv (c := c) k v Kx Vx ∗ four (c := c) dKQ q0 q1 q2 q3 B0 B1 B2 B3 (kAt hhh Kx) (e + 1)
          -∗ wp frame (wpE D 𝒱 (c : Thread nD τ) bd) E (K (stAt dKQ dPV (kAt hhh Kx) (vAt hhh Vx) q0 e) (stAt dKQ dPV (kAt hhh Kx) (vAt hhh Vx) q1 e)
            (stAt dKQ dPV (kAt hhh Kx) (vAt hhh Vx) q2 e) (stAt dKQ dPV (kAt hhh Kx) (vAt hhh Vx) q3 e)) Q))
      ⊢ wp frame (wpE D 𝒱 (c : Thread nD τ) bd) E (chunks dKQ dPV k v hhh q0 q1 q2 q3 B0 B1 B2 B3 K n (i + 1) hi
          (stAt dKQ dPV (kAt hhh Kx) (vAt hhh Vx) q0 i) (stAt dKQ dPV (kAt hhh Kx) (vAt hhh Vx) q1 i)
          (stAt dKQ dPV (kAt hhh Kx) (vAt hhh Vx) q2 i) (stAt dKQ dPV (kAt hhh Kx) (vAt hhh Vx) q3 i)) Q := by
  intro n
  induction n with
  | zero =>
    intro i hi e he
    obtain rfl : e = i := he
    unfold chunks
    iintro ⟨Hkv, H, Hc⟩
    iapply Hc
    isplitl [Hkv]; · iexact Hkv
    iexact H
  | succ n ih =>
    intro i hi e he
    have ih := ih (i + 1) (by omega) e (by omega)
    conv => rhs; unfold stAt chunks
    iintro ⟨Hkv, H, Hc⟩
    unfold four
    icases H with ⟨H0, H1, H2, H3⟩
    iapply (stepMid_run h0 (Kx := Kx) (Vx := Vx))
    isplitl [Hkv]; · iexact Hkv
    isplitl [H0]; · iexact H0
    iintro ⟨Hkv, H0⟩
    iapply (stepMid_run h1 (Kx := Kx) (Vx := Vx))
    isplitl [Hkv]; · iexact Hkv
    isplitl [H1]; · iexact H1
    iintro ⟨Hkv, H1⟩
    iapply (stepMid_run h2 (Kx := Kx) (Vx := Vx))
    isplitl [Hkv]; · iexact Hkv
    isplitl [H2]; · iexact H2
    iintro ⟨Hkv, H2⟩
    iapply (stepMid_run h3 (Kx := Kx) (Vx := Vx))
    isplitl [Hkv]; · iexact Hkv
    isplitl [H3]; · iexact H3
    iintro ⟨Hkv, H3⟩
    iapply ih
    isplitl [Hkv]; · iexact Hkv
    isplitl [H0 H1 H2 H3]
    · unfold four
      isplitl [H0]; · iexact H0
      isplitl [H1]; · iexact H1
      isplitl [H2]; · iexact H2
      iexact H3
    iexact Hc

variable (B0 B1 B2 B3) in
/-- The four streams' buffers at some contents. -/
def frees : sProp 𝕄 :=
  iprop(free (F := F) (c := c) B0 0 ∗ free (F := F) (c := c) B1 0 ∗ free (F := F) (c := c) B2 0 ∗ free (F := F) (c := c) B3 0)

theorem tail_run (h0 : B0.Turn) (h1 : B1.Turn) (h2 : B2.Turn) (h3 : B3.Turn)
    {K : FVec F S144x256 .f32 → FVec F S144x256 .f32 → FVec F S144x256 .f32 → FVec F S144x256 .f32 → PR α} {Q : α → sProp 𝕄} :
    iprop(kv (c := c) k v Kx Vx ∗ four (c := c) dKQ q0 q1 q2 q3 B0 B1 B2 B3 (kAt hhh Kx) 31
        ∗ (kv (c := c) k v Kx Vx ∗ frees (F := F) (c := c) B0 B1 B2 B3
          -∗ wp frame (wpE D 𝒱 (c : Thread nD τ) bd) E (K (xAt dKQ dPV (kAt hhh Kx) (vAt hhh Vx) q0 32) (xAt dKQ dPV (kAt hhh Kx) (vAt hhh Vx) q1 32)
            (xAt dKQ dPV (kAt hhh Kx) (vAt hhh Vx) q2 32) (xAt dKQ dPV (kAt hhh Kx) (vAt hhh Vx) q3 32)) Q))
      ⊢ wp frame (wpE D 𝒱 (c : Thread nD τ) bd) E (tailOf dPV v hhh B0 B1 B2 B3 K
          (stAt dKQ dPV (kAt hhh Kx) (vAt hhh Vx) q0 30) (stAt dKQ dPV (kAt hhh Kx) (vAt hhh Vx) q1 30)
          (stAt dKQ dPV (kAt hhh Kx) (vAt hhh Vx) q2 30) (stAt dKQ dPV (kAt hhh Kx) (vAt hhh Vx) q3 30)) Q := by
  unfold stAt tailOf four
  iintro ⟨Hkv, ⟨H0, H1, H2, H3⟩, Hc⟩
  iapply (stepLast_run (k := k) (Kx := Kx) (Vx := Vx))
  isplitl [Hkv]; · iexact Hkv
  isplitl [H0]; · iexact H0
  iintro ⟨Hkv, H0⟩
  iapply (stepLast_run (k := k) (Kx := Kx) (Vx := Vx))
  isplitl [Hkv]; · iexact Hkv
  isplitl [H1]; · iexact H1
  iintro ⟨Hkv, H1⟩
  iapply (stepLast_run (k := k) (Kx := Kx) (Vx := Vx))
  isplitl [Hkv]; · iexact Hkv
  isplitl [H2]; · iexact H2
  iintro ⟨Hkv, H2⟩
  iapply (stepLast_run (k := k) (Kx := Kx) (Vx := Vx))
  isplitl [Hkv]; · iexact Hkv
  isplitl [H3]; · iexact H3
  iintro ⟨Hkv, H3⟩
  iapply (stepEnd_run (n := 31) (k := k) (Kx := Kx) (Vx := Vx))
  isplitl [Hkv]; · iexact Hkv
  isplitl [H0]; · iexact H0
  iintro ⟨Hkv, H0⟩
  iapply (stepEnd_run (n := 31) (k := k) (Kx := Kx) (Vx := Vx))
  isplitl [Hkv]; · iexact Hkv
  isplitl [H1]; · iexact H1
  iintro ⟨Hkv, H1⟩
  iapply (stepEnd_run (n := 31) (k := k) (Kx := Kx) (Vx := Vx))
  isplitl [Hkv]; · iexact Hkv
  isplitl [H2]; · iexact H2
  iintro ⟨Hkv, H2⟩
  iapply (stepEnd_run (n := 31) (k := k) (Kx := Kx) (Vx := Vx))
  isplitl [Hkv]; · iexact Hkv
  isplitl [H3]; · iexact H3
  iintro ⟨Hkv, H3⟩
  iapply Hc
  isplitl [Hkv]; · iexact Hkv
  unfold frees
  isplitl [H0]; · iapply (free_turn h0); iexact H0
  isplitl [H1]; · iapply (free_turn h1); iexact H1
  isplitl [H2]; · iapply (free_turn h2); iexact H2
  iapply (free_turn h3); iexact H3

end Head

/-! ## A head and the body -/

/-- The output block with head `hh` written. -/
def putO {e : Type} (hh : ℕ) (y : S1x1x128x512.Idx → e) (X : S1x2x128x512.Idx → e) : S1x2x128x512.Idx → e :=
  fun i => if (i 1).val = hh then y (ValueIdx.ix4 (0 : Fin 1) (0 : Fin 1) (i 2) (i 3)) else X i

theorem idx_rO {hh : ℕ} (hhh : hh < 2) (j : S1x1x128x512.Idx) (a : Fin 4) :
    (((rO hhh).idx j) a).val = (![0, hh, 0, 0] : Fin 4 → ℕ) a + (j a).val :=
  congrArg (_ + ·) (Nat.one_mul _)

theorem idx_rW (j : S128x1.Idx) : rW.idx j = j := funext fun a => Fin.ext (by
  fin_cases a
  · exact (Nat.zero_add _).trans (Nat.one_mul _)
  · exact (Nat.zero_add _).trans (Nat.one_mul _))

theorem finish_run {w : Memref sig .tc .vmem S128x1 .f32} {o : Memref sig .tc .vmem S1x2x128x512 .bf16} {ho : o.IsWhole}
    {hh : ℕ} {hhh : hh < 2} {lam : FVec F S1x1 .f32} {x0 x1 x2 x3 : FVec F S144x256 .f32} {K : PR α} {Q : α → sProp 𝕄}
    {Wx : S128x1.Idx → Elt F .f32} {X : S1x2x128x512.Idx → Elt F .bf16} :
    iprop(owns (c : Thread nD τ) w fullShare Wx ∗ owns (c : Thread nD τ) o fullShare X
        ∗ (owns (c : Thread nD τ) w fullShare Wx ∗ owns (c : Thread nD τ) o fullShare (putO hh (outOf lam x0 x1 x2 x3 Wx) X)
          -∗ wp frame (wpE D 𝒱 (c : Thread nD τ) bd) E K Q))
      ⊢ wp frame (wpE D 𝒱 (c : Thread nD τ) bd) E (finish w o ho hhh lam x0 x1 x2 x3 K) Q := by
  have hW : View.ld (Val := Elt F) (e' := .f32) Wx rW = Wx := funext fun j => congrArg Wx (idx_rW j)
  unfold finish
  iintro ⟨Hw, Ho, Hc⟩
  iapply (load_own (M := w) (X := Wx))
  isplitl [Hw]; · iexact Hw
  iintro Hw
  iapply (load_own (M := o) (X := X))
  isplitl [Ho]; · iexact Ho
  iintro Ho
  rw [hW]
  iapply (store_own (M := o) (X := X) (X' := putO hh (outOf lam x0 x1 x2 x3 Wx) X) ?_ ?_)
  · intro j
    unfold putO
    have h1 : (j 1).val = 0 := by have := (j 1).isLt; exact Nat.lt_one_iff.mp this
    have h0 : (j 0).val = 0 := by have := (j 0).isLt; exact Nat.lt_one_iff.mp this
    rw [if_pos ((idx_rO hhh j 1).trans (by rw [h1]; rfl))]
    refine congrArg (outOf lam x0 x1 x2 x3 Wx) (funext fun a => Fin.ext ?_)
    fin_cases a
    · exact h0.symm
    · exact h1.symm
    · exact (idx_rO hhh j 2).trans (Nat.zero_add _)
    · exact (idx_rO hhh j 3).trans (Nat.zero_add _)
  · intro i hi
    unfold putO
    refine if_neg fun h => hi (ValueIdx.ix4 (0 : Fin 1) (0 : Fin 1) (i 2) (i 3)) (funext fun a => Fin.ext ?_)
    refine (idx_rO hhh _ a).trans ?_
    fin_cases a
    · have := (i 0).isLt; exact (Nat.lt_one_iff.mp this).symm
    · exact h.symm
    · exact Nat.zero_add _
    · exact Nat.zero_add _
  isplitl [Ho]; · iexact Ho
  iintro Ho
  iapply Hc
  isplitl [Hw]; · iexact Hw
  iexact Ho

section Body

variable {dKQ : DotDims S256x128 S256x128 S256x256} {dPV : DotDims S144x256 S256x256 S144x256}
  {qa qb : Memref sig .tc .vmem S1x256x256 .bf16}
  {k : Memref sig .tc .vmem S1x2x8448x128 .bf16} {v : Memref sig .tc .vmem S1x2x144x8448 .bf16} {l : Memref sig .tc .vmem S4x64 .f32}
  {w : Memref sig .tc .vmem S128x1 .f32} {o : Memref sig .tc .vmem S1x2x128x512 .bf16} {ho : o.IsWhole}
  {Qa Qb : S1x256x256.Idx → Elt F .bf16} {Kx : S1x2x8448x128.Idx → Elt F .bf16} {Vx : S1x2x144x8448.Idx → Elt F .bf16}
  {Lx : S4x64.Idx → Elt F .f32} {Wx : S128x1.Idx → Elt F .f32}

variable (dKQ dPV Qa Qb Kx Vx Wx) in
/-- What a head stores. -/
def headVal {hh : ℕ} (hhh : hh < 2) (lam : FVec F S1x1 .f32) : FVec F S1x1x128x512 .bf16 :=
  outOf lam (xAt dKQ dPV (kAt hhh Kx) (vAt hhh Vx) (qHalf 0#32 (View.ld Qa (rQ hhh))) 32) (xAt dKQ dPV (kAt hhh Kx) (vAt hhh Vx) (qHalf 0#32 (View.ld Qb (rQ hhh))) 32)
    (xAt dKQ dPV (kAt hhh Kx) (vAt hhh Vx) (qHalf 1#32 (View.ld Qa (rQ hhh))) 32) (xAt dKQ dPV (kAt hhh Kx) (vAt hhh Vx) (qHalf 1#32 (View.ld Qb (rQ hhh))) 32) Wx

/-- The weight of the second softmax. -/
def lamVal (Lx : S4x64.Idx → Elt F .f32) : FVec F S1x1 .f32 :=
  lamOf (View.ld Lx (rL (r := 0) (by decide))) (View.ld Lx (rL (r := 1) (by decide))) (View.ld Lx (rL (r := 2) (by decide))) (View.ld Lx (rL (r := 3) (by decide)))

variable (dKQ dPV Qa Qb Kx Vx Lx Wx) in
/-- The block the body leaves. -/
def outBlk : S1x2x128x512.Idx → Elt F .bf16 := fun i =>
  if (i 1).val = 0 then headVal dKQ dPV Qa Qb Kx Vx Wx (hh := 0) (by decide) (lamVal Lx) (ValueIdx.ix4 (0 : Fin 1) (0 : Fin 1) (i 2) (i 3))
  else headVal dKQ dPV Qa Qb Kx Vx Wx (hh := 1) (by decide) (lamVal Lx) (ValueIdx.ix4 (0 : Fin 1) (0 : Fin 1) (i 2) (i 3))

theorem put_put {e : Type} (y0 y1 : S1x1x128x512.Idx → e) (X : S1x2x128x512.Idx → e) (i : S1x2x128x512.Idx) :
    putO 1 y1 (putO 0 y0 X) i = if (i 1).val = 0 then y0 (ValueIdx.ix4 (0 : Fin 1) (0 : Fin 1) (i 2) (i 3)) else y1 (ValueIdx.ix4 (0 : Fin 1) (0 : Fin 1) (i 2) (i 3)) := by
  unfold putO
  have := (i 1).isLt
  by_cases h : (i 1).val = 0
  · rw [if_neg (by omega), if_pos h, if_pos h]
  · rw [if_pos (by have : (i 1).val < 2 := this; omega), if_neg h]

theorem head_run {hh : ℕ} {hhh : hh < 2} {B0 B1 B2 B3 : Bufs sig} (h0 : B0.Turn) (h1 : B1.Turn) (h2 : B2.Turn) (h3 : B3.Turn)
    {lam : FVec F S1x1 .f32} {X : S1x2x128x512.Idx → Elt F .bf16} {K : PR α} {Q : α → sProp 𝕄} :
    iprop(owns (c : Thread nD τ) qa fullShare Qa ∗ owns (c : Thread nD τ) qb fullShare Qb ∗ kv (c := c) k v Kx Vx
        ∗ owns (c : Thread nD τ) w fullShare Wx ∗ owns (c : Thread nD τ) o fullShare X ∗ frees (F := F) (c := c) B0 B1 B2 B3
        ∗ (owns (c : Thread nD τ) qa fullShare Qa ∗ owns (c : Thread nD τ) qb fullShare Qb ∗ kv (c := c) k v Kx Vx
            ∗ owns (c : Thread nD τ) w fullShare Wx ∗ owns (c : Thread nD τ) o fullShare (putO hh (headVal dKQ dPV Qa Qb Kx Vx Wx hhh lam) X)
            ∗ frees (F := F) (c := c) B0 B1 B2 B3
          -∗ wp frame (wpE D 𝒱 (c : Thread nD τ) bd) E K Q))
      ⊢ wp frame (wpE D 𝒱 (c : Thread nD τ) bd) E (headOf dKQ dPV qa qb k v w o ho hhh lam B0 B1 B2 B3 K) Q := by
  unfold headOf frees headVal
  conv => lhs; unfold kv free
  iintro ⟨Ha, Hb, ⟨Hk, Hv⟩, Hw, Ho, ⟨⟨S00, S01, S02, S03, P00, P01, P02, P03⟩, ⟨S10, S11, S12, S13, P10, P11, P12, P13⟩,
    ⟨S20, S21, S22, S23, P20, P21, P22, P23⟩, ⟨S30, S31, S32, S33, P30, P31, P32, P33⟩⟩, Hc⟩
  iapply (load_own (M := qa) (X := Qa))
  isplitl [Ha]; · iexact Ha
  iintro Ha
  iapply (load_own (M := qb) (X := Qb))
  isplitl [Hb]; · iexact Hb
  iintro Hb
  iapply (load_own (M := qa) (X := Qa))
  isplitl [Ha]; · iexact Ha
  iintro Ha
  iapply (load_own (M := qb) (X := Qb))
  isplitl [Hb]; · iexact Hb
  iintro Hb
  iapply (writeScores_run (Kx := Kx))
  isplitl [Hk]; · iexact Hk
  isplitl [S00]; · iexact S00
  iintro ⟨Hk, S00⟩
  iapply (writeScores_run (Kx := Kx))
  isplitl [Hk]; · iexact Hk
  isplitl [S10]; · iexact S10
  iintro ⟨Hk, S10⟩
  iapply (writeScores_run (Kx := Kx))
  isplitl [Hk]; · iexact Hk
  isplitl [S20]; · iexact S20
  iintro ⟨Hk, S20⟩
  iapply (writeScores_run (Kx := Kx))
  isplitl [Hk]; · iexact Hk
  isplitl [S30]; · iexact S30
  iintro ⟨Hk, S30⟩
  iapply (writeScores_run (Kx := Kx))
  isplitl [Hk]; · iexact Hk
  isplitl [S01]; · iexact S01
  iintro ⟨Hk, S01⟩
  iapply (writeScores_run (Kx := Kx))
  isplitl [Hk]; · iexact Hk
  isplitl [S11]; · iexact S11
  iintro ⟨Hk, S11⟩
  iapply (writeScores_run (Kx := Kx))
  isplitl [Hk]; · iexact Hk
  isplitl [S21]; · iexact S21
  iintro ⟨Hk, S21⟩
  iapply (writeScores_run (Kx := Kx))
  isplitl [Hk]; · iexact Hk
  isplitl [S31]; · iexact S31
  iintro ⟨Hk, S31⟩
  rw [kAt_eq (by decide : 0 < 33), kAt_eq (by decide : 1 < 33)]
  iapply (stepFirst_run h0 (Kx := Kx) (Vx := Vx) (X := sc dKQ (kAt hhh Kx) (qHalf 0#32 (View.ld Qa (rQ hhh))) 0) (Y := sc dKQ (kAt hhh Kx) (qHalf 0#32 (View.ld Qa (rQ hhh))) 1))
  isplitl [Hk Hv]
  · unfold kv
    isplitl [Hk]; · iexact Hk
    iexact Hv
  isplitl [S00 S01 S02 S03 P00 P01 P02 P03]
  · unfold two
    isplitl [S00]; · iexact S00
    isplitl [S01]; · iexact S01
    isplitl [S02]; · iexact S02
    isplitl [S03]; · iexact S03
    isplitl [P00]; · iexact P00
    isplitl [P01]; · iexact P01
    isplitl [P02]; · iexact P02
    iexact P03
  iintro ⟨Hkv, T0⟩
  iapply (stepFirst_run h1 (Kx := Kx) (Vx := Vx) (X := sc dKQ (kAt hhh Kx) (qHalf 0#32 (View.ld Qb (rQ hhh))) 0) (Y := sc dKQ (kAt hhh Kx) (qHalf 0#32 (View.ld Qb (rQ hhh))) 1))
  isplitl [Hkv]; · iexact Hkv
  isplitl [S10 S11 S12 S13 P10 P11 P12 P13]
  · unfold two
    isplitl [S10]; · iexact S10
    isplitl [S11]; · iexact S11
    isplitl [S12]; · iexact S12
    isplitl [S13]; · iexact S13
    isplitl [P10]; · iexact P10
    isplitl [P11]; · iexact P11
    isplitl [P12]; · iexact P12
    iexact P13
  iintro ⟨Hkv, T1⟩
  iapply (stepFirst_run h2 (Kx := Kx) (Vx := Vx) (X := sc dKQ (kAt hhh Kx) (qHalf 1#32 (View.ld Qa (rQ hhh))) 0) (Y := sc dKQ (kAt hhh Kx) (qHalf 1#32 (View.ld Qa (rQ hhh))) 1))
  isplitl [Hkv]; · iexact Hkv
  isplitl [S20 S21 S22 S23 P20 P21 P22 P23]
  · unfold two
    isplitl [S20]; · iexact S20
    isplitl [S21]; · iexact S21
    isplitl [S22]; · iexact S22
    isplitl [S23]; · iexact S23
    isplitl [P20]; · iexact P20
    isplitl [P21]; · iexact P21
    isplitl [P22]; · iexact P22
    iexact P23
  iintro ⟨Hkv, T2⟩
  iapply (stepFirst_run h3 (Kx := Kx) (Vx := Vx) (X := sc dKQ (kAt hhh Kx) (qHalf 1#32 (View.ld Qb (rQ hhh))) 0) (Y := sc dKQ (kAt hhh Kx) (qHalf 1#32 (View.ld Qb (rQ hhh))) 1))
  isplitl [Hkv]; · iexact Hkv
  isplitl [S30 S31 S32 S33 P30 P31 P32 P33]
  · unfold two
    isplitl [S30]; · iexact S30
    isplitl [S31]; · iexact S31
    isplitl [S32]; · iexact S32
    isplitl [S33]; · iexact S33
    isplitl [P30]; · iexact P30
    isplitl [P31]; · iexact P31
    isplitl [P32]; · iexact P32
    iexact P33
  iintro ⟨Hkv, T3⟩
  iapply (chunks_run (Kx := Kx) (Vx := Vx) h0 h1 h2 h3 30 0 (by decide) 30 rfl)
  isplitl [Hkv]; · iexact Hkv
  isplitl [T0 T1 T2 T3]
  · unfold four
    isplitl [T0]; · iexact T0
    isplitl [T1]; · iexact T1
    isplitl [T2]; · iexact T2
    iexact T3
  iintro ⟨Hkv, H⟩
  iapply (tail_run (Kx := Kx) (Vx := Vx) h0 h1 h2 h3)
  isplitl [Hkv]; · iexact Hkv
  isplitl [H]; · iexact H
  iintro ⟨Hkv, H⟩
  iapply (finish_run (Wx := Wx) (X := X))
  isplitl [Hw]; · iexact Hw
  isplitl [Ho]; · iexact Ho
  iintro ⟨Hw, Ho⟩
  iapply Hc
  isplitl [Ha]; · iexact Ha
  isplitl [Hb]; · iexact Hb
  isplitl [Hkv]; · unfold kv; iexact Hkv
  isplitl [Hw]; · iexact Hw
  isplitl [Ho]; · iexact Ho
  unfold frees free
  iexact H

/-- The whole body: from the inputs' blocks, the output's block. -/
theorem body_run {B0 B1 B2 B3 C0 C1 C2 C3 : Bufs sig} (h0 : B0.Turn) (h1 : B1.Turn) (h2 : B2.Turn) (h3 : B3.Turn)
    (g0 : C0.Turn) (g1 : C1.Turn) (g2 : C2.Turn) (g3 : C3.Turn) {Q : PUnit → sProp 𝕄} :
    iprop(owns (c : Thread nD τ) qa fullShare Qa ∗ owns (c : Thread nD τ) qb fullShare Qb ∗ owns (c : Thread nD τ) k fullShare Kx
        ∗ owns (c : Thread nD τ) v fullShare Vx ∗ owns (c : Thread nD τ) l fullShare Lx ∗ owns (c : Thread nD τ) w fullShare Wx
        ∗ any (F := F) (c := c) o ∗ frees (F := F) (c := c) B0 B1 B2 B3 ∗ frees (F := F) (c := c) C0 C1 C2 C3
        ∗ (owns (c : Thread nD τ) qa fullShare Qa ∗ owns (c : Thread nD τ) qb fullShare Qb ∗ owns (c : Thread nD τ) k fullShare Kx
            ∗ owns (c : Thread nD τ) v fullShare Vx ∗ owns (c : Thread nD τ) l fullShare Lx ∗ owns (c : Thread nD τ) w fullShare Wx
            ∗ owns (c : Thread nD τ) o fullShare (outBlk dKQ dPV Qa Qb Kx Vx Lx Wx)
            ∗ frees (F := F) (c := c) B0 B1 B2 B3 ∗ frees (F := F) (c := c) C0 C1 C2 C3
          -∗ Q ⟨⟩))
      ⊢ wp frame (wpE D 𝒱 (c : Thread nD τ) bd) E (body dKQ dPV qa qb k v l w o ho B0 B1 B2 B3 C0 C1 C2 C3) Q := by
  unfold body lamProg any
  iintro ⟨Ha, Hb, Hk, Hv, Hl, Hw, ⟨%X, Ho⟩, HB, HC, Hc⟩
  iapply (load_own (M := l) (X := Lx))
  isplitl [Hl]; · iexact Hl
  iintro Hl
  iapply (load_own (M := l) (X := Lx))
  isplitl [Hl]; · iexact Hl
  iintro Hl
  iapply (load_own (M := l) (X := Lx))
  isplitl [Hl]; · iexact Hl
  iintro Hl
  iapply (load_own (M := l) (X := Lx))
  isplitl [Hl]; · iexact Hl
  iintro Hl
  iapply (head_run h0 h1 h2 h3 (Qa := Qa) (Qb := Qb) (Kx := Kx) (Vx := Vx) (Wx := Wx) (X := X))
  isplitl [Ha]; · iexact Ha
  isplitl [Hb]; · iexact Hb
  isplitl [Hk Hv]
  · unfold kv
    isplitl [Hk]; · iexact Hk
    iexact Hv
  isplitl [Hw]; · iexact Hw
  isplitl [Ho]; · iexact Ho
  isplitl [HB]; · iexact HB
  iintro ⟨Ha, Hb, Hkv, Hw, Ho, HB⟩
  iapply (head_run g0 g1 g2 g3 (Qa := Qa) (Qb := Qb) (Kx := Kx) (Vx := Vx) (Wx := Wx))
  isplitl [Ha]; · iexact Ha
  isplitl [Hb]; · iexact Hb
  isplitl [Hkv]; · iexact Hkv
  isplitl [Hw]; · iexact Hw
  isplitl [Ho]; · iexact Ho
  isplitl [HC]; · iexact HC
  iintro ⟨Ha, Hb, Hkv, Hw, Ho, HC⟩
  unfold kv
  icases Hkv with ⟨Hk, Hv⟩
  rw [wp_ret]
  imodintro
  iapply Hc
  isplitl [Ha]; · iexact Ha
  isplitl [Hb]; · iexact Hb
  isplitl [Hk]; · iexact Hk
  isplitl [Hv]; · iexact Hv
  isplitl [Hl]; · iexact Hl
  isplitl [Hw]; · iexact Hw
  isplitl [Ho]
  · rw [← show (putO 1 (headVal dKQ dPV Qa Qb Kx Vx Wx (hh := 1) (by decide) (lamVal Lx)) (putO 0 (headVal dKQ dPV Qa Qb Kx Vx Wx (hh := 0) (by decide) (lamVal Lx)) X))
      = outBlk dKQ dPV Qa Qb Kx Vx Lx Wx from funext fun i => put_put _ _ X i]
    iexact Ho
  isplitl [HB]; · iexact HB
  iexact HC

end Body

/-- Four buffers taken in turn come round. -/
theorem bufs_turn (s0 s1 s2 s3 : Memref sig .tc .vmem S256x256 .f32) (p0 p1 p2 p3 : Memref sig .tc .vmem S256x256 .bf16)
    (h0 : p0.IsWhole) (h1 : p1.IsWhole) (h2 : p2.IsWhole) (h3 : p3.IsWhole) : (bufs s0 s1 s2 s3 p0 p1 p2 p3 h0 h1 h2 h3).Turn := by
  intro n
  unfold bufs pick
  simp only [Nat.add_mod_right, and_self]

/-- A stream's buffers, one by one. -/
theorem free_bufs (s0 s1 s2 s3 : Memref sig .tc .vmem S256x256 .f32) (p0 p1 p2 p3 : Memref sig .tc .vmem S256x256 .bf16)
    (h0 : p0.IsWhole) (h1 : p1.IsWhole) (h2 : p2.IsWhole) (h3 : p3.IsWhole) :
    (free (F := F) (c := c) (bufs s0 s1 s2 s3 p0 p1 p2 p3 h0 h1 h2 h3) 0 : sProp 𝕄)
      = iprop(any (F := F) (c := c) s0 ∗ any (F := F) (c := c) s1 ∗ any (F := F) (c := c) s2 ∗ any (F := F) (c := c) s3
        ∗ any (F := F) (c := c) p0 ∗ any (F := F) (c := c) p1 ∗ any (F := F) (c := c) p2 ∗ any (F := F) (c := c) p3) := rfl

end Cert.Roll

end
-- ==== Proof.RollEq.lean ====
/- Comparing a straight-line body with the recursion, one stream's step at a time. -/
module

public import proofs.«01_k».proof.Proof.Roll

@[expose] public section

set_option maxRecDepth 16384

noncomputable section

namespace Cert.Roll

open Idealize.ShloMosaic Idealize.SL.Sem

variable {nD : ℕ} {τ : Topo} {sig : RefSig} {Λ : Labels} {F : FTy → Type} [FloatOps F] {α : Type}

local notation "PR" α => Prog (TpuEff nD τ sig (Elt F) Λ (Proc.tc : Proc τ)) α

theorem op_congr {E : Type → Type _} {α β : Type} (e : E β) {k k' : β → Prog E α} (h : ∀ v, k v = k' v) :
    Prog.op e k = Prog.op e k' := congrArg (Prog.op e) (funext h)

variable {dKQ : DotDims S256x128 S256x128 S256x256} {dPV : DotDims S144x256 S256x256 S144x256}
  {kk : Memref sig .tc .vmem S1x2x8448x128 .bf16} {v : Memref sig .tc .vmem S1x2x144x8448 .bf16} {hh : ℕ} {hhh : hh < 2}
  {q : FVec F S256x128 .bf16}

theorem writeScores_congr {c : ℕ} {hc : c < 33} {s : Memref sig .tc .vmem S256x256 .f32}
    {K : FVec F S1x256 .f32 → PR α} (k : Vec F S1x1x256x128 .bf16 → FVec F S256x256 .f32 → PUnit → PR α)
    (h : ∀ v1 v2 v3, K (colMax (scoreOf dKQ v1 q)) = k v1 v2 v3) :
    writeScores dKQ kk hhh hc q s K =
      .op (.load kk (rK hhh hc).toLoadRect (View.loadsAt_vmem (by decide : 0 < S1x1x256x128.numel))) fun (v1 : Vec F S1x1x256x128 .bf16) =>
      .op (.load s rF.toLoadRect (View.loadsAt_vmem (by decide : 0 < S256x256.numel))) fun (v2 : Vec F S256x256 .f32) =>
      .op (.store s rF (scoreSt dKQ v1 q) Finset.univ (View.stores_vmem_bits_univ (by decide : 0 < S256x256.numel) rfl) (.inl rfl)) fun v3 =>
      k v1 v2 v3 :=
  op_congr _ fun _ => op_congr _ fun _ => op_congr _ fun _ => h _ _ _

theorem rowStep_congr {s : Memref sig .tc .vmem S256x256 .f32} {p : Memref sig .tc .vmem S256x256 .bf16} {hp : p.IsWhole}
    {m : FVec F S1x256 .f32} {o : ℕ} {ho : o ≤ 192} {hk : (rR ho).PackedRows (EltTy.packing .bf16)} {K : PR α}
    (k : FVec F S64x256 .f32 → FVec F S64x256 .bf16 → PUnit → PR α) (h : ∀ v1 v2 v3, K = k v1 v2 v3) :
    rowStep s p hp m ho hk K =
      .op (.load (s.slice rF (fun _ => rfl)) (rR ho).toLoadRect (View.loadsAt_vmem (by decide : 0 < S64x256.numel))) fun (v1 : Vec F S64x256 .f32) =>
      .op (.load (p.slice rF (fun _ => rfl)) (rR ho).toLoadRect (View.loadsAt_vmem (by decide : 0 < S64x256.numel))) fun (v2 : Vec F S64x256 .bf16) =>
      .op (.store p (rR ho) (expRows v1 m) Finset.univ (View.stores_vmem (by decide : 0 < S64x256.numel)
        (hp.storeExact_slice rfl _ hk) (fun _ => rfl)) (.inl rfl)) fun v3 => k v1 v2 v3 :=
  op_congr _ fun _ => op_congr _ fun _ => op_congr _ fun _ => h _ _ _

theorem softLoads_congr {c : ℕ} {hc : c < 33} {p : Memref sig .tc .vmem S256x256 .bf16}
    {K : Vec F S1x1x144x256 .bf16 → FVec F S256x256 .bf16 → PR α}
    (k : Vec F S1x1x144x256 .bf16 → FVec F S256x256 .bf16 → PR α) (h : ∀ v1 v2, K v1 v2 = k v1 v2) :
    softLoads v hhh hc p K =
      .op (.load v (rV hhh hc).toLoadRect (View.loadsAt_vmem (by decide : 0 < S1x1x144x256.numel))) fun v1 =>
      .op (.load p rF.toLoadRect (View.loadsAt_vmem (by decide : 0 < S256x256.numel))) fun (v2 : Vec F S256x256 .bf16) => k v1 v2 :=
  op_congr _ fun _ => op_congr _ fun _ => h _ _

theorem softStep_congr {c : ℕ} {hc : c < 33} {s : Memref sig .tc .vmem S256x256 .f32} {p : Memref sig .tc .vmem S256x256 .bf16}
    {hp : p.IsWhole} {m : FVec F S1x256 .f32} {K : Vec F S1x1x144x256 .bf16 → FVec F S256x256 .bf16 → PR α} {P : PR α}
    (h : (rowStep s p hp m (o := 0) (by decide) (packed_r (by decide) (by decide)) <|
      rowStep s p hp m (o := 64) (by decide) (packed_r (by decide) (by decide)) <|
      rowStep s p hp m (o := 128) (by decide) (packed_r (by decide) (by decide)) <|
      rowStep s p hp m (o := 192) (by decide) (packed_r (by decide) (by decide)) <|
      softLoads v hhh hc p K) = P) : softStep v hhh hc s p hp m K = P := h

theorem stepFirst_congr {B : Bufs sig} {a : FVec F S1x256 .f32} {K : FVec F S144x256 .f32 → FVec F S1x256 .f32 → PR α} {P : PR α}
    (h : (writeScores dKQ kk hhh (c := 2) (by decide) q (B.s 2) fun cm =>
      softStep v hhh (c := 0) (by decide) (B.s 0) (B.p 0) (B.hp 0) a fun vv pv => K (pvOf dPV vv pv) cm) = P) :
    stepFirst dKQ dPV kk v hhh q B a K = P := h

theorem stepMid_congr {c : ℕ} {hc : c + 2 < 33} {B : Bufs sig} {m : FVec F S1x256 .f32} {acc : FVec F S144x256 .f32} {a : FVec F S1x256 .f32}
    {K : FVec F S1x256 .f32 → FVec F S144x256 .f32 → FVec F S1x256 .f32 → PR α} {P : PR α}
    (h : (writeScores dKQ kk hhh (c := c + 2) hc q (B.s (c + 2)) fun cm =>
      softStep v hhh (c := c) (by omega) (B.s c) (B.p c) (B.hp c) (maximumf m a) fun vv pv =>
      K (maximumf m a) (accNext dPV m (maximumf m a) acc vv pv) cm) = P) : stepMid dKQ dPV kk v hhh c hc q B m acc a K = P := h

theorem stepLast_congr {c : ℕ} {hc : c < 33} {B : Bufs sig} {m : FVec F S1x256 .f32} {acc : FVec F S144x256 .f32} {a : FVec F S1x256 .f32}
    {K : FVec F S1x256 .f32 → FVec F S144x256 .f32 → PR α} {P : PR α}
    (h : (softStep v hhh (c := c) hc (B.s c) (B.p c) (B.hp c) (maximumf m a) fun vv pv =>
      K (maximumf m a) (accNext dPV m (maximumf m a) acc vv pv)) = P) : stepLast dPV v hhh c hc B m acc a K = P := h

theorem chunks_zero_congr {q0 q1 q2 q3 : FVec F S256x128 .bf16} {B0 B1 B2 B3 : Bufs sig} {K : St F → St F → St F → St F → PR α}
    {c : ℕ} {hc : c + 0 ≤ 31} {t0 t1 t2 t3 : St F} {P : PR α} (h : K t0 t1 t2 t3 = P) :
    chunks dKQ dPV kk v hhh q0 q1 q2 q3 B0 B1 B2 B3 K 0 c hc t0 t1 t2 t3 = P := h

theorem chunks_succ_congr {q0 q1 q2 q3 : FVec F S256x128 .bf16} {B0 B1 B2 B3 : Bufs sig} {K : St F → St F → St F → St F → PR α}
    {n c : ℕ} {hc : c + (n + 1) ≤ 31} {m0 m1 m2 m3 a0 a1 a2 a3 b0 b1 b2 b3 : FVec F S1x256 .f32} {x0 x1 x2 x3 : FVec F S144x256 .f32} {P : PR α}
    (h : (stepMid dKQ dPV kk v hhh c (by omega) q0 B0 m0 x0 a0 fun m0 x0 d0 =>
      stepMid dKQ dPV kk v hhh c (by omega) q1 B1 m1 x1 a1 fun m1 x1 d1 =>
      stepMid dKQ dPV kk v hhh c (by omega) q2 B2 m2 x2 a2 fun m2 x2 d2 =>
      stepMid dKQ dPV kk v hhh c (by omega) q3 B3 m3 x3 a3 fun m3 x3 d3 =>
      chunks dKQ dPV kk v hhh q0 q1 q2 q3 B0 B1 B2 B3 K n (c + 1) (by omega)
        ⟨m0, x0, b0, d0⟩ ⟨m1, x1, b1, d1⟩ ⟨m2, x2, b2, d2⟩ ⟨m3, x3, b3, d3⟩) = P) :
    chunks dKQ dPV kk v hhh q0 q1 q2 q3 B0 B1 B2 B3 K (n + 1) c hc
      ⟨m0, x0, a0, b0⟩ ⟨m1, x1, a1, b1⟩ ⟨m2, x2, a2, b2⟩ ⟨m3, x3, a3, b3⟩ = P := h

theorem tailOf_congr {B0 B1 B2 B3 : Bufs sig}
    {K : FVec F S144x256 .f32 → FVec F S144x256 .f32 → FVec F S144x256 .f32 → FVec F S144x256 .f32 → PR α}
    {m0 m1 m2 m3 a0 a1 a2 a3 b0 b1 b2 b3 : FVec F S1x256 .f32} {x0 x1 x2 x3 : FVec F S144x256 .f32} {P : PR α}
    (h : (stepLast dPV v hhh 31 (by decide) B0 m0 x0 a0 fun m0 x0 =>
      stepLast dPV v hhh 31 (by decide) B1 m1 x1 a1 fun m1 x1 =>
      stepLast dPV v hhh 31 (by decide) B2 m2 x2 a2 fun m2 x2 =>
      stepLast dPV v hhh 31 (by decide) B3 m3 x3 a3 fun m3 x3 =>
      stepLast dPV v hhh 32 (by decide) B0 m0 x0 b0 fun _ x0 =>
      stepLast dPV v hhh 32 (by decide) B1 m1 x1 b1 fun _ x1 =>
      stepLast dPV v hhh 32 (by decide) B2 m2 x2 b2 fun _ x2 =>
      stepLast dPV v hhh 32 (by decide) B3 m3 x3 b3 fun _ x3 =>
      K x0 x1 x2 x3) = P) :
    tailOf dPV v hhh B0 B1 B2 B3 K ⟨m0, x0, a0, b0⟩ ⟨m1, x1, a1, b1⟩ ⟨m2, x2, a2, b2⟩ ⟨m3, x3, a3, b3⟩ = P := h

end Cert.Roll

end
-- ==== Proof.EqKI.lean ====
/- The printed body is the recursion. -/
module

public import proofs.«01_k».proof.KernelIdeal
public import proofs.«01_k».proof.Proof.RollEq

@[expose] public section

set_option maxRecDepth 65536

noncomputable section

namespace Cert.KernelIdeal

open Idealize.ShloMosaic Idealize.SL.Sem

variable {F : FTy → Type} [FloatOps F] [Facts]

set_option maxHeartbeats 0 in
theorem body_eq (i : grid0.Coords) (arg3 : Memref sig .tc .vmem S1x256x256 .bf16) (harg3 : arg3.IsWhole) (arg4 : Memref sig .tc .vmem S1x256x256 .bf16) (harg4 : arg4.IsWhole) (arg5 : Memref sig .tc .vmem S1x2x8448x128 .bf16) (harg5 : arg5.IsWhole) (arg6 : Memref sig .tc .vmem S1x2x144x8448 .bf16) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2x128x512 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x256 .f32) (harg24 : arg24.IsWhole) (arg25 : Memref sig .tc .vmem S256x256 .f32) (harg25 : arg25.IsWhole) (arg26 : Memref sig .tc .vmem S256x256 .f32) (harg26 : arg26.IsWhole) (arg27 : Memref sig .tc .vmem S256x256 .f32) (harg27 : arg27.IsWhole) (arg28 : Memref sig .tc .vmem S256x256 .f32) (harg28 : arg28.IsWhole) (arg29 : Memref sig .tc .vmem S256x256 .f32) (harg29 : arg29.IsWhole) (arg30 : Memref sig .tc .vmem S256x256 .f32) (harg30 : arg30.IsWhole) (arg31 : Memref sig .tc .vmem S256x256 .f32) (harg31 : arg31.IsWhole) (arg32 : Memref sig .tc .vmem S256x256 .f32) (harg32 : arg32.IsWhole) (arg33 : Memref sig .tc .vmem S256x256 .f32) (harg33 : arg33.IsWhole) (arg34 : Memref sig .tc .vmem S256x256 .f32) (harg34 : arg34.IsWhole) (arg35 : Memref sig .tc .vmem S256x256 .f32) (harg35 : arg35.IsWhole) (arg36 : Memref sig .tc .vmem S256x256 .f32) (harg36 : arg36.IsWhole) (arg37 : Memref sig .tc .vmem S256x256 .f32) (harg37 : arg37.IsWhole) (arg38 : Memref sig .tc .vmem S256x256 .f32) (harg38 : arg38.IsWhole) (arg39 : Memref sig .tc .vmem S256x256 .f32) (harg39 : arg39.IsWhole) (arg40 : Memref sig .tc .vmem S256x256 .f32) (harg40 : arg40.IsWhole) (arg41 : Memref sig .tc .vmem S256x256 .f32) (harg41 : arg41.IsWhole) (arg42 : Memref sig .tc .vmem S256x256 .bf16) (harg42 : arg42.IsWhole) (arg43 : Memref sig .tc .vmem S256x256 .bf16) (harg43 : arg43.IsWhole) (arg44 : Memref sig .tc .vmem S256x256 .bf16) (harg44 : arg44.IsWhole) (arg45 : Memref sig .tc .vmem S256x256 .bf16) (harg45 : arg45.IsWhole) (arg46 : Memref sig .tc .vmem S256x256 .bf16) (harg46 : arg46.IsWhole) (arg47 : Memref sig .tc .vmem S256x256 .bf16) (harg47 : arg47.IsWhole) (arg48 : Memref sig .tc .vmem S256x256 .bf16) (harg48 : arg48.IsWhole) (arg49 : Memref sig .tc .vmem S256x256 .bf16) (harg49 : arg49.IsWhole) (arg50 : Memref sig .tc .vmem S256x256 .bf16) (harg50 : arg50.IsWhole) (arg51 : Memref sig .tc .vmem S256x256 .bf16) (harg51 : arg51.IsWhole) (arg52 : Memref sig .tc .vmem S256x256 .bf16) (harg52 : arg52.IsWhole) (arg53 : Memref sig .tc .vmem S256x256 .bf16) (harg53 : arg53.IsWhole) (arg54 : Memref sig .tc .vmem S256x256 .bf16) (harg54 : arg54.IsWhole) (arg55 : Memref sig .tc .vmem S256x256 .bf16) (harg55 : arg55.IsWhole) (arg56 : Memref sig .tc .vmem S256x256 .bf16) (harg56 : arg56.IsWhole) (arg57 : Memref sig .tc .vmem S256x256 .bf16) (harg57 : arg57.IsWhole) (arg58 : Memref sig .tc .vmem S256x256 .bf16) (harg58 : arg58.IsWhole) (arg59 : Memref sig .tc .vmem S256x256 .bf16) (harg59 : arg59.IsWhole) (arg60 : Memref sig .tc .vmem S256x256 .bf16) (harg60 : arg60.IsWhole) (arg61 : Memref sig .tc .vmem S256x256 .bf16) (harg61 : arg61.IsWhole) (arg62 : Memref sig .tc .vmem S256x256 .bf16) (harg62 : arg62.IsWhole) (arg63 : Memref sig .tc .vmem S256x256 .bf16) (harg63 : arg63.IsWhole) (arg64 : Memref sig .tc .vmem S256x256 .bf16) (harg64 : arg64.IsWhole) (arg65 : Memref sig .tc .vmem S256x256 .bf16) (harg65 : arg65.IsWhole) (arg66 : Memref sig .tc .vmem S256x256 .bf16) (harg66 : arg66.IsWhole) (arg67 : Memref sig .tc .vmem S256x256 .bf16) (harg67 : arg67.IsWhole) (arg68 : Memref sig .tc .vmem S256x256 .bf16) (harg68 : arg68.IsWhole) (arg69 : Memref sig .tc .vmem S256x256 .bf16) (harg69 : arg69.IsWhole) (arg70 : Memref sig .tc .vmem S256x256 .bf16) (harg70 : arg70.IsWhole) (arg71 : Memref sig .tc .vmem S256x256 .bf16) (harg71 : arg71.IsWhole) (arg72 : Memref sig .tc .vmem S256x256 .bf16) (harg72 : arg72.IsWhole) (arg73 : Memref sig .tc .vmem S256x256 .bf16) (harg73 : arg73.IsWhole) :
    Roll.body dot_S256x128_S256x128_S256x256_1_1_0_0_n_n dot_S144x256_S256x256_S144x256_1_0_0_1_n_n
      arg3 arg4 arg5 arg6 arg7 arg8 arg9 harg9
      (Roll.bufs arg10 arg11 arg12 arg13 arg42 arg43 arg44 arg45 harg42 harg43 harg44 harg45) (Roll.bufs arg14 arg15 arg16 arg17 arg46 arg47 arg48 arg49 harg46 harg47 harg48 harg49) (Roll.bufs arg18 arg19 arg20 arg21 arg50 arg51 arg52 arg53 harg50 harg51 harg52 harg53) (Roll.bufs arg22 arg23 arg24 arg25 arg54 arg55 arg56 arg57 harg54 harg55 harg56 harg57)
      (Roll.bufs arg26 arg27 arg28 arg29 arg58 arg59 arg60 arg61 harg58 harg59 harg60 harg61) (Roll.bufs arg30 arg31 arg32 arg33 arg62 arg63 arg64 arg65 harg62 harg63 harg64 harg65) (Roll.bufs arg34 arg35 arg36 arg37 arg66 arg67 arg68 arg69 harg66 harg67 harg68 harg69) (Roll.bufs arg38 arg39 arg40 arg41 arg70 arg71 arg72 arg73 harg70 harg71 harg72 harg73) =
    cc0_diff_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 arg73 harg73 := by
  iterate 4 refine Roll.op_congr _ fun _ => ?_
  iterate 2
    iterate 4 refine Roll.op_congr _ fun _ => ?_
    iterate 8 refine Roll.writeScores_congr _ fun _ _ _ => ?_
    iterate 4
      refine Roll.stepFirst_congr ?_
      refine Roll.writeScores_congr _ fun _ _ _ => ?_
      refine Roll.softStep_congr ?_
      iterate 4 refine Roll.rowStep_congr _ fun _ _ _ => ?_
      refine Roll.softLoads_congr _ fun _ _ => ?_
    iterate 30
      refine Roll.chunks_succ_congr ?_
      iterate 4
        refine Roll.stepMid_congr ?_
        refine Roll.writeScores_congr _ fun _ _ _ => ?_
        refine Roll.softStep_congr ?_
        iterate 4 refine Roll.rowStep_congr _ fun _ _ _ => ?_
        refine Roll.softLoads_congr _ fun _ _ => ?_
    refine Roll.chunks_zero_congr ?_
    refine Roll.tailOf_congr ?_
    iterate 8
      refine Roll.stepLast_congr ?_
      refine Roll.softStep_congr ?_
      iterate 4 refine Roll.rowStep_congr _ fun _ _ _ => ?_
      refine Roll.softLoads_congr _ fun _ _ => ?_
    iterate 3 refine Roll.op_congr _ fun _ => ?_
  rfl

end Cert.KernelIdeal

end
-- ==== Proof.RunKI.lean ====
/- The launch of KernelIdeal: what its body leaves at a grid point, and the run of @main. -/
module

public import proofs.«01_k».proof.Proof.Gen.KernelIdeal.Frame
public import proofs.«01_k».proof.Proof.RollRun
public import Idealize.ShloMosaic.Lib.Claim
public import proofs.«01_k».proof.Proof.EqKI

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch buffers -/

/-- Stream 0's scratch buffers. -/
abbrev buf0 : Roll.Bufs sig := Roll.bufs (Memref.whole cc0_scratch0) (Memref.whole cc0_scratch1) (Memref.whole cc0_scratch2) (Memref.whole cc0_scratch3) (Memref.whole cc0_scratch32) (Memref.whole cc0_scratch33) (Memref.whole cc0_scratch34) (Memref.whole cc0_scratch35) (Memref.isWhole_whole _) (Memref.isWhole_whole _) (Memref.isWhole_whole _) (Memref.isWhole_whole _)
/-- Stream 1's scratch buffers. -/
abbrev buf1 : Roll.Bufs sig := Roll.bufs (Memref.whole cc0_scratch4) (Memref.whole cc0_scratch5) (Memref.whole cc0_scratch6) (Memref.whole cc0_scratch7) (Memref.whole cc0_scratch36) (Memref.whole cc0_scratch37) (Memref.whole cc0_scratch38) (Memref.whole cc0_scratch39) (Memref.isWhole_whole _) (Memref.isWhole_whole _) (Memref.isWhole_whole _) (Memref.isWhole_whole _)
/-- Stream 2's scratch buffers. -/
abbrev buf2 : Roll.Bufs sig := Roll.bufs (Memref.whole cc0_scratch8) (Memref.whole cc0_scratch9) (Memref.whole cc0_scratch10) (Memref.whole cc0_scratch11) (Memref.whole cc0_scratch40) (Memref.whole cc0_scratch41) (Memref.whole cc0_scratch42) (Memref.whole cc0_scratch43) (Memref.isWhole_whole _) (Memref.isWhole_whole _) (Memref.isWhole_whole _) (Memref.isWhole_whole _)
/-- Stream 3's scratch buffers. -/
abbrev buf3 : Roll.Bufs sig := Roll.bufs (Memref.whole cc0_scratch12) (Memref.whole cc0_scratch13) (Memref.whole cc0_scratch14) (Memref.whole cc0_scratch15) (Memref.whole cc0_scratch44) (Memref.whole cc0_scratch45) (Memref.whole cc0_scratch46) (Memref.whole cc0_scratch47) (Memref.isWhole_whole _) (Memref.isWhole_whole _) (Memref.isWhole_whole _) (Memref.isWhole_whole _)
/-- Stream 4's scratch buffers. -/
abbrev buf4 : Roll.Bufs sig := Roll.bufs (Memref.whole cc0_scratch16) (Memref.whole cc0_scratch17) (Memref.whole cc0_scratch18) (Memref.whole cc0_scratch19) (Memref.whole cc0_scratch48) (Memref.whole cc0_scratch49) (Memref.whole cc0_scratch50) (Memref.whole cc0_scratch51) (Memref.isWhole_whole _) (Memref.isWhole_whole _) (Memref.isWhole_whole _) (Memref.isWhole_whole _)
/-- Stream 5's scratch buffers. -/
abbrev buf5 : Roll.Bufs sig := Roll.bufs (Memref.whole cc0_scratch20) (Memref.whole cc0_scratch21) (Memref.whole cc0_scratch22) (Memref.whole cc0_scratch23) (Memref.whole cc0_scratch52) (Memref.whole cc0_scratch53) (Memref.whole cc0_scratch54) (Memref.whole cc0_scratch55) (Memref.isWhole_whole _) (Memref.isWhole_whole _) (Memref.isWhole_whole _) (Memref.isWhole_whole _)
/-- Stream 6's scratch buffers. -/
abbrev buf6 : Roll.Bufs sig := Roll.bufs (Memref.whole cc0_scratch24) (Memref.whole cc0_scratch25) (Memref.whole cc0_scratch26) (Memref.whole cc0_scratch27) (Memref.whole cc0_scratch56) (Memref.whole cc0_scratch57) (Memref.whole cc0_scratch58) (Memref.whole cc0_scratch59) (Memref.isWhole_whole _) (Memref.isWhole_whole _) (Memref.isWhole_whole _) (Memref.isWhole_whole _)
/-- Stream 7's scratch buffers. -/
abbrev buf7 : Roll.Bufs sig := Roll.bufs (Memref.whole cc0_scratch28) (Memref.whole cc0_scratch29) (Memref.whole cc0_scratch30) (Memref.whole cc0_scratch31) (Memref.whole cc0_scratch60) (Memref.whole cc0_scratch61) (Memref.whole cc0_scratch62) (Memref.whole cc0_scratch63) (Memref.isWhole_whole _) (Memref.isWhole_whole _) (Memref.isWhole_whole _) (Memref.isWhole_whole _)

theorem assoc (P Q R : sProp 𝕄) : iprop((P ∗ Q) ∗ R) = iprop(P ∗ Q ∗ R) := equiv_iff.mp ⟨BI.sep_assoc, BI.sep_assoc'⟩

/-- The call's scratch, stream by stream. -/
theorem scoped_eq (c : Dev nD) :
    (Pipeline.scopedRest (Ix := Unit) (Name := ℕ) (U := UR sig nD τ) (Lvl := ℕ) (Val := Elt F) spec0 c : sProp 𝕄)
      = iprop(Roll.frees (F := F) (c := c) buf0 buf1 buf2 buf3 ∗ Roll.frees (F := F) (c := c) buf4 buf5 buf6 buf7) := by
  rw [Pipeline.scopedRest_eq_of_list spec0 c [cc0_scratch0, cc0_scratch1, cc0_scratch2, cc0_scratch3, cc0_scratch32, cc0_scratch33, cc0_scratch34, cc0_scratch35, cc0_scratch4, cc0_scratch5, cc0_scratch6, cc0_scratch7, cc0_scratch36, cc0_scratch37, cc0_scratch38, cc0_scratch39, cc0_scratch8, cc0_scratch9, cc0_scratch10, cc0_scratch11, cc0_scratch40, cc0_scratch41, cc0_scratch42, cc0_scratch43, cc0_scratch12, cc0_scratch13, cc0_scratch14, cc0_scratch15, cc0_scratch44, cc0_scratch45, cc0_scratch46, cc0_scratch47, cc0_scratch16, cc0_scratch17, cc0_scratch18, cc0_scratch19, cc0_scratch48, cc0_scratch49, cc0_scratch50, cc0_scratch51, cc0_scratch20, cc0_scratch21, cc0_scratch22, cc0_scratch23, cc0_scratch52, cc0_scratch53, cc0_scratch54, cc0_scratch55, cc0_scratch24, cc0_scratch25, cc0_scratch26, cc0_scratch27, cc0_scratch56, cc0_scratch57, cc0_scratch58, cc0_scratch59, cc0_scratch28, cc0_scratch29, cc0_scratch30, cc0_scratch31, cc0_scratch60, cc0_scratch61, cc0_scratch62, cc0_scratch63] (by decide +kernel) (by decide +kernel)]
  simp only [Roll.frees, Roll.free_bufs, Roll.any, owns_whole, assoc]
  rfl

/-! ## The pipeline's proof data -/

/-- The output's block from the inputs' blocks. -/
def oblk (c : Dev nD) (t : Fin cfg0.N) : Roll.S1x2x128x512.Idx → Elt F .bf16 :=
  Roll.outBlk dot_S256x128_S256x128_S256x256_1_1_0_0_n_n dot_S144x256_S256x256_S144x256_1_0_0_1_n_n
    (iblk m c 0 t) (iblk m c 1 t) (iblk m c 2 t) (iblk m c 3 t) (iblk m c 4 t) (iblk m c 5 t)

/-- The arrays as launched; each input's buffer left at its block, the output's at `oblk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oblk m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = oblk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl]
  unfold Pipeline.ΦA
  rw [scoped_eq, ← body_eq]
  iintro ⟨⟨⟨HB, HC⟩, Hg⟩, Ho, ⟨%d0, H0⟩, ⟨%d1, H1⟩, ⟨%d2, H2⟩, ⟨%d3, H3⟩, ⟨%d4, H4⟩, ⟨%d5, H5⟩, ⟨%d6, H6⟩⟩
  iapply (Roll.body_run (Qa := iblk m c 0 t) (Qb := iblk m c 1 t) (Kx := iblk m c 2 t) (Vx := iblk m c 3 t) (Lx := iblk m c 4 t) (Wx := iblk m c 5 t)
    (Roll.bufs_turn _ _ _ _ _ _ _ _ _ _ _ _) (Roll.bufs_turn _ _ _ _ _ _ _ _ _ _ _ _) (Roll.bufs_turn _ _ _ _ _ _ _ _ _ _ _ _) (Roll.bufs_turn _ _ _ _ _ _ _ _ _ _ _ _)
    (Roll.bufs_turn _ _ _ _ _ _ _ _ _ _ _ _) (Roll.bufs_turn _ _ _ _ _ _ _ _ _ _ _ _) (Roll.bufs_turn _ _ _ _ _ _ _ _ _ _ _ _) (Roll.bufs_turn _ _ _ _ _ _ _ _ _ _ _ _))
  isplitl [H0]; · iexact H0
  isplitl [H1]; · iexact H1
  isplitl [H2]; · iexact H2
  isplitl [H3]; · iexact H3
  isplitl [H4]; · iexact H4
  isplitl [H5]; · iexact H5
  isplitl [H6]; · unfold Roll.any; iexists _; iexact H6
  isplitl [HB]; · iexact HB
  isplitl [HC]; · iexact HC
  iintro ⟨H0, H1, H2, H3, H4, H5, H6, HB, HC⟩
  isplitl [HB HC Hg]
  · isplitl [HB HC]
    · isplitl [HB]; · iexact HB
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.Val.lean ====
/- The step's arithmetic read at one element, at the ideal instance. -/
module

public import proofs.«01_k».proof.Proof.RollRun
public import Idealize.ShloMosaic.Lib.Pointwise
public import Idealize.ShloMosaic.Lib.MatmulPlain

@[expose] public section

set_option maxRecDepth 16384

noncomputable section

namespace Cert.Roll

open Idealize.ShloMosaic

abbrev dQ : DotDims S256x128 S256x128 S256x256 := DotDims.transposedRhs 256 128 256
abbrev dP : DotDims S144x256 S256x256 S144x256 := DotDims.plain 144 256 256

theorem scoreOf_apply (kv : Vec Ideal S1x1x256x128 .bf16) (q : FVec Ideal S256x128 .bf16) (r c : Fin 256) :
    scoreOf dQ kv q (ix2 r c) = ∑ d : Fin 128, kv (ix4 0 0 r d) * q (ix2 c d) := by
  pointwise [scoreOf]

theorem scoreSt_apply (kv : Vec Ideal S1x1x256x128 .bf16) (q : FVec Ideal S256x128 .bf16) (r c : Fin 256) :
    scoreSt dQ kv q (ix2 r c) = ∑ d : Fin 128, kv (ix4 0 0 r d) * q (ix2 c d) := by
  pointwise [scoreSt, scoreOf]

theorem colMax_apply (s : FVec Ideal S256x256 .f32) (c : Fin 256) :
    colMax s (ix2 0 c) = (Finset.univ : Finset (Fin 256)).fold max (Ideal.ofBits .f32 0xFF800000#32) (fun k => s (ix2 k c)) := by
  pointwise [colMax]

theorem probOf_apply (s : FVec Ideal S256x256 .f32) (m : FVec Ideal S1x256 .f32) (r c : Fin 256) :
    probOf s m (ix2 r c) = Ideal.exp2 (s (ix2 r c) - m (ix2 0 c)) := by
  pointwise [probOf]
  rfl

theorem pvOf_apply (vv : Vec Ideal S1x1x144x256 .bf16) (p : FVec Ideal S256x256 .bf16) (e : Fin 144) (c : Fin 256) :
    pvOf dP vv p (ix2 e c) = ∑ j : Fin 256, vv (ix4 0 0 e j) * p (ix2 j c) := by
  pointwise [pvOf]

theorem accNext_apply (m m' : FVec Ideal S1x256 .f32) (acc : FVec Ideal S144x256 .f32) (vv : Vec Ideal S1x1x144x256 .bf16)
    (p : FVec Ideal S256x256 .bf16) (e : Fin 144) (c : Fin 256) :
    accNext dP m m' acc vv p (ix2 e c)
      = Ideal.exp2 (m (ix2 0 c) - m' (ix2 0 c)) * acc (ix2 e c) + ∑ j : Fin 256, vv (ix4 0 0 e j) * p (ix2 j c) := by
  pointwise [accNext, pvOf]
  rfl

theorem normOf_apply (acc : FVec Ideal S144x256 .f32) (e : Fin 128) (c : Fin 256) :
    normOf acc (ix2 e c) = Ideal.div (acc (ix2 ⟨e.val, by omega⟩ c)) (acc (ix2 128 c)) := by
  pointwise [normOf]

theorem laneHalf_apply (r : Fin 256) (d : Fin 128) : laneHalf (ix2 r d) = BitVec.ofNat 32 (d.val / 64) := by
  pointwise [laneHalf]
  revert d
  decide +kernel

theorem qHalf_apply (a : ℕ) (ha : a < 2) (qv : Vec Ideal S1x256x128 .bf16) (c : Fin 256) (d : Fin 128) :
    qHalf (BitVec.ofNat 32 a) qv (ix2 c d) = if d.val / 64 = a then qv (ix3 0 c d) else 0 := by
  unfold qHalf
  pointwise
  rw [laneHalf_apply]
  have hd : d.val / 64 < 2 := by omega
  generalize d.val / 64 = n at hd
  obtain rfl | rfl : n = 0 ∨ n = 1 := by omega
  all_goals obtain rfl | rfl : a = 0 ∨ a = 1 := by omega
  all_goals rfl

theorem lamOf_apply (a b c d : Vec Ideal S1x64 .f32) :
    lamOf a b c d (ix2 0 0) = Ideal.exp (∑ k : Fin 64, a (ix2 0 k) * b (ix2 0 k)) - Ideal.exp (∑ k : Fin 64, c (ix2 0 k) * d (ix2 0 k))
      + Ideal.ofBits .f32 0x3EB60549#32 := by
  pointwise [lamOf]

/-- One head's output at an element, from the rows before the normalisation. -/
def finAt (o : Fin 128 → EReal) (w : Fin 128 → EReal) (e : Fin 128) : EReal :=
  o e * Ideal.rsqrt (Ideal.div (∑ k : Fin 128, o k * o k) (Ideal.ofBits .f32 0x43000000#32) + Ideal.ofBits .f32 0x358637BD#32) * w e
    * Ideal.ofBits .f32 0x3F24FD5C#32

theorem finOf_apply (o : FVec Ideal S128x512 .f32) (w : Vec Ideal S128x1 .f32) (e : Fin 128) (c : Fin 512) :
    finOf o w (ix2 e c) = finAt (fun e => o (ix2 e c)) (fun e => w (ix2 e 0)) e := by
  unfold finAt
  pointwise [finOf]

theorem diffOf_apply (lam : FVec Ideal S1x1 .f32) (x0 x1 x2 x3 : FVec Ideal S144x256 .f32) (e : Fin 128) (c : Fin 512) :
    diffOf lam x0 x1 x2 x3 (ix2 e c) = if h : c.val < 256 then
        normOf x0 (ix2 e ⟨c.val, h⟩) - lam (ix2 0 0) * normOf x2 (ix2 e ⟨c.val, h⟩)
      else normOf x1 (ix2 e ⟨c.val - 256, by omega⟩) - lam (ix2 0 0) * normOf x3 (ix2 e ⟨c.val - 256, by omega⟩) := by
  pointwise [diffOf]
  split <;> rfl

theorem outOf_apply (lam : FVec Ideal S1x1 .f32) (x0 x1 x2 x3 : FVec Ideal S144x256 .f32) (w : Vec Ideal S128x1 .f32) (e : Fin 128) (c : Fin 512) :
    outOf lam x0 x1 x2 x3 w (ix4 0 0 e c) = finAt (fun e => diffOf lam x0 x1 x2 x3 (ix2 e c)) (fun e => w (ix2 e 0)) e := by
  rw [← finOf_apply]
  unfold outOf
  pointwise

theorem lamVal_apply (L : S4x64.Idx → Elt Ideal .f32) :
    lamVal (F := Ideal) L (ix2 0 0) = Ideal.exp (∑ k : Fin 64, L (ix2 0 k) * L (ix2 1 k)) - Ideal.exp (∑ k : Fin 64, L (ix2 2 k) * L (ix2 3 k))
      + Ideal.ofBits .f32 0x3EB60549#32 := by
  unfold lamVal
  rw [lamOf_apply]
  pointwise

theorem kAt_apply {hh : ℕ} (hhh : hh < 2) (Kx : S1x2x8448x128.Idx → Elt Ideal .bf16) {n : ℕ} (hn : n < 33) (j : Fin 256) (d : Fin 128) :
    kAt hhh Kx n (ix4 0 0 j d) = Kx (ix4 0 ⟨hh, hhh⟩ ⟨256 * n + j.val, by omega⟩ d) := by
  rw [← kAt_eq hn]
  pointwise

theorem vAt_apply {hh : ℕ} (hhh : hh < 2) (Vx : S1x2x144x8448.Idx → Elt Ideal .bf16) {n : ℕ} (hn : n < 33) (e : Fin 144) (j : Fin 256) :
    vAt hhh Vx n (ix4 0 0 e j) = Vx (ix4 0 ⟨hh, hhh⟩ e ⟨256 * n + j.val, by omega⟩) := by
  rw [← vAt_eq hn]
  pointwise

theorem qAt_apply {hh : ℕ} (hhh : hh < 2) (Qx : S1x256x256.Idx → Elt Ideal .bf16) (c : Fin 256) (d : Fin 128) :
    View.ld Qx (rQ hhh) (ix3 0 c d) = Qx (ix3 0 c ⟨128 * hh + d.val, by omega⟩) := by
  pointwise

end Cert.Roll

end
-- ==== Proof.ValStream.lean ====
/- A stream's accumulator after all its chunks, when every operand is a real number: each row is the weighted sum of
   its values over the keys so far, scaled by two to minus the running maximum. -/
module

public import proofs.«01_k».proof.Proof.Val

@[expose] public section

set_option maxRecDepth 16384

noncomputable section

namespace Cert.Roll

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_coe {ι : Type*} [Fintype ι] {x y : ι → EReal} {f g : ι → ℝ} (hx : ∀ i, x i = (f i : EReal)) (hy : ∀ i, y i = (g i : EReal)) :
    ∑ i, x i * y i = ((∑ i, f i * g i : ℝ) : EReal) := by
  rw [coe_sum]
  exact Finset.sum_congr rfl fun i _ => by rw [hx, hy, EReal.coe_mul]

theorem ofBits_negInf : Ideal.ofBits .f32 0xFF800000#32 = ⊥ := by simp [Ideal.ofBits, Ideal.ieee]

theorem ofBits_posInf : Ideal.ofBits .f32 0x7F800000#32 = ⊤ := by simp [Ideal.ofBits, Ideal.ieee]

/-- The largest of finitely many reals is a real. -/
theorem fold_max_real {n : ℕ} (hn : 0 < n) (x : Fin n → EReal) (f : Fin n → ℝ) (hx : ∀ i, x i = (f i : EReal)) :
    ∃ r : ℝ, (Finset.univ : Finset (Fin n)).fold max ⊥ x = (r : EReal) := by
  have h1 : (Finset.univ : Finset (Fin n)).fold max ⊥ x < ⊤ :=
    (Finset.fold_max_lt _).mpr ⟨bot_lt_top, fun i _ => by rw [hx]; exact EReal.coe_lt_top _⟩
  have h2 : ⊥ < (Finset.univ : Finset (Fin n)).fold max ⊥ x :=
    (Finset.lt_fold_max _).mpr (.inr ⟨⟨0, hn⟩, Finset.mem_univ _, by rw [hx]; exact EReal.bot_lt_coe _⟩)
  exact ⟨_, (EReal.coe_toReal h1.ne h2.ne').symm⟩

theorem exp2_coe' (r : ℝ) : Ideal.exp2 (r : EReal) = (((2 : ℝ) ^ r : ℝ) : EReal) := rfl

/-- Rescaling: what was scaled to the maximum `a` is scaled to `b`, and the new chunk joins it. -/
theorem rescale (a b P : ℝ) (n : ℕ) (g : Fin n → ℝ) (s : Fin n → ℝ) :
    (2 : ℝ) ^ (a - b) * ((2 : ℝ) ^ (-a) * P) + ∑ j, g j * (2 : ℝ) ^ (s j - b) = (2 : ℝ) ^ (-b) * (P + ∑ j, g j * (2 : ℝ) ^ s j) := by
  have h2 : (0 : ℝ) < 2 := by norm_num
  rw [mul_add, ← mul_assoc, ← Real.rpow_add h2, Finset.mul_sum]
  congr 1
  · congr 2; ring
  · refine Finset.sum_congr rfl fun j _ => ?_
    rw [sub_eq_add_neg, Real.rpow_add h2]; ring

section
variable (ks : ℕ → Vec Ideal S1x1x256x128 .bf16) (vs : ℕ → Vec Ideal S1x1x144x256 .bf16) (q : FVec Ideal S256x128 .bf16)
  (kr : ℕ → Fin 256 → Fin 128 → ℝ) (vr : ℕ → Fin 144 → Fin 256 → ℝ) (qr : Fin 128 → ℝ) (c : Fin 256)

/-- A key's score. -/
def scR (n : ℕ) (j : Fin 256) : ℝ := ∑ d : Fin 128, kr n j d * qr d

variable (hk : ∀ n < 33, ∀ j d, ks n (ix4 0 0 j d) = (kr n j d : EReal))
  (hv : ∀ n < 33, ∀ e j, vs n (ix4 0 0 e j) = (vr n e j : EReal)) (hq : ∀ d, q (ix2 c d) = (qr d : EReal))

include hk hq in
theorem sc_real {n : ℕ} (hn : n < 33) (j : Fin 256) : sc dQ ks q n (ix2 j c) = (scR kr qr n j : EReal) := by
  unfold sc scR
  rw [scoreSt_apply]
  exact sum_mul_coe (hk n hn j) hq

include hk hq in
theorem cm_real {n : ℕ} (hn : n < 33) : ∃ r : ℝ, cm dQ ks q n (ix2 0 c) = (r : EReal) := by
  unfold cm
  rw [colMax_apply, ofBits_negInf]
  refine fold_max_real (by decide) _ (scR kr qr n) fun j => ?_
  rw [scoreOf_apply]
  exact sum_mul_coe (hk n hn j) hq

include hk hv hq in
theorem chunk_real {n : ℕ} (hn : n < 33) (m : FVec Ideal S1x256 .f32) (μ : ℝ) (hm : m (ix2 0 c) = (μ : EReal)) (e : Fin 144) :
    ∑ j : Fin 256, vs n (ix4 0 0 e j) * probOf (sc dQ ks q n) m (ix2 j c)
      = ((∑ j, vr n e j * (2 : ℝ) ^ (scR kr qr n j - μ) : ℝ) : EReal) := by
  refine sum_mul_coe (hv n hn e) fun j => ?_
  rw [probOf_apply, sc_real ks q kr qr c hk hq hn, hm, ← EReal.coe_sub, exp2_coe']

include hk hv hq in
theorem xAt_real : ∀ n < 33, ∃ μ : ℝ, mAt dQ ks q n (ix2 0 c) = (μ : EReal) ∧
    ∀ e, xAt dQ dP ks vs q n (ix2 e c)
      = (((2 : ℝ) ^ (-μ) * ∑ i ∈ Finset.range (n + 1), ∑ j, vr i e j * (2 : ℝ) ^ scR kr qr i j : ℝ) : EReal)
  | 0, h => by
    obtain ⟨μ, hμ⟩ := cm_real ks q kr qr c hk hq h
    refine ⟨μ, hμ, fun e => ?_⟩
    show pvOf dP (vs 0) (probOf (sc dQ ks q 0) (mAt dQ ks q 0)) (ix2 e c) = _
    rw [pvOf_apply, chunk_real ks vs q kr vr qr c hk hv hq h (mAt dQ ks q 0) μ hμ]
    have := rescale μ μ 0 256 (vr 0 e) (scR kr qr 0)
    simp only [mul_zero, zero_add] at this
    rw [this]; simp
  | n + 1, h => by
    obtain ⟨μ, hμ, hx⟩ := xAt_real n (by omega)
    obtain ⟨r, hr⟩ := cm_real ks q kr qr c hk hq h
    have hm : mAt dQ ks q (n + 1) (ix2 0 c) = ((max μ r : ℝ) : EReal) := by
      show max (mAt dQ ks q n (ix2 0 c)) (cm dQ ks q (n + 1) (ix2 0 c)) = _
      rw [hμ, hr]
      exact ((EReal.coe_strictMono.monotone).map_max).symm
    refine ⟨max μ r, hm, fun e => ?_⟩
    show accNext dP (mAt dQ ks q n) (mAt dQ ks q (n + 1)) (xAt dQ dP ks vs q n) (vs (n + 1)) (probOf (sc dQ ks q (n + 1)) (mAt dQ ks q (n + 1))) (ix2 e c) = _
    rw [accNext_apply, chunk_real ks vs q kr vr qr c hk hv hq h _ _ hm, hx, hμ, hm, ← EReal.coe_sub, exp2_coe', ← EReal.coe_mul,
      ← EReal.coe_add, rescale, Finset.sum_range_succ _ (n + 1)]

end

/-- Chunks of 256 keys together are all the keys. -/
theorem sum_chunks (f : ℕ → ℝ) (n : ℕ) : ∑ i ∈ Finset.range n, ∑ j : Fin 256, f (256 * i + j.val) = ∑ k ∈ Finset.range (256 * n), f k := by
  induction n with
  | zero => simp
  | succ n ih => rw [Finset.sum_range_succ, ih, Nat.mul_succ, Finset.sum_range_add, Finset.sum_range (fun x => f (256 * n + x))]

theorem sum_keys (f : ℕ → ℝ) : ∑ i ∈ Finset.range 33, ∑ j : Fin 256, f (256 * i + j.val) = ∑ k : Fin 8448, f k.val := by
  rw [sum_chunks, Finset.sum_range]

/-- The weighted mean of `v` over the keys, the weights two to the scores. -/
def meanR (s v : Fin 8448 → ℝ) : ℝ := (∑ k, v k * (2 : ℝ) ^ s k) / ∑ k, (2 : ℝ) ^ s k

theorem weights_pos (s : Fin 8448 → ℝ) : 0 < ∑ k, (2 : ℝ) ^ s k :=
  Finset.sum_pos (fun k _ => Real.rpow_pos_of_pos (by norm_num) _) ⟨0, Finset.mem_univ _⟩

/-- A quotient of reals, the divisor not zero. -/
theorem div_real (a b : ℝ) (hb : b ≠ 0) : Ideal.div (a : EReal) (b : EReal) = ((a / b : ℝ) : EReal) := by
  rw [Ideal.div_coe hb, ← EReal.coe_mul, mul_one_div]

end Cert.Roll

end
-- ==== Proof.ValRef.lean ====
/- The reference's result read at one element. -/
module

public import proofs.«01_k».proof.Proof.ValStream
public import proofs.«01_k».proof.Proof.Gen.ReferenceIdeal.Run

@[expose] public section

set_option maxRecDepth 16384

noncomputable section

namespace Cert.RefVal

open Cert.ReferenceIdeal Cert.ReferenceIdeal.Gen Idealize.ShloMosaic Idealize.ShloMosaic.TcCoe Idealize.SL.Sem
open Cert.Roll (finAt)

/-- The scores of both halves of every head. -/
def scores (q : FVec Ideal S4x8448x1024 .bf16) (k : FVec Ideal S4x8x8448x128 .bf16) : FVec Ideal S4x8x2x8192x8448 .f32 :=
  Host.dotGeneral dot_S4x8192x8x2x64_S4x8x8448x2x64_S4x8x2x8192x8448_4_4_1_2_023_013 none
    (shapeCast S4x8192x8x2x64 (extf .f32 (extractStridedSlice S4x8192x1024 ![0, 256, 0] q slices_S4x8448x1024_S4x8192x1024_0_256_0) bitsLt_bf16_f32) shapeCasts_S4x8192x1024_S4x8192x8x2x64)
    (shapeCast S4x8x8448x2x64 (extf .f32 k bitsLt_bf16_f32) shapeCasts_S4x8x8448x128_S4x8x8448x2x64)

def spread (x : FVec Ideal S4x8x2x8192 .f32) : FVec Ideal S4x8x2x8192x8448 .f32 :=
  broadcastInDim S4x8x2x8192x8448 ![0, 1, 2, 3, 4] bcast_S4x8x2x8192x1_S4x8x2x8192x8448_0_1_2_3_4 (broadcastInDim S4x8x2x8192x1 ![0, 1, 2, 3] bcast_S4x8x2x8192_S4x8x2x8192x1_0_1_2_3 x)

def rowMax (s : FVec Ideal S4x8x2x8192x8448 .f32) : FVec Ideal S4x8x2x8192 .f32 :=
  Host.reduce FloatOps.maximumf s (constant S_ .f32 0xFF800000#32) reducesTo_S4x8x2x8192x8448_S4x8x2x8192_d4 h_S_

def expo (s : FVec Ideal S4x8x2x8192x8448 .f32) : FVec Ideal S4x8x2x8192x8448 .f32 :=
  Host.exp (mulf (broadcastInDim S4x8x2x8192x8448 ![] bcast_S_S4x8x2x8192x8448 (id (Host.log (constant S_ .f32 0x40000000#32)))) (subf s (spread (rowMax s))))

def rowSum (s : FVec Ideal S4x8x2x8192x8448 .f32) : FVec Ideal S4x8x2x8192 .f32 :=
  Host.reduceAdd s (constant S_ .f32 0x00000000#32) reducesTo_S4x8x2x8192x8448_S4x8x2x8192_d4 h_S_

def soft (s : FVec Ideal S4x8x2x8192x8448 .f32) : FVec Ideal S4x8x2x8192x8448 .f32 := Host.divf (expo s) (spread (rowSum (expo s)))

def lamRef (l : FVec Ideal S4x64 .f32) : FVec Ideal S_ .f32 :=
  addf (subf (Host.exp (Host.reduceAdd (mulf (shapeCast S64 (extractStridedSlice S1x64 ![0, 0] l slices_S4x64_S1x64_0_0) shapeCasts_S1x64_S64) (shapeCast S64 (extractStridedSlice S1x64 ![1, 0] l slices_S4x64_S1x64_1_0) shapeCasts_S1x64_S64)) (constant S_ .f32 0x00000000#32) reducesTo_S64_S_d0 h_S_)) (Host.exp (Host.reduceAdd (mulf (shapeCast S64 (extractStridedSlice S1x64 ![2, 0] l slices_S4x64_S1x64_2_0) shapeCasts_S1x64_S64) (shapeCast S64 (extractStridedSlice S1x64 ![3, 0] l slices_S4x64_S1x64_3_0) shapeCasts_S1x64_S64)) (constant S_ .f32 0x00000000#32) reducesTo_S64_S_d0 h_S_))) (constant S_ .f32 0x3EB60549#32)

def diffRef (p : FVec Ideal S4x8x2x8192x8448 .f32) (lam : FVec Ideal S_ .f32) : FVec Ideal S4x8x8192x8448 .f32 :=
  subf (shapeCast S4x8x8192x8448 (extractStridedSlice S4x8x1x8192x8448 ![0, 0, 0, 0, 0] p slices_S4x8x2x8192x8448_S4x8x1x8192x8448_0_0_0_0_0) shapeCasts_S4x8x1x8192x8448_S4x8x8192x8448)
    (mulf (broadcastInDim S4x8x8192x8448 ![] bcast_S_S4x8x8192x8448 lam)
      (shapeCast S4x8x8192x8448 (extractStridedSlice S4x8x1x8192x8448 ![0, 0, 1, 0, 0] p slices_S4x8x2x8192x8448_S4x8x1x8192x8448_0_0_1_0_0) shapeCasts_S4x8x1x8192x8448_S4x8x8192x8448))

def mixRef (d : FVec Ideal S4x8x8192x8448 .f32) (v : FVec Ideal S4x8x144x8448 .bf16) : FVec Ideal S4x8x8192x128 .f32 :=
  Host.dotGeneral dot_S4x8x8192x8448_S4x8x128x8448_S4x8x8192x128_3_3_2_2_01_01 none d
    (extf .f32 (extractStridedSlice S4x8x128x8448 ![0, 0, 0, 0] v slices_S4x8x144x8448_S4x8x128x8448_0_0_0_0) bitsLt_bf16_f32)

def finRef (o : FVec Ideal S4x8x8192x128 .f32) (w : FVec Ideal S128x1 .f32) : FVec Ideal S4x8x128x8192 .bf16 :=
  truncf .bf16 (transpose S4x8x128x8192 [0, 1, 3, 2] (mulf (mulf (mulf o
    (broadcastInDim S4x8x8192x128 ![0, 1, 2, 3] bcast_S4x8x8192x1_S4x8x8192x128_0_1_2_3 (Host.rsqrt (addf (Host.divf (broadcastInDim S4x8x8192x1 ![0, 1, 2] bcast_S4x8x8192_S4x8x8192x1_0_1_2 (Host.reduceAdd (mulf o o) (constant S_ .f32 0x00000000#32) reducesTo_S4x8x8192x128_S4x8x8192_d3 h_S_)) (broadcastInDim S4x8x8192x1 ![] bcast_S_S4x8x8192x1 (constant S_ .f32 0x43000000#32))) (broadcastInDim S4x8x8192x1 ![] bcast_S_S4x8x8192x1 (constant S_ .f32 0x358637BD#32))))))
    (broadcastInDim S4x8x8192x128 ![0, 1, 2, 3] bcast_S1x1x1x128_S4x8x8192x128_0_1_2_3 (broadcastInDim S1x1x1x128 ![3] bcast_S128_S1x1x1x128_3 (shapeCast S128 w shapeCasts_S128x1_S128))))
    (broadcastInDim S4x8x8192x128 ![] bcast_S_S4x8x8192x128 (constant S_ .f32 0x3F24FD5C#32))) transposes_S4x8x8192x128_S4x8x128x8192_0_1_3_2) bitsLt_bf16_f32

theorem res_eq (m : (ℓ : Loc nD τ sig) → Buf (Elt Ideal) ℓ) (c : Dev nD) :
    Value.res_main_v62 m c = finRef (mixRef (diffRef (soft (scores (m ((c.tc : Thread nD τ).loc main_arg0)) (m ((c.tc : Thread nD τ).loc main_arg1))))
      (lamRef (m ((c.tc : Thread nD τ).loc main_arg3)))) (m ((c.tc : Thread nD τ).loc main_arg2))) (m ((c.tc : Thread nD τ).loc main_arg4)) := rfl

theorem scores_apply (q : FVec Ideal S4x8448x1024 .bf16) (k : FVec Ideal S4x8x8448x128 .bf16) (b : Fin 4) (h : Fin 8) (a : Fin 2) (t : Fin 8192) (κ : Fin 8448) :
    scores q k (ix5 b h a t κ) = ∑ d : Fin 64, q (ix3 b ⟨256 + t.val, by omega⟩ ⟨h.val * 128 + a.val * 64 + d.val, by omega⟩) * k (ix4 b h κ ⟨a.val * 64 + d.val, by omega⟩) := by
  pointwise [scores]

theorem spread_apply (x : FVec Ideal S4x8x2x8192 .f32) (b : Fin 4) (h : Fin 8) (a : Fin 2) (t : Fin 8192) (κ : Fin 8448) :
    spread x (ix5 b h a t κ) = x (ix4 b h a t) := by
  pointwise [spread]

theorem rowMax_apply (x : FVec Ideal S4x8x2x8192x8448 .f32) (b : Fin 4) (h : Fin 8) (a : Fin 2) (t : Fin 8192) :
    rowMax x (ix4 b h a t) = (Finset.univ : Finset (Fin 8448)).fold max (Ideal.ofBits .f32 0xFF800000#32) (fun κ => x (ix5 b h a t κ)) := by
  pointwise [rowMax]

theorem rowSum_apply (x : FVec Ideal S4x8x2x8192x8448 .f32) (b : Fin 4) (h : Fin 8) (a : Fin 2) (t : Fin 8192) :
    rowSum x (ix4 b h a t) = ∑ κ : Fin 8448, x (ix5 b h a t κ) := by
  pointwise [rowSum]

theorem expo_apply (s : FVec Ideal S4x8x2x8192x8448 .f32) (b : Fin 4) (h : Fin 8) (a : Fin 2) (t : Fin 8192) (κ : Fin 8448) :
    expo s (ix5 b h a t κ) = Ideal.exp (Ideal.log (Ideal.ofBits .f32 0x40000000#32) * (s (ix5 b h a t κ) - rowMax s (ix4 b h a t))) := by
  rw [← spread_apply (rowMax s) b h a t κ]
  pointwise [expo]
  rfl

theorem soft_apply (s : FVec Ideal S4x8x2x8192x8448 .f32) (b : Fin 4) (h : Fin 8) (a : Fin 2) (t : Fin 8192) (κ : Fin 8448) :
    soft s (ix5 b h a t κ) = Ideal.div (expo s (ix5 b h a t κ)) (∑ κ : Fin 8448, expo s (ix5 b h a t κ)) := by
  rw [← rowSum_apply (expo s) b h a t, ← spread_apply (rowSum (expo s)) b h a t κ]
  pointwise [soft]

theorem lamRef_apply (l : FVec Ideal S4x64 .f32) (i : S_.Idx) :
    lamRef l i = Ideal.exp (∑ k : Fin 64, l (ix2 0 k) * l (ix2 1 k)) - Ideal.exp (∑ k : Fin 64, l (ix2 2 k) * l (ix2 3 k)) + Ideal.ofBits .f32 0x3EB60549#32 := by
  pointwise [lamRef]

theorem diffRef_apply (p : FVec Ideal S4x8x2x8192x8448 .f32) (lam : FVec Ideal S_ .f32) (L : EReal) (hL : ∀ i, lam i = L) (b : Fin 4) (h : Fin 8) (t : Fin 8192) (κ : Fin 8448) :
    diffRef p lam (ix4 b h t κ) = p (ix5 b h 0 t κ) - L * p (ix5 b h 1 t κ) := by
  pointwise [diffRef]
  rw [hL]

theorem mixRef_apply (d : FVec Ideal S4x8x8192x8448 .f32) (v : FVec Ideal S4x8x144x8448 .bf16) (b : Fin 4) (h : Fin 8) (t : Fin 8192) (e : Fin 128) :
    mixRef d v (ix4 b h t e) = ∑ κ : Fin 8448, d (ix4 b h t κ) * v (ix4 b h ⟨e.val, by omega⟩ κ) := by
  pointwise [mixRef]

theorem finRef_apply (o : FVec Ideal S4x8x8192x128 .f32) (w : FVec Ideal S128x1 .f32) (b : Fin 4) (h : Fin 8) (e : Fin 128) (t : Fin 8192) :
    finRef o w (ix4 b h e t) = finAt (fun e => o (ix4 b h t e)) (fun e => w (ix2 e 0)) e := by
  unfold finAt
  pointwise [finRef]

end Cert.RefVal

end
-- ==== Proof.ValFin.lean ====
/- Both programs' results over the reals: the difference of two weighted means, normalised. -/
module

public import proofs.«01_k».proof.Proof.ValRef

@[expose] public section

set_option maxRecDepth 16384

noncomputable section

namespace Cert.Roll

open Idealize.ShloMosaic

theorem query_lt (t : Fin 8192) : 256 + t.val < 8448 := by omega
theorem lane_lt (h : Fin 8) (a : Fin 2) (d : Fin 64) : h.val * 128 + a.val * 64 + d.val < 1024 := by omega
theorem half_lt (a : Fin 2) (d : Fin 64) : a.val * 64 + d.val < 128 := by omega
theorem pair_lt {x : ℕ} (hx : x < 2) (a : Fin 2) (d : Fin 64) : x * 128 + a.val * 64 + d.val < 256 := by omega
theorem row_lt (e : Fin 128) : e.val < 144 := by omega
theorem low_lt (c : Fin 256) : c.val < 512 := by omega
theorem high_lt (c : Fin 256) : 256 + c.val < 512 := by omega

/-- Zero past the last key. -/
def ext (f : Fin 8448 → ℝ) (n : ℕ) : ℝ := if h : n < 8448 then f ⟨n, h⟩ else 0

theorem ext_val (f : Fin 8448 → ℝ) (k : Fin 8448) : ext f k.val = f k := dif_pos k.isLt

theorem ext_mk (f : Fin 8448 → ℝ) (n : ℕ) (h : n < 8448) : ext f n = f ⟨n, h⟩ := dif_pos h

/-- The lanes of the other half being zero, a score is the sum over its own half. -/
theorem half_sum (a : Fin 2) (k : Fin 128 → ℝ) (q : Fin 128 → ℝ) :
    (∑ d : Fin 128, k d * if d.val / 64 = a.val then q d else 0) = ∑ d : Fin 64, q ⟨a.val * 64 + d.val, half_lt a d⟩ * k ⟨a.val * 64 + d.val, half_lt a d⟩ := by
  rw [show (∑ d : Fin 128, k d * if d.val / 64 = a.val then q d else 0)
    = ∑ d : Fin (64 + 64), (k d * if d.val / 64 = a.val then q d else 0) from rfl, Fin.sum_univ_add]
  obtain rfl | rfl : a = 0 ∨ a = 1 := by omega
  · rw [Finset.sum_eq_zero (s := Finset.univ) (f := fun i : Fin 64 => k (Fin.natAdd 64 i) * _)
      (fun d _ => by rw [if_neg (by show ¬ (64 + d.val) / 64 = 0; omega), mul_zero]), add_zero]
    refine Finset.sum_congr rfl fun d _ => ?_
    rw [if_pos (by show d.val / 64 = 0; omega), mul_comm]
    have hd : Fin.castAdd 64 d = (⟨0 * 64 + d.val, by omega⟩ : Fin 128) := Fin.ext (by simp)
    exact congrArg (fun x => q x * k x) hd
  · rw [Finset.sum_eq_zero (s := Finset.univ) (f := fun i : Fin 64 => k (Fin.castAdd 64 i) * _)
      (fun d _ => by rw [if_neg (by show ¬ d.val / 64 = 1; omega), mul_zero]), zero_add]
    refine Finset.sum_congr rfl fun d _ => ?_
    rw [if_pos (by show (64 + d.val) / 64 = 1; omega), mul_comm]
    rfl

section
variable {hh : ℕ} (hhh : hh < 2) (Qx : S1x256x256.Idx → Elt Ideal .bf16) (Kx : S1x2x8448x128.Idx → Elt Ideal .bf16) (Vx : S1x2x144x8448.Idx → Elt Ideal .bf16)
  (qr : Fin 256 → ℝ) (kr : Fin 8448 → Fin 128 → ℝ) (vr : Fin 144 → Fin 8448 → ℝ) (c : Fin 256)

/-- One softmax's mean of the values, from a stream's accumulator. -/
theorem norm_real (a : Fin 2) (hq : ∀ j, Qx (ix3 0 c j) = (qr j : EReal)) (hk : ∀ κ d, Kx (ix4 0 ⟨hh, hhh⟩ κ d) = (kr κ d : EReal))
    (hv : ∀ e κ, Vx (ix4 0 ⟨hh, hhh⟩ e κ) = (vr e κ : EReal)) (h1 : ∀ κ, vr 128 κ = 1) (e : Fin 128) :
    normOf (xAt dQ dP (kAt hhh Kx) (vAt hhh Vx) (qHalf (BitVec.ofNat 32 a.val) (View.ld Qx (rQ hhh))) 32) (ix2 e c)
      = (meanR (fun κ => ∑ d : Fin 64, qr ⟨hh * 128 + a.val * 64 + d.val, pair_lt hhh a d⟩ * kr κ ⟨a.val * 64 + d.val, half_lt a d⟩) (vr ⟨e.val, row_lt e⟩) : EReal) := by
  let qh : Fin 128 → ℝ := fun d => if d.val / 64 = a.val then qr ⟨128 * hh + d.val, by omega⟩ else 0
  obtain ⟨μ, -, hx⟩ := xAt_real (kAt hhh Kx) (vAt hhh Vx) (qHalf (BitVec.ofNat 32 a.val) (View.ld Qx (rQ hhh)))
    (fun n j d => ext (fun κ => kr κ d) (256 * n + j.val)) (fun n e j => ext (vr e) (256 * n + j.val)) qh c
    (fun n hn j d => by rw [kAt_apply hhh Kx hn, hk, ext_mk _ _ (by omega)])
    (fun n hn e j => by rw [vAt_apply hhh Vx hn, hv, ext_mk _ _ (by omega)])
    (fun d => by
      rw [qHalf_apply a.val a.isLt, qAt_apply]
      show (if d.val / 64 = a.val then _ else _) = ((if d.val / 64 = a.val then _ else _ : ℝ) : EReal)
      split
      · rw [hq]
      · rfl) 32 (by decide)
  have key : ∀ e : Fin 144, xAt dQ dP (kAt hhh Kx) (vAt hhh Vx) (qHalf (BitVec.ofNat 32 a.val) (View.ld Qx (rQ hhh))) 32 (ix2 e c)
      = (((2 : ℝ) ^ (-μ) * ∑ κ, vr e κ * (2 : ℝ) ^ (∑ d : Fin 64, qr ⟨hh * 128 + a.val * 64 + d.val, pair_lt hhh a d⟩ * kr κ ⟨a.val * 64 + d.val, half_lt a d⟩) : ℝ) : EReal) := by
    intro e
    rw [hx e]
    have := sum_keys fun k => ext (vr e) k * (2 : ℝ) ^ (∑ d : Fin 128, ext (fun κ => kr κ d) k * qh d)
    congr 2
    refine this.trans (Finset.sum_congr rfl fun κ _ => ?_)
    simp only [ext_val]
    congr 2
    refine (half_sum a (kr κ) fun d => qr ⟨128 * hh + d.val, by omega⟩).trans (Finset.sum_congr rfl fun d _ => ?_)
    congr 3
    dsimp; omega
  have hpos : (0 : ℝ) < 2 ^ (-μ) := Real.rpow_pos_of_pos (by norm_num) _
  have hD := weights_pos fun κ => ∑ d : Fin 64, qr ⟨hh * 128 + a.val * 64 + d.val, pair_lt hhh a d⟩ * kr κ ⟨a.val * 64 + d.val, half_lt a d⟩
  rw [normOf_apply, key, key, div_real]
  · simp only [h1, one_mul]
    rw [mul_div_mul_left _ _ hpos.ne']
    rfl
  · simp only [h1, one_mul]
    exact (mul_pos hpos hD).ne'

end

section
variable (Qa Qb : S1x256x256.Idx → Elt Ideal .bf16) (Kx : S1x2x8448x128.Idx → Elt Ideal .bf16) (Vx : S1x2x144x8448.Idx → Elt Ideal .bf16)
  (Lx : S4x64.Idx → Elt Ideal .f32) (Wx : S128x1.Idx → Elt Ideal .f32)
  (qr : Fin 512 → Fin 256 → ℝ) (kr : Fin 2 → Fin 8448 → Fin 128 → ℝ) (vr : Fin 2 → Fin 144 → Fin 8448 → ℝ) (L : ℝ)

/-- The two means of a head, the second weighted and taken away. -/
def mixR (s : Fin 2 → Fin 8448 → ℝ) (v : Fin 8448 → ℝ) (L : ℝ) : ℝ := meanR (s 0) v - L * meanR (s 1) v

variable (ha : ∀ (c : Fin 256) j, Qa (ix3 0 c j) = (qr ⟨c.val, low_lt c⟩ j : EReal)) (hb : ∀ (c : Fin 256) j, Qb (ix3 0 c j) = (qr ⟨256 + c.val, high_lt c⟩ j : EReal))
  (hk : ∀ x κ d, Kx (ix4 0 x κ d) = (kr x κ d : EReal)) (hv : ∀ x e κ, Vx (ix4 0 x e κ) = (vr x e κ : EReal)) (h1 : ∀ x κ, vr x 128 κ = 1)
  (hL : lamVal (F := Ideal) Lx (ix2 0 0) = (L : EReal))
include ha hb hk hv h1 hL

theorem head_real {hh : ℕ} (hhh : hh < 2) (e : Fin 128) (t : Fin 512) :
    headVal dQ dP Qa Qb Kx Vx Wx hhh (lamVal Lx) (ix4 0 0 e t)
      = finAt (fun e => (mixR (fun a κ => ∑ d : Fin 64, qr t ⟨hh * 128 + a.val * 64 + d.val, pair_lt hhh a d⟩ * kr ⟨hh, hhh⟩ κ ⟨a.val * 64 + d.val, half_lt a d⟩)
          (vr ⟨hh, hhh⟩ ⟨e.val, row_lt e⟩) L : EReal)) (fun e => Wx (ix2 e 0)) e := by
  unfold headVal
  rw [outOf_apply]
  congr 1
  funext e
  rw [diffOf_apply, hL]
  split
  · next ht =>
    refine (congrArg₂ (fun x y : EReal => x - (L : EReal) * y) (norm_real hhh Qa Kx Vx (qr t) (kr ⟨hh, hhh⟩) (vr ⟨hh, hhh⟩) ⟨t.val, ht⟩ 0 (ha _) (hk _) (hv _) (h1 _) e)
      (norm_real hhh Qa Kx Vx (qr t) (kr ⟨hh, hhh⟩) (vr ⟨hh, hhh⟩) ⟨t.val, ht⟩ 1 (ha _) (hk _) (hv _) (h1 _) e)).trans ?_
    rw [← EReal.coe_mul, ← EReal.coe_sub]
    rfl
  · next ht =>
    have hq : ∀ j, Qb (ix3 0 ⟨t.val - 256, by omega⟩ j) = (qr t j : EReal) := fun j => by
      rw [hb]; congr 2; ext; dsimp; omega
    refine (congrArg₂ (fun x y : EReal => x - (L : EReal) * y) (norm_real hhh Qb Kx Vx (qr t) (kr ⟨hh, hhh⟩) (vr ⟨hh, hhh⟩) ⟨t.val - 256, by omega⟩ 0 hq (hk _) (hv _) (h1 _) e)
      (norm_real hhh Qb Kx Vx (qr t) (kr ⟨hh, hhh⟩) (vr ⟨hh, hhh⟩) ⟨t.val - 256, by omega⟩ 1 hq (hk _) (hv _) (h1 _) e)).trans ?_
    rw [← EReal.coe_mul, ← EReal.coe_sub]
    rfl

theorem block_real (x : Fin 2) (e : Fin 128) (t : Fin 512) :
    outBlk dQ dP Qa Qb Kx Vx Lx Wx (ix4 0 x e t)
      = finAt (fun e => (mixR (fun a κ => ∑ d : Fin 64, qr t ⟨x.val * 128 + a.val * 64 + d.val, pair_lt x.isLt a d⟩ * kr x κ ⟨a.val * 64 + d.val, half_lt a d⟩)
          (vr x ⟨e.val, row_lt e⟩) L : EReal)) (fun e => Wx (ix2 e 0)) e := by
  have h0 := head_real Qa Qb Kx Vx Lx Wx qr kr vr L ha hb hk hv h1 hL (hh := 0) (by decide) e t
  have h2 := head_real Qa Qb Kx Vx Lx Wx qr kr vr L ha hb hk hv h1 hL (hh := 1) (by decide) e t
  obtain rfl | rfl : x = 0 ∨ x = 1 := by omega
  · exact h0
  · exact h2

end

end Cert.Roll

namespace Cert.RefVal

open Cert.ReferenceIdeal Idealize.ShloMosaic
open Cert.Roll (meanR mixR coe_sum exp2_coe' div_real weights_pos sum_mul_coe query_lt lane_lt half_lt row_lt fold_max_real ofBits_negInf)

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]
    norm_num
  rw [h, Ideal.log_coe, if_neg (by norm_num)]

section
variable (q : FVec Ideal S4x8448x1024 .bf16) (k : FVec Ideal S4x8x8448x128 .bf16) (v : FVec Ideal S4x8x144x8448 .bf16)
  (qr : Fin 4 → Fin 8448 → Fin 1024 → ℝ) (kr : Fin 4 → Fin 8 → Fin 8448 → Fin 128 → ℝ) (vr : Fin 4 → Fin 8 → Fin 144 → Fin 8448 → ℝ)
  (hq : ∀ b t j, q (ix3 b t j) = (qr b t j : EReal)) (hk : ∀ b h κ d, k (ix4 b h κ d) = (kr b h κ d : EReal)) (hv : ∀ b h e κ, v (ix4 b h e κ) = (vr b h e κ : EReal))

/-- A key's score for a query, in one half of a head. -/
def scoreR (b : Fin 4) (h : Fin 8) (t : Fin 8192) (a : Fin 2) (κ : Fin 8448) : ℝ :=
  ∑ d : Fin 64, qr b ⟨256 + t.val, query_lt t⟩ ⟨h.val * 128 + a.val * 64 + d.val, lane_lt h a d⟩ * kr b h κ ⟨a.val * 64 + d.val, half_lt a d⟩

include hq hk in
theorem scores_real (b : Fin 4) (h : Fin 8) (a : Fin 2) (t : Fin 8192) (κ : Fin 8448) : scores q k (ix5 b h a t κ) = (scoreR qr kr b h t a κ : EReal) := by
  rw [scores_apply]
  exact sum_mul_coe (fun d => hq _ _ _) (fun d => hk _ _ _ _)

include hq hk in
theorem soft_real (b : Fin 4) (h : Fin 8) (a : Fin 2) (t : Fin 8192) (κ : Fin 8448) :
    soft (scores q k) (ix5 b h a t κ) = (((2 : ℝ) ^ scoreR qr kr b h t a κ / ∑ κ, (2 : ℝ) ^ scoreR qr kr b h t a κ : ℝ) : EReal) := by
  obtain ⟨M, hM⟩ : ∃ M : ℝ, rowMax (scores q k) (ix4 b h a t) = (M : EReal) := by
    rw [rowMax_apply, ofBits_negInf]
    exact fold_max_real (by decide) _ _ fun κ => scores_real q k qr kr hq hk b h a t κ
  have he : ∀ κ, expo (scores q k) (ix5 b h a t κ) = (((2 : ℝ) ^ (-M) * (2 : ℝ) ^ scoreR qr kr b h t a κ : ℝ) : EReal) := fun κ => by
    rw [expo_apply, scores_real q k qr kr hq hk, hM, log_two, ← EReal.coe_sub, ← EReal.coe_mul, Ideal.exp_coe,
      ← Real.rpow_def_of_pos (by norm_num), sub_eq_neg_add, Real.rpow_add (by norm_num)]
  have hpos : (0 : ℝ) < 2 ^ (-M) := Real.rpow_pos_of_pos (by norm_num) _
  rw [soft_apply, Finset.sum_congr rfl fun κ _ => he κ, he, ← coe_sum, ← Finset.mul_sum, div_real, mul_div_mul_left _ _ hpos.ne']
  exact (mul_pos hpos (weights_pos _)).ne'

include hq hk hv in
theorem mix_real (lam : FVec Ideal S_ .f32) (L : ℝ) (hL : ∀ i, lam i = (L : EReal)) (b : Fin 4) (h : Fin 8) (t : Fin 8192) (e : Fin 128) :
    mixRef (diffRef (soft (scores q k)) lam) v (ix4 b h t e) = (mixR (scoreR qr kr b h t) (vr b h ⟨e.val, row_lt e⟩) L : EReal) := by
  rw [mixRef_apply]
  refine (sum_mul_coe (f := fun κ => (2 : ℝ) ^ scoreR qr kr b h t 0 κ / (∑ κ, (2 : ℝ) ^ scoreR qr kr b h t 0 κ)
    - L * ((2 : ℝ) ^ scoreR qr kr b h t 1 κ / ∑ κ, (2 : ℝ) ^ scoreR qr kr b h t 1 κ)) (g := vr b h ⟨e.val, row_lt e⟩) (fun κ => ?_) fun κ => hv _ _ _ _).trans ?_
  · rw [diffRef_apply _ lam L hL, soft_real q k qr kr hq hk, soft_real q k qr kr hq hk, ← EReal.coe_mul, ← EReal.coe_sub]
  · congr 1
    unfold mixR meanR
    rw [Finset.sum_div, Finset.sum_div, Finset.mul_sum, ← Finset.sum_sub_distrib]
    exact Finset.sum_congr rfl fun κ _ => by ring

end

/-- The weight of the second softmax is a real. -/
theorem lam_real (l : FVec Ideal S4x64 .f32) (lr : Fin 4 → Fin 64 → ℝ) (hl : ∀ i j, l (ix2 i j) = (lr i j : EReal)) :
    ∃ L : ℝ, Ideal.exp (∑ k : Fin 64, l (ix2 0 k) * l (ix2 1 k)) - Ideal.exp (∑ k : Fin 64, l (ix2 2 k) * l (ix2 3 k)) + Ideal.ofBits .f32 0x3EB60549#32 = (L : EReal) := by
  obtain ⟨c, hc⟩ : ∃ c : ℝ, Ideal.ofBits .f32 0x3EB60549#32 = (c : EReal) := by
    simp [Ideal.ofBits, Ideal.ieee]
    exact ⟨_, (EReal.coe_mul _ _).symm⟩
  rw [sum_mul_coe (hl 0) (hl 1), sum_mul_coe (hl 2) (hl 3), hc, Ideal.exp_coe, Ideal.exp_coe, ← EReal.coe_sub, ← EReal.coe_add]
  exact ⟨_, rfl⟩

end Cert.RefVal

end
-- ==== Proof.ValK.lean ====
/- The kernel's result array over the reals, and both programs' results equal. -/
module

public import proofs.«01_k».proof.Proof.ValFin
public import proofs.«01_k».proof.Proof.RunKI
public import Idealize.ShloMosaic.Lib.Pipeline.ValueKit.Geometry

@[expose] public section

set_option maxRecDepth 16384

noncomputable section

namespace Cert.KernelIdeal.Hand

open Idealize.ShloMosaic Idealize.ShloMosaic.TcCoe Idealize.SL.Sem Cert.KernelIdeal.Gen
open Cert.Roll (finAt mixR dQ dP block_real lamVal lamVal_apply)
open Cert.RefVal (scoreR)

theorem dot_keys : dot_S256x128_S256x128_S256x256_1_1_0_0_n_n = dQ := rfl
theorem dot_values : dot_S144x256_S256x256_S144x256_1_0_0_1_n_n = dP := rfl

theorem index0 : ∀ t : Fin cfg0.N, win0_0.index t = ![t.val / 64, 2 * (t.val % 16) + 1, t.val / 16 % 4] :=
  (by decide +kernel : ∀ t : Fin grid0.N, win0_0.index t = ![t.val / 64, 2 * (t.val % 16) + 1, t.val / 16 % 4])
theorem index1 : ∀ t : Fin cfg0.N, win0_1.index t = ![t.val / 64, 2 * (t.val % 16) + 2, t.val / 16 % 4] :=
  (by decide +kernel : ∀ t : Fin grid0.N, win0_1.index t = ![t.val / 64, 2 * (t.val % 16) + 2, t.val / 16 % 4])
theorem index2 : ∀ t : Fin cfg0.N, win0_2.index t = ![t.val / 64, t.val / 16 % 4, 0, 0] :=
  (by decide +kernel : ∀ t : Fin grid0.N, win0_2.index t = ![t.val / 64, t.val / 16 % 4, 0, 0])
theorem index3 : ∀ t : Fin cfg0.N, win0_3.index t = ![t.val / 64, t.val / 16 % 4, 0, 0] :=
  (by decide +kernel : ∀ t : Fin grid0.N, win0_3.index t = ![t.val / 64, t.val / 16 % 4, 0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![t.val / 64, t.val / 16 % 4, 0, t.val % 16] :=
  (by decide +kernel : ∀ t : Fin grid0.N, win0_6.index t = ![t.val / 64, t.val / 16 % 4, 0, t.val % 16])

variable (m : (ℓ : Loc nD τ sig) → Buf (Elt Ideal) ℓ) (c : Dev nD)

theorem blk0 (t : Fin cfg0.N) (r j : Fin 256) (ht : t.val < 256) :
    iblk m c 0 t (ix3 0 r j) = m ((c.tc : Thread nD τ).loc main_arg0) (ix3 ⟨t.val / 64, by omega⟩ ⟨(2 * (t.val % 16) + 1) * 256 + r.val, by omega⟩ ⟨t.val / 16 % 4 * 256 + j.val, by omega⟩) := by
  blk_simp [iblk]
  rw [V_main_arg0]
  congr 1
  blk_ext [index0]

theorem blk1 (t : Fin cfg0.N) (r j : Fin 256) (ht : t.val < 256) :
    iblk m c 1 t (ix3 0 r j) = m ((c.tc : Thread nD τ).loc main_arg0) (ix3 ⟨t.val / 64, by omega⟩ ⟨(2 * (t.val % 16) + 2) * 256 + r.val, by omega⟩ ⟨t.val / 16 % 4 * 256 + j.val, by omega⟩) := by
  blk_simp [iblk]
  rw [V_main_arg0]
  congr 1
  blk_ext [index1]

theorem blk2 (t : Fin cfg0.N) (x : Fin 2) (κ : Fin 8448) (d : Fin 128) (ht : t.val < 256) :
    iblk m c 2 t (ix4 0 x κ d) = m ((c.tc : Thread nD τ).loc main_arg1) (ix4 ⟨t.val / 64, by omega⟩ ⟨t.val / 16 % 4 * 2 + x.val, by omega⟩ κ d) := by
  blk_simp [iblk]
  rw [V_main_arg1]
  congr 1
  blk_ext [index2]

theorem blk3 (t : Fin cfg0.N) (x : Fin 2) (e : Fin 144) (κ : Fin 8448) (ht : t.val < 256) :
    iblk m c 3 t (ix4 0 x e κ) = m ((c.tc : Thread nD τ).loc main_arg2) (ix4 ⟨t.val / 64, by omega⟩ ⟨t.val / 16 % 4 * 2 + x.val, by omega⟩ e κ) := by
  blk_simp [iblk]
  rw [V_main_arg2]
  congr 1
  blk_ext [index3]

theorem blk4 (t : Fin cfg0.N) (i : Fin 4) (j : Fin 64) : iblk m c 4 t (ix2 i j) = m ((c.tc : Thread nD τ).loc main_arg3) (ix2 i j) := by
  blk_simp [iblk]
  rw [V_main_arg3]
  congr 1
  blk_ext [index4]

theorem blk5 (t : Fin cfg0.N) (i : Fin 128) : iblk m c 5 t (ix2 i 0) = m ((c.tc : Thread nD τ).loc main_arg4) (ix2 i 0) := by
  blk_simp [iblk]
  rw [V_main_arg4]
  congr 1
  blk_ext [index5]

/-- The result over the reals. -/
def resR (qr : Fin 4 → Fin 8448 → Fin 1024 → ℝ) (kr : Fin 4 → Fin 8 → Fin 8448 → Fin 128 → ℝ) (vr : Fin 4 → Fin 8 → Fin 144 → Fin 8448 → ℝ) (L : ℝ)
    (w : Fin 128 → EReal) : S4x8x128x8192.Idx → EReal := fun i =>
  finAt (fun e => (mixR (scoreR qr kr (i 0) (i 1) (i 3)) (vr (i 0) (i 1) ⟨e.val, Roll.row_lt e⟩) L : EReal)) w (i 2)

section
variable (qr : Fin 4 → Fin 8448 → Fin 1024 → ℝ) (kr : Fin 4 → Fin 8 → Fin 8448 → Fin 128 → ℝ) (vr : Fin 4 → Fin 8 → Fin 144 → Fin 8448 → ℝ) (L : ℝ)
  (hq : ∀ b t j, m ((c.tc : Thread nD τ).loc main_arg0) (ix3 b t j) = (qr b t j : EReal))
  (hk : ∀ b h κ d, m ((c.tc : Thread nD τ).loc main_arg1) (ix4 b h κ d) = (kr b h κ d : EReal))
  (hv : ∀ b h e κ, m ((c.tc : Thread nD τ).loc main_arg2) (ix4 b h e κ) = (vr b h e κ : EReal)) (h1 : ∀ b h κ, vr b h 128 κ = 1)
include hq hk hv h1

theorem oblk_real (t : Fin cfg0.N) (ht : t.val < 256) (hL : lamVal (F := Ideal) (iblk m c 4 t) (ix2 0 0) = (L : EReal)) (x : Fin 2) (e : Fin 128) (u : Fin 512) :
    oblk m c t (ix4 0 x e u) = resR qr kr vr L (fun e => m ((c.tc : Thread nD τ).loc main_arg4) (ix2 e 0))
      (ix4 ⟨t.val / 64, by omega⟩ ⟨t.val / 16 % 4 * 2 + x.val, by omega⟩ e ⟨t.val % 16 * 512 + u.val, by omega⟩) := by
  unfold oblk
  rw [dot_keys, dot_values]
  refine (block_real (iblk m c 0 t) (iblk m c 1 t) (iblk m c 2 t) (iblk m c 3 t) (iblk m c 4 t) (iblk m c 5 t)
    (fun u j => qr ⟨t.val / 64, by omega⟩ ⟨(2 * (t.val % 16) + 1) * 256 + u.val, by omega⟩ ⟨t.val / 16 % 4 * 256 + j.val, by omega⟩)
    (fun x => kr ⟨t.val / 64, by omega⟩ ⟨t.val / 16 % 4 * 2 + x.val, by omega⟩) (fun x => vr ⟨t.val / 64, by omega⟩ ⟨t.val / 16 % 4 * 2 + x.val, by omega⟩) L
    (fun r j => (blk0 m c t r j ht).trans (hq _ _ _))
    (fun r j => (blk1 m c t r j ht).trans ((hq _ _ _).trans (congrArg (fun n => (qr _ n _ : EReal)) (Fin.ext (by dsimp; omega)))))
    (fun x κ d => (blk2 m c t x κ d ht).trans (hk _ _ _ _)) (fun x e κ => (blk3 m c t x e κ ht).trans (hv _ _ _ _)) (fun x κ => h1 _ _ _) hL x e u).trans ?_
  unfold resR
  refine congrArg₂ (fun o w => finAt o w e) (funext fun e => ?_) (funext fun e => blk5 m c t e)
  refine congrArg (fun s => ((mixR s _ L : ℝ) : EReal)) (funext fun a => funext fun κ => ?_)
  unfold scoreR
  refine Finset.sum_congr rfl fun d _ => congrArg₂ (fun n j => qr _ n j * _) (Fin.ext ?_) (Fin.ext ?_)
  · dsimp; omega
  · dsimp; omega

theorem final_real (hL : ∀ i, i = ix2 0 0 → lamVal (F := Ideal) (m ((c.tc : Thread nD τ).loc main_arg3)) i = (L : EReal)) :
    (dats m 0 c).arrAt 6 cfg0.N = resR qr kr vr L (fun e => m ((c.tc : Thread nD τ).loc main_arg4) (ix2 e 0)) := by
  refine (dats m 0 c).arrAt_eq_of_covers 6 _ (by decide +kernel) fun t hf y => ?_
  have ht : t.val < 256 := lt_of_lt_of_eq t.isLt N_0
  blk_simp
  rw [after0_6]
  have hl : lamVal (F := Ideal) (iblk m c 4 t) (ix2 0 0) = (L : EReal) := by
    rw [← hL _ rfl, lamVal_apply, lamVal_apply]
    simp only [blk4]
  obtain ⟨x, e, u, rfl⟩ : ∃ (x : Fin 2) (e : Fin 128) (u : Fin 512), y = ix4 0 x e u := ⟨y 1, y 2, y 3, by
    funext a; fin_cases a
    · exact Fin.ext (by have := (y 0).isLt; change _ < 1 at this; change (y 0).val = 0; omega)
    all_goals rfl⟩
  refine (oblk_real m c qr kr vr L hq hk hv h1 t ht hl x e u).trans ?_
  congr 1
  blk_ext [index6]

end

end Cert.KernelIdeal.Hand

end
-- ==== Proof.ValPre.lean ====
/- What the precondition says: every operand is a real number, and row 128 of the values is all ones. -/
module

public import proofs.«01_k».proof.Defs
public import proofs.«01_k».proof.Proof.ValK

@[expose] public section

set_option maxRecDepth 16384

noncomputable section

namespace Cert.PreVal

open Idealize.ShloMosaic Idealize.ShloMosaic.TcCoe Idealize.SL.Sem

/-- A number whose absolute value is below infinity is real. -/
theorem real_of_abs_lt (x : EReal) (h : BitVec.ofBool (decide (max x (-x) < Ideal.ofBits .f32 0x7F800000#32)) = 1#1) : x = ((x.toReal : ℝ) : EReal) := by
  rw [Cert.Roll.ofBits_posInf] at h
  have hlt : max x (-x) < ⊤ := by
    by_contra hn
    rw [decide_eq_false hn] at h
    exact absurd h (by decide)
  obtain ⟨h1, h2⟩ := max_lt_iff.mp hlt
  refine (EReal.coe_toReal h1.ne ?_).symm
  rintro rfl
  simp at h2

theorem one_of_eq (x : EReal) (h : BitVec.ofBool (decide (x = Ideal.ofBits .f32 0x3F800000#32)) = 1#1) : x = 1 := by
  by_contra hn
  rw [Ideal.ofBits_one_f32, decide_eq_false hn] at h
  exact absurd h (by decide)

variable [hP : Cert.Pre_finite_with_ones.Facts]

section
variable (q : FVec Ideal KernelIdeal.S4x8448x1024 .bf16) (k : FVec Ideal KernelIdeal.S4x8x8448x128 .bf16) (v : FVec Ideal KernelIdeal.S4x8x144x8448 .bf16)
  (l : FVec Ideal KernelIdeal.S4x64 .f32) (w : FVec Ideal KernelIdeal.S128x1 .f32)

theorem q_real (h : (Cert.Pre_finite_with_ones.fn (F := Ideal) q k v l w).1 = fun _ => 1#1) (b : Fin 4) (t : Fin 8448) (j : Fin 1024) :
    q (ix3 b t j) = (((q (ix3 b t j) : EReal).toReal : ℝ) : EReal) := by
  refine real_of_abs_lt _ ((?_ : _ = _).trans (congrFun h (ix3 b t j)))
  pointwise [Cert.Pre_finite_with_ones.fn, Cert.Pre_finite_with_ones.fn_part1]
  rfl

theorem k_real (h : (Cert.Pre_finite_with_ones.fn (F := Ideal) q k v l w).2.1 = fun _ => 1#1) (b : Fin 4) (x : Fin 8) (t : Fin 8448) (j : Fin 128) :
    k (ix4 b x t j) = (((k (ix4 b x t j) : EReal).toReal : ℝ) : EReal) := by
  refine real_of_abs_lt _ ((?_ : _ = _).trans (congrFun h (ix4 b x t j)))
  pointwise [Cert.Pre_finite_with_ones.fn, Cert.Pre_finite_with_ones.fn_part1]
  rfl

theorem v_real (h : (Cert.Pre_finite_with_ones.fn (F := Ideal) q k v l w).2.2.1 = fun _ => 1#1) (b : Fin 4) (x : Fin 8) (e : Fin 144) (t : Fin 8448) :
    v (ix4 b x e t) = (((v (ix4 b x e t) : EReal).toReal : ℝ) : EReal) := by
  refine real_of_abs_lt _ ((?_ : _ = _).trans (congrFun h (ix4 b x e t)))
  pointwise [Cert.Pre_finite_with_ones.fn, Cert.Pre_finite_with_ones.fn_part1]
  rfl

theorem v_one (h : (Cert.Pre_finite_with_ones.fn (F := Ideal) q k v l w).2.2.2.1 = fun _ => 1#1) (b : Fin 4) (x : Fin 8) (t : Fin 8448) :
    v (ix4 b x 128 t) = 1 := by
  refine one_of_eq _ ((?_ : _ = _).trans (congrFun h (ix3 b x t)))
  pointwise [Cert.Pre_finite_with_ones.fn, Cert.Pre_finite_with_ones.fn_part1]

theorem l_real (h : (Cert.Pre_finite_with_ones.fn (F := Ideal) q k v l w).2.2.2.2 = fun _ => 1#1) (i : Fin 4) (j : Fin 64) :
    l (ix2 i j) = (((l (ix2 i j) : EReal).toReal : ℝ) : EReal) := by
  refine real_of_abs_lt _ ((?_ : _ = _).trans (congrFun h (ix2 i j)))
  pointwise [Cert.Pre_finite_with_ones.fn, Cert.Pre_finite_with_ones.fn_part1]
  rfl

end

/-- Both programs end with the same result, at the same arguments. -/
theorem results_agree (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ)
    (hpre : Pre_KernelIdeal_finite_with_ones m) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4)) :
    ReferenceIdeal.Value.res_main_v62 m' c = (KernelIdeal.Hand.dats m 0 c).arrAt 6 KernelIdeal.cfg0.N := by
  obtain ⟨p0, p1, p2, p3, p4⟩ := hpre c
  have hq := q_real _ _ _ _ _ p0
  have hk := k_real _ _ _ _ _ p1
  have hv := v_real _ _ _ _ _ p2
  have ho := v_one _ _ _ _ _ p3
  have hl := l_real _ _ _ _ _ p4
  obtain ⟨L, hL⟩ := Cert.RefVal.lam_real _ _ hl
  rw [KernelIdeal.Hand.final_real m c _ _ _ L hq hk hv (fun b x t => by rw [ho]; rfl) (fun i hi => by subst hi; rw [Cert.Roll.lamVal_apply]; exact hL),
    Cert.RefVal.res_eq, h0, h1, h2, h3, h4]
  funext i
  obtain ⟨b, x, e, t, rfl⟩ : ∃ (b : Fin 4) (x : Fin 8) (e : Fin 128) (t : Fin 8192), i = ix4 b x e t := ⟨i 0, i 1, i 2, i 3, by
    funext a; fin_cases a <;> rfl⟩
  rw [Cert.RefVal.finRef_apply]
  refine congrArg (fun o => Cert.Roll.finAt o _ e) (funext fun e => ?_)
  exact Cert.RefVal.mix_real _ _ _ _ _ _ hq hk hv _ L (fun j => (Cert.RefVal.lamRef_apply _ j).trans hL) b x t e

end Cert.PreVal

end
-- ==== Proof.Block.lean ====
/- One token of the block after the attention, as functions of rows: the projected attention added to the row, the
   modulated root-mean-square norm, the gated feed-forward part. -/
module

public import Idealize.ShloMosaic.Lib.Pointwise

@[expose] public section

noncomputable section

namespace Cert.Block

open Idealize.ShloMosaic

/-- A vector through a matrix. -/
def through {n k : ℕ} (x : Fin n → EReal) (w : Fin n → Fin k → EReal) (j : Fin k) : EReal := ∑ i : Fin n, x i * w i j

/-- A row with a gated row added. -/
def gated {n : ℕ} (x g a : Fin n → EReal) (j : Fin n) : EReal := x j + g j * a j

/-- The root-mean-square norm with its gain, then scaled and shifted. -/
def normed (x nw sc sh : Fin 1024 → EReal) (j : Fin 1024) : EReal :=
  x j * Ideal.rsqrt (Ideal.div (∑ i : Fin 1024, x i * x i) (Ideal.ofBits .f32 0x44800000#32) + Ideal.ofBits .f32 0x358637BD#32) * nw j
    * (Ideal.ofBits .f32 0x3F800000#32 + sc j) + sh j

theorem gate_lt (j : Fin 2816) : j.val < 5632 := by have := j.isLt; omega
theorem up_lt (j : Fin 2816) : 2816 + j.val < 5632 := by have := j.isLt; omega

/-- The gate through its sigmoid, times the other half. -/
def act (u : Fin 5632 → EReal) (j : Fin 2816) : EReal :=
  Ideal.div (u ⟨j.val, gate_lt j⟩) (Ideal.ofBits .f32 0x3F800000#32 + Ideal.exp (-u ⟨j.val, gate_lt j⟩)) * u ⟨2816 + j.val, up_lt j⟩

/-- The feed-forward part of one row. -/
def feed (x nw sc sh : Fin 1024 → EReal) (wi : Fin 1024 → Fin 5632 → EReal) (wf : Fin 2816 → Fin 1024 → EReal) : Fin 1024 → EReal :=
  through (act (through (normed x nw sc sh) wi)) wf

/-- One row of the result: the attention's rows through the output matrix, then the feed-forward part. -/
def token (x o g1 sh sc g2 nw : Fin 1024 → EReal) (wo : Fin 1024 → Fin 1024 → EReal) (wi : Fin 1024 → Fin 5632 → EReal)
    (wf : Fin 2816 → Fin 1024 → EReal) : Fin 1024 → EReal :=
  gated (gated x g1 (through o wo)) g2 (feed (gated x g1 (through o wo)) nw sc sh wi wf)

theorem exp_nonneg (x : EReal) : 0 ≤ Ideal.exp x := by
  induction x using EReal.rec with
  | bot => exact le_of_eq rfl
  | top => exact le_top
  | coe r => exact EReal.coe_nonneg.mpr (Real.exp_pos r).le

theorem sigmoid_den_ne (x : EReal) : Ideal.ofBits .f32 0x3F800000#32 + Ideal.exp x ≠ 0 := by
  rw [Ideal.ofBits_one_f32]
  exact (lt_of_lt_of_le zero_lt_one (le_add_of_nonneg_right (exp_nonneg x))).ne'

/-- Dividing by the sigmoid's denominator is multiplying by its inverse. -/
theorem div_sigmoid (g x : EReal) : g * Ideal.div (Ideal.ofBits .f32 0x3F800000#32) (Ideal.ofBits .f32 0x3F800000#32 + Ideal.exp x)
    = Ideal.div g (Ideal.ofBits .f32 0x3F800000#32 + Ideal.exp x) := by
  rw [Ideal.div, Ideal.div, if_neg (sigmoid_den_ne x), if_neg (sigmoid_den_ne x), Ideal.ofBits_one_f32, one_mul]

theorem token_congr {x x' o o' g1 g1' sh sh' sc sc' g2 g2' nw nw' : Fin 1024 → EReal} {wo wo' : Fin 1024 → Fin 1024 → EReal}
    {wi wi' : Fin 1024 → Fin 5632 → EReal} {wf wf' : Fin 2816 → Fin 1024 → EReal} (hx : ∀ j, x j = x' j) (ho : ∀ j, o j = o' j)
    (h1 : ∀ j, g1 j = g1' j) (hs : ∀ j, sh j = sh' j) (hc : ∀ j, sc j = sc' j) (h2 : ∀ j, g2 j = g2' j) (hn : ∀ j, nw j = nw' j)
    (hwo : ∀ i j, wo i j = wo' i j) (hwi : ∀ i j, wi i j = wi' i j) (hwf : ∀ i j, wf i j = wf' i j) :
    token x o g1 sh sc g2 nw wo wi wf = token x' o' g1' sh' sc' g2' nw' wo' wi' wf' := by
  rw [funext hx, funext ho, funext h1, funext hs, funext hc, funext h2, funext hn, funext fun i => funext (hwo i), funext fun i => funext (hwi i), funext fun i => funext (hwf i)]

end Cert.Block

end
-- ==== Proof.PostK.lean ====
/- The second kernel's payloads and its output block read at one element, over the reals. -/
module

public import proofs.«01_k».proof.Proof.Block
public import proofs.«01_k».proof.Proof.Gen.Kernel2Ideal.Value
public import Idealize.ShloMosaic.Lib.Pipeline.ValueKit.Geometry

@[expose] public section

set_option maxRecDepth 16384

noncomputable section

namespace Cert.Kernel2Ideal.Hand

open Idealize.ShloMosaic Idealize.ShloMosaic.TcCoe Idealize.SL.Sem Cert.Kernel2Ideal.Gen
open Cert.Block

theorem head_lt (i : Fin 1024) : i.val / 128 < 8 := by have := i.isLt; omega
theorem within_lt (i : Fin 1024) : i.val % 128 < 128 := Nat.mod_lt _ (by omega)

variable (r : Fin 256) (j : Fin 1024)

theorem mid_apply (o : Vec Ideal S1x8x128x256 .bf16) (x : Vec Ideal S1x256x1024 .f32) (t : Vec Ideal S1x1x8x1024 .f32) (wo : Vec Ideal S1024x1024 .bf16) :
    k0_pay2 o x t wo (ix2 r j) = gated (fun j => x (ix3 0 r j)) (fun j => t (ix4 0 0 2 j))
      (through (fun i => o (ix4 0 ⟨i.val / 128, head_lt i⟩ ⟨i.val % 128, within_lt i⟩ r)) (fun i j => wo (ix2 i j))) j := by
  unfold gated through
  pointwise [k0_pay2, k0_pay1]

theorem mid_eq (o : Vec Ideal S1x8x128x256 .bf16) (x : Vec Ideal S1x256x1024 .f32) (t : Vec Ideal S1x1x8x1024 .f32) (wo : Vec Ideal S1024x1024 .bf16) :
    k0_pay6 o x t wo = k0_pay2 o x t wo := rfl

/-- The norm, as a value of its own. -/
def normK (x : FVec Ideal S256x1024 .f32) (t : FVec Ideal S8x1024 .f32) (nw : Vec Ideal S1x1024 .f32) : FVec Ideal S256x1024 .bf16 :=
  truncf .bf16 (addf (mulf (mulf (mulf x (broadcastTo S256x1024 (rsqrt (addf (divf
      (shapeCast S256x1 (multiReduction .add [1] S256 (mulf x x) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024))
    (broadcastTo S256x1024 nw broadcasts_S1x1024_S256x1024))
    (broadcastTo S256x1024 (addf (broadcast S1x1024 (Scalar.ofBits .f32 0x3F800000#32)) (extractStridedSlice S1x1024 ![4, 0] t slices_S8x1024_o4_0_S1x1024)) broadcasts_S1x1024_S256x1024))
    (broadcastTo S256x1024 (extractStridedSlice S1x1024 ![3, 0] t slices_S8x1024_o3_0_S1x1024) broadcasts_S1x1024_S256x1024)) bitsLt_bf16_f32

theorem norm_eq (o : Vec Ideal S1x8x128x256 .bf16) (x : Vec Ideal S1x256x1024 .f32) (t : Vec Ideal S1x1x8x1024 .f32) (wo : Vec Ideal S1024x1024 .bf16) (nw : Vec Ideal S1x1024 .f32) :
    k0_pay3 o x t wo nw = normK (k0_pay2 o x t wo) (k0_pay1 t) nw := rfl

theorem tail_eq (t : FVec Ideal S8x1024 .f32) (x : FVec Ideal S256x1024 .f32) (nw : Vec Ideal S1x1024 .f32) (wi : Vec Ideal S1024x5632 .bf16) (wf : Vec Ideal S2816x1024 .bf16) :
    k0_pay7 t x nw wi wf = k0_pay4 t x (normK x t nw) wi wf := rfl

theorem norm_apply (x : FVec Ideal S256x1024 .f32) (t : FVec Ideal S8x1024 .f32) (nw : Vec Ideal S1x1024 .f32) :
    normK x t nw (ix2 r j) = normed (fun j => x (ix2 r j)) (fun j => nw (ix2 0 j)) (fun j => t (ix2 4 j)) (fun j => t (ix2 3 j)) j := by
  unfold normed
  pointwise [normK]

/-- The feed-forward part up to its last matrix. -/
def gateK (h : FVec Ideal S256x1024 .bf16) (wi : Vec Ideal S1024x5632 .bf16) : FVec Ideal S256x5632 .f32 :=
  matmul (φ₂ := .bf16) dot_S256x1024_S1024x5632_S256x5632_1_0_0_1_n_n none h wi (constant S256x5632 .f32 0x00000000#32)

def actK (u : FVec Ideal S256x5632 .f32) : FVec Ideal S256x2816 .bf16 :=
  truncf .bf16 (mulf (divf (extractStridedSlice S256x2816 ![0, 0] u slices_S256x5632_o0_0_S256x2816)
    (addf (broadcast S256x2816 (Scalar.ofBits .f32 0x3F800000#32)) (exp (subf (broadcast S256x2816 (Scalar.ofBits .f32 0x00000000#32))
      (extractStridedSlice S256x2816 ![0, 0] u slices_S256x5632_o0_0_S256x2816)))))
    (extractStridedSlice S256x2816 ![0, 2816] u slices_S256x5632_o0_2816_S256x2816)) bitsLt_bf16_f32

def lastK (t : FVec Ideal S8x1024 .f32) (x : FVec Ideal S256x1024 .f32) (a : FVec Ideal S256x2816 .bf16) (wf : Vec Ideal S2816x1024 .bf16) : FVec Ideal S1x256x1024 .f32 :=
  shapeCast S1x256x1024 (addf x (mulf (broadcastTo S256x1024 (extractStridedSlice S1x1024 ![5, 0] t slices_S8x1024_o5_0_S1x1024) broadcasts_S1x1024_S256x1024)
    (matmul (φ₂ := .bf16) dot_S256x2816_S2816x1024_S256x1024_1_0_0_1_n_n none a wf (constant S256x1024 .f32 0x00000000#32)))) shapeCasts_S256x1024_S1x256x1024

theorem feed_eq (t : FVec Ideal S8x1024 .f32) (x : FVec Ideal S256x1024 .f32) (h : FVec Ideal S256x1024 .bf16) (wi : Vec Ideal S1024x5632 .bf16) (wf : Vec Ideal S2816x1024 .bf16) :
    k0_pay4 t x h wi wf = lastK t x (actK (gateK h wi)) wf := rfl

theorem gate_apply (h : FVec Ideal S256x1024 .bf16) (wi : Vec Ideal S1024x5632 .bf16) (k : Fin 5632) :
    gateK h wi (ix2 r k) = through (fun j => h (ix2 r j)) (fun i j => wi (ix2 i j)) k := by
  unfold through
  pointwise [gateK]

theorem act_apply (u : FVec Ideal S256x5632 .f32) (k : Fin 2816) : actK u (ix2 r k) = act (fun j => u (ix2 r j)) k := by
  unfold act
  rw [← zero_sub, ← Ideal.ofBits_zero_f32]
  pointwise [actK]

theorem last_apply (t : FVec Ideal S8x1024 .f32) (x : FVec Ideal S256x1024 .f32) (a : FVec Ideal S256x2816 .bf16) (wf : Vec Ideal S2816x1024 .bf16) :
    lastK t x a wf (ix3 0 r j) = gated (fun j => x (ix2 r j)) (fun j => t (ix2 5 j)) (through (fun j => a (ix2 r j)) (fun i j => wf (ix2 i j))) j := by
  unfold gated through
  pointwise [lastK]

theorem table_apply (t : Vec Ideal S1x1x8x1024 .f32) (i : Fin 8) : k0_pay1 t (ix2 i j) = t (ix4 0 0 i j) := by pointwise [k0_pay1]

/-- One tile of 256 rows. -/
theorem tile_apply (o : Vec Ideal S1x8x128x256 .bf16) (x : Vec Ideal S1x256x1024 .f32) (t : Vec Ideal S1x1x8x1024 .f32) (wo : Vec Ideal S1024x1024 .bf16)
    (nw : Vec Ideal S1x1024 .f32) (wi : Vec Ideal S1024x5632 .bf16) (wf : Vec Ideal S2816x1024 .bf16) :
    k0_pay4 (k0_pay1 t) (k0_pay2 o x t wo) (k0_pay3 o x t wo nw) wi wf (ix3 0 r j)
      = token (fun j => x (ix3 0 r j)) (fun i => o (ix4 0 ⟨i.val / 128, head_lt i⟩ ⟨i.val % 128, within_lt i⟩ r)) (fun j => t (ix4 0 0 2 j))
        (fun j => t (ix4 0 0 3 j)) (fun j => t (ix4 0 0 4 j)) (fun j => t (ix4 0 0 5 j)) (fun j => nw (ix2 0 j)) (fun i j => wo (ix2 i j)) (fun i j => wi (ix2 i j))
        (fun i j => wf (ix2 i j)) j := by
  simp only [feed_eq, norm_eq, last_apply, act_apply, gate_apply, norm_apply, table_apply, mid_apply, token, feed]

theorem tile_apply' (o : Vec Ideal S1x8x128x256 .bf16) (x : Vec Ideal S1x256x1024 .f32) (t : Vec Ideal S1x1x8x1024 .f32) (wo : Vec Ideal S1024x1024 .bf16)
    (nw : Vec Ideal S1x1024 .f32) (wi : Vec Ideal S1024x5632 .bf16) (wf : Vec Ideal S2816x1024 .bf16) :
    k0_pay7 (k0_pay5 t) (k0_pay6 o x t wo) nw wi wf = k0_pay4 (k0_pay1 t) (k0_pay2 o x t wo) (k0_pay3 o x t wo nw) wi wf := by
  rw [tail_eq, norm_eq]; rfl

theorem low_lt (r : Fin 256) : r.val < 512 := by have := r.isLt; omega
theorem high_lt (r : Fin 256) : 256 + r.val < 512 := by have := r.isLt; omega

variable (x0 x1 : Vec Ideal S1x256x1024 .f32) (x2 : Vec Ideal S1x1x8x1024 .f32) (x3 : Vec Ideal S1x8x128x512 .bf16) (x4 : Vec Ideal S1024x1024 .bf16)
  (x5 : Vec Ideal S1x1024 .f32) (x6 : Vec Ideal S1024x5632 .bf16) (x7 : Vec Ideal S2816x1024 .bf16)

/-- The rows 0 to 255 of the output block. -/
theorem out_low : out0_8 x0 x1 x2 x3 x4 x5 x6 x7 (ix3 0 ⟨r.val, low_lt r⟩ j)
    = token (fun j => x0 (ix3 0 r j)) (fun i => x3 (ix4 0 ⟨i.val / 128, head_lt i⟩ ⟨i.val % 128, within_lt i⟩ ⟨r.val, low_lt r⟩)) (fun j => x2 (ix4 0 0 2 j))
        (fun j => x2 (ix4 0 0 3 j)) (fun j => x2 (ix4 0 0 4 j)) (fun j => x2 (ix4 0 0 5 j)) (fun j => x5 (ix2 0 j)) (fun i j => x4 (ix2 i j)) (fun i j => x6 (ix2 i j))
        (fun i j => x7 (ix2 i j)) j := by
  unfold out0_8
  rw [View.canon_cons_of_not_mem _ _ (by
    rw [Rect.mem_set_unit]; intro h; have := (h 1).1; change 256 ≤ r.val at this; omega)]
  rw [show (ix3 0 ⟨r.val, low_lt r⟩ j : S1x512x1024.Idx) = r0_7.emb (ix3 0 r j) from by
    funext a; fin_cases a <;> apply Fin.ext <;> simp [Rect.emb, Rect.unit, ix3]]
  rw [View.canon_cons_emb, tile_apply]
  apply congrFun
  apply token_congr <;> intros <;> pointwise

/-- The rows 256 to 511. -/
theorem out_high : out0_8 x0 x1 x2 x3 x4 x5 x6 x7 (ix3 0 ⟨256 + r.val, high_lt r⟩ j)
    = token (fun j => x1 (ix3 0 r j)) (fun i => x3 (ix4 0 ⟨i.val / 128, head_lt i⟩ ⟨i.val % 128, within_lt i⟩ ⟨256 + r.val, high_lt r⟩)) (fun j => x2 (ix4 0 0 2 j))
        (fun j => x2 (ix4 0 0 3 j)) (fun j => x2 (ix4 0 0 4 j)) (fun j => x2 (ix4 0 0 5 j)) (fun j => x5 (ix2 0 j)) (fun i j => x4 (ix2 i j)) (fun i j => x6 (ix2 i j))
        (fun i j => x7 (ix2 i j)) j := by
  unfold out0_8
  rw [show (ix3 0 ⟨256 + r.val, high_lt r⟩ j : S1x512x1024.Idx) = r0_9.emb (ix3 0 r j) from by
    funext a; fin_cases a <;> apply Fin.ext <;> simp [Rect.emb, Rect.unit, ix3]]
  rw [View.canon_cons_emb, tile_apply', tile_apply]
  apply congrFun
  apply token_congr <;> intros <;> pointwise

/-! The windows' block indices at a grid point. -/

theorem index0 : ∀ t : Fin cfg0.N, win0_0.index t = ![t.val / 16, 2 * (t.val % 16) + 1, 0] :=
  (by decide +kernel : ∀ t : Fin grid0.N, win0_0.index t = ![t.val / 16, 2 * (t.val % 16) + 1, 0])
theorem index1 : ∀ t : Fin cfg0.N, win0_1.index t = ![t.val / 16, 2 * (t.val % 16) + 2, 0] :=
  (by decide +kernel : ∀ t : Fin grid0.N, win0_1.index t = ![t.val / 16, 2 * (t.val % 16) + 2, 0])
theorem index2 : ∀ t : Fin cfg0.N, win0_2.index t = ![t.val / 16, 1, 0, 0] :=
  (by decide +kernel : ∀ t : Fin grid0.N, win0_2.index t = ![t.val / 16, 1, 0, 0])
theorem index3 : ∀ t : Fin cfg0.N, win0_3.index t = ![t.val / 16, 0, 0, t.val % 16] :=
  (by decide +kernel : ∀ t : Fin grid0.N, win0_3.index t = ![t.val / 16, 0, 0, t.val % 16])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![t.val / 16, t.val % 16, 0] :=
  (by decide +kernel : ∀ t : Fin grid0.N, win0_8.index t = ![t.val / 16, t.val % 16, 0])

variable (m : (ℓ : Loc nD τ sig) → Buf (Elt Ideal) ℓ) (c : Dev nD)

theorem batch_lt {t : ℕ} (ht : t < 64) : t / 16 < 4 := by omega
theorem rowa_lt (t : ℕ) (r : Fin 256) : (2 * (t % 16) + 1) * 256 + r.val < 8448 := by have := r.isLt; omega
theorem rowb_lt (t : ℕ) (r : Fin 256) : (2 * (t % 16) + 2) * 256 + r.val < 8448 := by have := r.isLt; omega
theorem col_lt (t : ℕ) (u : Fin 512) : t % 16 * 512 + u.val < 8192 := by have := u.isLt; omega

theorem blk0 (t : Fin cfg0.N) (ht : t.val < 64) :
    iblk m c 0 t (ix3 0 r j) = m ((c.tc : Thread nD τ).loc main_arg0) (ix3 ⟨t.val / 16, batch_lt ht⟩ ⟨(2 * (t.val % 16) + 1) * 256 + r.val, rowa_lt t.val r⟩ j) := by
  blk_simp [iblk]
  rw [V_main_arg0]
  congr 1
  blk_ext [index0]

theorem blk1 (t : Fin cfg0.N) (ht : t.val < 64) :
    iblk m c 1 t (ix3 0 r j) = m ((c.tc : Thread nD τ).loc main_arg0) (ix3 ⟨t.val / 16, batch_lt ht⟩ ⟨(2 * (t.val % 16) + 2) * 256 + r.val, rowb_lt t.val r⟩ j) := by
  blk_simp [iblk]
  rw [V_main_arg0]
  congr 1
  blk_ext [index1]

theorem blk2 (t : Fin cfg0.N) (ht : t.val < 64) (i : Fin 8) :
    iblk m c 2 t (ix4 0 0 i j) = m ((c.tc : Thread nD τ).loc main_arg1) (ix4 ⟨t.val / 16, batch_lt ht⟩ 1 i j) := by
  blk_simp [iblk]
  rw [V_main_arg1]
  congr 1
  blk_ext [index2]

theorem blk3 (t : Fin cfg0.N) (ht : t.val < 64) (h : Fin 8) (e : Fin 128) (u : Fin 512) :
    iblk m c 3 t (ix4 0 h e u) = m ((c.tc : Thread nD τ).loc main_arg2) (ix4 ⟨t.val / 16, batch_lt ht⟩ h e ⟨t.val % 16 * 512 + u.val, col_lt t.val u⟩) := by
  blk_simp [iblk]
  rw [V_main_arg2]
  congr 1
  blk_ext [index3]

theorem blk4 (t : Fin cfg0.N) (i : Fin 1024) : iblk m c 4 t (ix2 i j) = m ((c.tc : Thread nD τ).loc main_arg3) (ix2 i j) := by
  blk_simp [iblk]
  rw [V_main_arg3]
  congr 1
  blk_ext [index4]

theorem blk5 (t : Fin cfg0.N) : iblk m c 5 t (ix2 0 j) = m ((c.tc : Thread nD τ).loc main_arg4) (ix2 0 j) := by
  blk_simp [iblk]
  rw [V_main_arg4]
  congr 1
  blk_ext [index5]

theorem blk6 (t : Fin cfg0.N) (i : Fin 1024) (k : Fin 5632) : iblk m c 6 t (ix2 i k) = m ((c.tc : Thread nD τ).loc main_arg5) (ix2 i k) := by
  blk_simp [iblk]
  rw [V_main_arg5]
  congr 1
  blk_ext [index6]

theorem blk7 (t : Fin cfg0.N) (i : Fin 2816) : iblk m c 7 t (ix2 i j) = m ((c.tc : Thread nD τ).loc main_arg6) (ix2 i j) := by
  blk_simp [iblk]
  rw [V_main_arg6]
  congr 1
  blk_ext [index7]

theorem latent_lt (t : Fin 8192) : 256 + t.val < 8448 := by have := t.isLt; omega

/-- One latent row through the block. -/
def rowAt (b : Fin 4) (n : Fin 8192) : Fin 1024 → EReal :=
  token (fun j => m ((c.tc : Thread nD τ).loc main_arg0) (ix3 b ⟨256 + n.val, latent_lt n⟩ j))
    (fun κ => m ((c.tc : Thread nD τ).loc main_arg2) (ix4 b ⟨κ.val / 128, head_lt κ⟩ ⟨κ.val % 128, within_lt κ⟩ n))
    (fun j => m ((c.tc : Thread nD τ).loc main_arg1) (ix4 b 1 2 j)) (fun j => m ((c.tc : Thread nD τ).loc main_arg1) (ix4 b 1 3 j))
    (fun j => m ((c.tc : Thread nD τ).loc main_arg1) (ix4 b 1 4 j)) (fun j => m ((c.tc : Thread nD τ).loc main_arg1) (ix4 b 1 5 j))
    (fun j => m ((c.tc : Thread nD τ).loc main_arg4) (ix2 0 j)) (fun i j => m ((c.tc : Thread nD τ).loc main_arg3) (ix2 i j))
    (fun i j => m ((c.tc : Thread nD τ).loc main_arg5) (ix2 i j)) (fun i j => m ((c.tc : Thread nD τ).loc main_arg6) (ix2 i j))

/-- The result array. -/
def result : FVec Ideal S4x8192x1024 .f32 := fun i => rowAt m c (i 0) (i 1) (i 2)

/-- The output block of a grid point is the result's rows there. -/
theorem block_eq (t : Fin cfg0.N) (ht : t.val < 64) (u : Fin 512) :
    out0_8 (iblk m c 0 t) (iblk m c 1 t) (iblk m c 2 t) (iblk m c 3 t) (iblk m c 4 t) (iblk m c 5 t) (iblk m c 6 t) (iblk m c 7 t) (ix3 0 u j)
      = rowAt m c ⟨t.val / 16, batch_lt ht⟩ ⟨t.val % 16 * 512 + u.val, col_lt t.val u⟩ j := by
  rcases Nat.lt_or_ge u.val 256 with hu | hu
  · refine (out_low ⟨u.val, hu⟩ j _ _ _ _ _ _ _ _).trans (congrFun (token_congr ?_ (fun i => blk3 m c t ht _ _ _) (fun j => blk2 j m c t ht 2) (fun j => blk2 j m c t ht 3)
      (fun j => blk2 j m c t ht 4) (fun j => blk2 j m c t ht 5) (fun j => blk5 j m c t) (fun i j => blk4 j m c t i) (fun i k => blk6 m c t i k) (fun i j => blk7 j m c t i)) j)
    intro j
    rw [blk0 _ _ m c t ht]
    congr 2
    apply Fin.ext
    change (2 * (t.val % 16) + 1) * 256 + u.val = 256 + (t.val % 16 * 512 + u.val)
    omega
  · obtain ⟨r, rfl⟩ : ∃ r : Fin 256, u = ⟨256 + r.val, high_lt r⟩ := ⟨⟨u.val - 256, by omega⟩, Fin.ext (by simp; omega)⟩
    refine (out_high r j _ _ _ _ _ _ _ _).trans (congrFun (token_congr ?_ (fun i => blk3 m c t ht _ _ _) (fun j => blk2 j m c t ht 2) (fun j => blk2 j m c t ht 3)
      (fun j => blk2 j m c t ht 4) (fun j => blk2 j m c t ht 5) (fun j => blk5 j m c t) (fun i j => blk4 j m c t i) (fun i k => blk6 m c t i k) (fun i j => blk7 j m c t i)) j)
    intro j
    rw [blk1 _ _ m c t ht]
    congr 2
    apply Fin.ext
    change (2 * (t.val % 16) + 2) * 256 + r.val = 256 + (t.val % 16 * 512 + (256 + r.val))
    omega

theorem final : (dats m 0 c).arrAt 8 cfg0.N = result m c := by
  refine (dats m 0 c).arrAt_eq_of_covers 8 _ (by decide +kernel) fun t hf y => ?_
  have ht : t.val < 64 := lt_of_lt_of_eq t.isLt N_0
  blk_simp
  rw [after0_8]
  obtain ⟨u, j, rfl⟩ : ∃ (u : Fin 512) (j : Fin 1024), y = ix3 0 u j := ⟨y 1, y 2, by
    funext a; fin_cases a
    · exact Fin.ext (by have := (y 0).isLt; change _ < 1 at this; change (y 0).val = 0; omega)
    all_goals rfl⟩
  refine (block_eq j m c t ht u).trans ?_
  change result m c (ix3 ⟨t.val / 16, batch_lt ht⟩ ⟨t.val % 16 * 512 + u.val, col_lt t.val u⟩ j) = _
  congr 1
  blk_ext [index8]

end Cert.Kernel2Ideal.Hand

end
-- ==== Proof.PostRef.lean ====
/- The second reference's result read at one element. -/
module

public import proofs.«01_k».proof.Proof.Block
public import proofs.«01_k».proof.Proof.Gen.Reference2Ideal.Run

@[expose] public section

set_option maxRecDepth 16384

noncomputable section

namespace Cert.PostRef

open Cert.Reference2Ideal Cert.Reference2Ideal.Gen Idealize.ShloMosaic Idealize.ShloMosaic.TcCoe Idealize.SL.Sem
open Cert.Block

/-- A row of the modulation table, spread over the tokens. -/
def spread (g : FVec Ideal S4x1x1024 .f32) : FVec Ideal S4x8192x1024 .f32 :=
  broadcastInDim S4x8192x1024 ![0, 1, 2] bcast_S4x1x1024_S4x8192x1024_0_1_2 g

def lift (g : FVec Ideal S4x1x1x1024 .f32) : FVec Ideal S4x1x1024 .f32 :=
  broadcastInDim S4x1x1024 ![0, 2] bcast_S4x1024_S4x1x1024_0_2 (shapeCast _ g shapeCasts_S4x1x1x1024_S4x1024)

def row2 (t : FVec Ideal S4x2x8x1024 .f32) : FVec Ideal S4x1x1024 .f32 :=
  lift (extractStridedSlice S4x1x1x1024 ![0, 1, 2, 0] t slices_S4x2x8x1024_S4x1x1x1024_0_1_2_0)
def row3 (t : FVec Ideal S4x2x8x1024 .f32) : FVec Ideal S4x1x1024 .f32 :=
  lift (extractStridedSlice S4x1x1x1024 ![0, 1, 3, 0] t slices_S4x2x8x1024_S4x1x1x1024_0_1_3_0)
def row4 (t : FVec Ideal S4x2x8x1024 .f32) : FVec Ideal S4x1x1024 .f32 :=
  lift (extractStridedSlice S4x1x1x1024 ![0, 1, 4, 0] t slices_S4x2x8x1024_S4x1x1x1024_0_1_4_0)
def row5 (t : FVec Ideal S4x2x8x1024 .f32) : FVec Ideal S4x1x1024 .f32 :=
  lift (extractStridedSlice S4x1x1x1024 ![0, 1, 5, 0] t slices_S4x2x8x1024_S4x1x1x1024_0_1_5_0)

/-- The attention through the output matrix. -/
def project (o : FVec Ideal S4x8x128x8192 .bf16) (wo : FVec Ideal S1024x1024 .bf16) : FVec Ideal S4x8192x1024 .f32 :=
  Host.dotGeneral dot_S4x8192x1024_S1024x1024_S4x8192x1024_2_0_01_1_n_n none
    (transpose S4x8192x1024 [0, 2, 1] (shapeCast _ (extf .f32 o bitsLt_bf16_f32) shapeCasts_S4x8x128x8192_S4x1024x8192) transposes_S4x1024x8192_S4x8192x1024_0_2_1)
    (extf .f32 wo bitsLt_bf16_f32)

def addGated (x g a : FVec Ideal S4x8192x1024 .f32) : FVec Ideal S4x8192x1024 .f32 := addf x (mulf g a)

def latents (x : FVec Ideal S4x8448x1024 .f32) : FVec Ideal S4x8192x1024 .f32 :=
  extractStridedSlice S4x8192x1024 ![0, 256, 0] x slices_S4x8448x1024_S4x8192x1024_0_256_0

def norm (x : FVec Ideal S4x8192x1024 .f32) (nw : FVec Ideal S1x1024 .f32) (sc sh : FVec Ideal S4x1x1024 .f32) : FVec Ideal S4x8192x1024 .f32 :=
  addf (mulf (mulf (mulf x
    (broadcastInDim S4x8192x1024 ![0, 1, 2] bcast_S4x8192x1_S4x8192x1024_0_1_2 (Host.rsqrt (addf (Host.divf (broadcastInDim S4x8192x1 ![0, 1] bcast_S4x8192_S4x8192x1_0_1
      (Host.reduceAdd (mulf x x) (constant S_ .f32 0x00000000#32) reducesTo_S4x8192x1024_S4x8192_d2 h_S_)) (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![1, 2] bcast_S1x1024_S1x1x1024_1_2 nw)))
    (spread (addf (broadcastInDim S4x1x1024 ![] bcast_S_S4x1x1024 (constant S_ .f32 0x3F800000#32)) sc))) (spread sh)

def widen (h : FVec Ideal S4x8192x1024 .f32) (wi : FVec Ideal S1024x5632 .bf16) : FVec Ideal S4x8192x5632 .f32 :=
  Host.dotGeneral dot_S4x8192x1024_S1024x5632_S4x8192x5632_2_0_01_1_n_n none h (extf .f32 wi bitsLt_bf16_f32)

def silu (g : FVec Ideal S4x8192x2816 .f32) : FVec Ideal S4x8192x2816 .f32 :=
  mulf g (Host.divf (broadcastInDim S4x8192x2816 ![] bcast_S_S4x8192x2816 (constant S_ .f32 0x3F800000#32))
    (addf (broadcastInDim S4x8192x2816 ![] bcast_S_S4x8192x2816 (constant S_ .f32 0x3F800000#32)) (Host.exp (Host.negf g))))

def swiglu (u : FVec Ideal S4x8192x5632 .f32) : FVec Ideal S4x8192x2816 .f32 :=
  mulf (silu (extractStridedSlice S4x8192x2816 ![0, 0, 0] u slices_S4x8192x5632_S4x8192x2816_0_0_0))
    (extractStridedSlice S4x8192x2816 ![0, 0, 2816] u slices_S4x8192x5632_S4x8192x2816_0_0_2816)

def narrow (a : FVec Ideal S4x8192x2816 .f32) (wf : FVec Ideal S2816x1024 .bf16) : FVec Ideal S4x8192x1024 .f32 :=
  Host.dotGeneral dot_S4x8192x2816_S2816x1024_S4x8192x1024_2_0_01_1_n_n none a (extf .f32 wf bitsLt_bf16_f32)

/-- The rows after the attention was added. -/
def mid (x : FVec Ideal S4x8448x1024 .f32) (t : FVec Ideal S4x2x8x1024 .f32) (o : FVec Ideal S4x8x128x8192 .bf16) (wo : FVec Ideal S1024x1024 .bf16) :
    FVec Ideal S4x8192x1024 .f32 := addGated (latents x) (spread (row2 t)) (project o wo)

def whole (x : FVec Ideal S4x8448x1024 .f32) (t : FVec Ideal S4x2x8x1024 .f32) (o : FVec Ideal S4x8x128x8192 .bf16) (wo : FVec Ideal S1024x1024 .bf16)
    (nw : FVec Ideal S1x1024 .f32) (wi : FVec Ideal S1024x5632 .bf16) (wf : FVec Ideal S2816x1024 .bf16) : FVec Ideal S4x8192x1024 .f32 :=
  addGated (mid x t o wo) (spread (row5 t)) (narrow (swiglu (widen (norm (mid x t o wo) nw (row4 t) (row3 t)) wi)) wf)

theorem res_eq (m : (ℓ : Loc nD τ sig) → Buf (Elt Ideal) ℓ) (c : Dev nD) :
    Value.res_main_v50 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

theorem latent_lt (t : Fin 8192) : 256 + t.val < 8448 := by have := t.isLt; omega
theorem head_lt (i : Fin 1024) : i.val / 128 < 8 := by have := i.isLt; omega
theorem within_lt (i : Fin 1024) : i.val % 128 < 128 := Nat.mod_lt _ (by omega)

variable (b : Fin 4) (r : Fin 8192) (j : Fin 1024)

theorem spread_apply (g : FVec Ideal S4x1x1024 .f32) : spread g (ix3 b r j) = g (ix3 b 0 j) := by pointwise [spread]
theorem row2_apply (t : FVec Ideal S4x2x8x1024 .f32) : row2 t (ix3 b 0 j) = t (ix4 b 1 2 j) := by pointwise [row2, lift]
theorem row3_apply (t : FVec Ideal S4x2x8x1024 .f32) : row3 t (ix3 b 0 j) = t (ix4 b 1 3 j) := by pointwise [row3, lift]
theorem row4_apply (t : FVec Ideal S4x2x8x1024 .f32) : row4 t (ix3 b 0 j) = t (ix4 b 1 4 j) := by pointwise [row4, lift]
theorem row5_apply (t : FVec Ideal S4x2x8x1024 .f32) : row5 t (ix3 b 0 j) = t (ix4 b 1 5 j) := by pointwise [row5, lift]

theorem project_apply (o : FVec Ideal S4x8x128x8192 .bf16) (wo : FVec Ideal S1024x1024 .bf16) :
    project o wo (ix3 b r j) = through (fun i => o (ix4 b ⟨i.val / 128, head_lt i⟩ ⟨i.val % 128, within_lt i⟩ r)) (fun i j => wo (ix2 i j)) j := by
  unfold through
  pointwise [project]

theorem latents_apply (x : FVec Ideal S4x8448x1024 .f32) : latents x (ix3 b r j) = x (ix3 b ⟨256 + r.val, latent_lt r⟩ j) := by pointwise [latents]

theorem addGated_apply (x g a : FVec Ideal S4x8192x1024 .f32) :
    addGated x g a (ix3 b r j) = gated (fun j => x (ix3 b r j)) (fun j => g (ix3 b r j)) (fun j => a (ix3 b r j)) j := by
  unfold gated
  pointwise [addGated]

theorem norm_apply (x : FVec Ideal S4x8192x1024 .f32) (nw : FVec Ideal S1x1024 .f32) (sc sh : FVec Ideal S4x1x1024 .f32) :
    norm x nw sc sh (ix3 b r j) = normed (fun j => x (ix3 b r j)) (fun j => nw (ix2 0 j)) (fun j => sc (ix3 b 0 j)) (fun j => sh (ix3 b 0 j)) j := by
  unfold normed
  pointwise [norm, spread]

theorem widen_apply (h : FVec Ideal S4x8192x1024 .f32) (wi : FVec Ideal S1024x5632 .bf16) (k : Fin 5632) :
    widen h wi (ix3 b r k) = through (fun j => h (ix3 b r j)) (fun i j => wi (ix2 i j)) k := by
  unfold through
  pointwise [widen]

theorem silu_apply (g : FVec Ideal S4x8192x2816 .f32) (k : Fin 2816) :
    silu g (ix3 b r k) = g (ix3 b r k) * Ideal.div (Ideal.ofBits .f32 0x3F800000#32) (Ideal.ofBits .f32 0x3F800000#32 + Ideal.exp (-g (ix3 b r k))) := by
  pointwise [silu]

theorem swiglu_apply (u : FVec Ideal S4x8192x5632 .f32) (k : Fin 2816) : swiglu u (ix3 b r k) = act (fun j => u (ix3 b r j)) k := by
  unfold act
  rw [← div_sigmoid]
  pointwise [swiglu, silu]

theorem narrow_apply (a : FVec Ideal S4x8192x2816 .f32) (wf : FVec Ideal S2816x1024 .bf16) :
    narrow a wf (ix3 b r j) = through (fun j => a (ix3 b r j)) (fun i j => wf (ix2 i j)) j := by
  unfold through
  pointwise [narrow]

theorem whole_apply (x : FVec Ideal S4x8448x1024 .f32) (t : FVec Ideal S4x2x8x1024 .f32) (o : FVec Ideal S4x8x128x8192 .bf16) (wo : FVec Ideal S1024x1024 .bf16)
    (nw : FVec Ideal S1x1024 .f32) (wi : FVec Ideal S1024x5632 .bf16) (wf : FVec Ideal S2816x1024 .bf16) :
    whole x t o wo nw wi wf (ix3 b r j) = token (fun j => x (ix3 b ⟨256 + r.val, latent_lt r⟩ j))
      (fun i => o (ix4 b ⟨i.val / 128, head_lt i⟩ ⟨i.val % 128, within_lt i⟩ r)) (fun j => t (ix4 b 1 2 j)) (fun j => t (ix4 b 1 3 j)) (fun j => t (ix4 b 1 4 j))
      (fun j => t (ix4 b 1 5 j)) (fun j => nw (ix2 0 j)) (fun i j => wo (ix2 i j)) (fun i j => wi (ix2 i j)) (fun i j => wf (ix2 i j)) j := by
  simp only [whole, token, feed, mid, addGated_apply, latents_apply, spread_apply, row2_apply, row3_apply, row4_apply, row5_apply, project_apply, narrow_apply,
    swiglu_apply, widen_apply, norm_apply]

end Cert.PostRef

end
-- ==== Proof.PostAgree.lean ====
/- The second kernel's result array and its reference's result agree. -/
module

public import proofs.«01_k».proof.Proof.PostK
public import proofs.«01_k».proof.Proof.PostRef

@[expose] public section

noncomputable section

namespace Cert.PostAgree

open Idealize.ShloMosaic Idealize.ShloMosaic.TcCoe Idealize.SL.Sem

theorem results_agree (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) :
    Cert.Reference2Ideal.Value.res_main_v50 m' c = (Cert.Kernel2Ideal.Gen.dats m 0 c).arrAt 8 Cert.Kernel2Ideal.cfg0.N := by
  rw [Cert.Kernel2Ideal.Hand.final, Cert.PostRef.res_eq, h0, h1, h2, h3, h4, h5, h6]
  funext i
  obtain ⟨b, n, j, rfl⟩ : ∃ (b : Fin 4) (n : Fin 8192) (j : Fin 1024), i = ix3 b n j := ⟨i 0, i 1, i 2, by funext a; fin_cases a <;> rfl⟩
  exact Cert.PostRef.whole_apply b n j _ _ _ _ _ _ _

end Cert.PostAgree

end
-- ==== Proof.Heads.lean ====
/- The head norm and the rotary turn of one row of queries and keys, as functions of rows. -/
module

public import proofs.«01_k».proof.Proof.Block

@[expose] public section

noncomputable section

namespace Cert.Heads

open Idealize.ShloMosaic

theorem group_lt (j : Fin 2048) (e : Fin 64) : j.val / 64 * 64 + e.val < 2048 := by have := j.isLt; have := e.isLt; omega
theorem next_lt {j : Fin 2048} (h : j.val % 64 < 32) : j.val + 32 < 2048 := by have := j.isLt; omega
theorem prev_lt (j : Fin 2048) : j.val - 32 < 2048 := by have := j.isLt; omega
theorem lane_lt (j : Fin 2048) : j.val % 128 < 128 := Nat.mod_lt _ (by omega)

/-- Column `e` of the group of 64 columns that column `j` lies in. -/
def group (j : Fin 2048) (e : Fin 64) : Fin 2048 := ⟨j.val / 64 * 64 + e.val, group_lt j e⟩

/-- The column that column `j` is turned with: the same place in the other half of its group. -/
def partner (j : Fin 2048) : Fin 2048 := if h : j.val % 64 < 32 then ⟨j.val + 32, next_lt h⟩ else ⟨j.val - 32, prev_lt j⟩

/-- The root-mean-square norm over each group of 64 columns, with its gain. -/
def head (y g : Fin 2048 → EReal) (j : Fin 2048) : EReal :=
  y j * Ideal.rsqrt (Ideal.div (∑ e : Fin 64, y (group j e) * y (group j e)) (Ideal.ofBits .f32 0x42800000#32) + Ideal.ofBits .f32 0x358637BD#32) * g j

/-- The normed row turned by its position. -/
def turned (y g : Fin 2048 → EReal) (cos sin : Fin 128 → EReal) (j : Fin 2048) : EReal :=
  head y g j * cos ⟨j.val % 128, lane_lt j⟩ + head y g (partner j) * sin ⟨j.val % 128, lane_lt j⟩

theorem ofBits_64 : Ideal.ofBits .f32 0x42800000#32 = ((64 : ℝ) : EReal) := by
  simp [Ideal.ofBits, Ideal.ieee]
  rw [← EReal.coe_mul]
  norm_num

theorem ofBits_64th : Ideal.ofBits .f32 0x3C800000#32 = ((64⁻¹ : ℝ) : EReal) := by
  simp [Ideal.ofBits, Ideal.ieee]
  rw [← EReal.coe_mul]
  norm_num

/-- Dividing by 64 is multiplying by its inverse, exact as a float. -/
theorem div_64 (x : EReal) : x * Ideal.ofBits .f32 0x3C800000#32 = Ideal.div x (Ideal.ofBits .f32 0x42800000#32) := by
  have h : ((64 : ℝ) : EReal) ≠ 0 := by
    intro h0
    have := EReal.coe_eq_zero.mp h0
    norm_num at this
  rw [ofBits_64, ofBits_64th, Ideal.div, if_neg h, EReal.coe_inv]

theorem quarter_lt (a : Fin 4) (e : Fin 64) : a.val * 64 + e.val < 256 := by have := a.isLt; have := e.isLt; omega
theorem place_lt (l : Fin 256) (e : Fin 64) : l.val / 64 * 64 + e.val < 256 := by have := l.isLt; have := e.isLt; omega

/-- A sum over 256 columns against the indicator of one group of 64 is the sum over that group. -/
theorem sum_group (f : Fin 256 → EReal) (l : Fin 256) :
    (∑ u : Fin 256, f u * (if u.val / 64 = l.val / 64 then (1 : EReal) else 0)) = ∑ e : Fin 64, f ⟨l.val / 64 * 64 + e.val, place_lt l e⟩ := by
  have hl : l.val / 64 < 4 := by have := l.isLt; omega
  rw [← (finProdFinEquiv (m := 4) (n := 64)).sum_comp, Fintype.sum_prod_type, Finset.sum_eq_single (⟨l.val / 64, hl⟩ : Fin 4)]
  · refine Finset.sum_congr rfl fun e _ => ?_
    have he := e.isLt
    rw [if_pos (by simp [finProdFinEquiv]; omega), mul_one]
    congr 1
    apply Fin.ext
    simp [finProdFinEquiv]
    omega
  · intro a _ ha
    refine Finset.sum_eq_zero fun e _ => ?_
    have he := e.isLt
    rw [if_neg, mul_zero]
    intro h
    apply ha
    apply Fin.ext
    simp [finProdFinEquiv] at h
    change a.val = l.val / 64
    omega
  · intro h; exact absurd (Finset.mem_univ _) h

end Cert.Heads

end
-- ==== Proof.InprojTile.lean ====
/- The third kernel's payloads read at one element, over the reals. -/
module

public import proofs.«01_k».proof.Proof.Heads
public import proofs.«01_k».proof.Proof.Gen.Kernel3Ideal.Value
public import Idealize.ShloMosaic.Lib.Pipeline.ValueKit.Geometry
public import Idealize.ShloMosaic.Lib.Pipeline.ValueKit.Tiles

@[expose] public section

set_option maxRecDepth 16384

noncomputable section

namespace Cert.Kernel3Ideal.Hand

open Idealize.ShloMosaic Idealize.ShloMosaic.TcCoe Idealize.SL.Sem Cert.Kernel3Ideal.Gen
open Cert.Block Cert.Heads

theorem head_lt (i : Fin 512) : i.val / 64 < 8 := by have := i.isLt; omega
theorem within_lt (i : Fin 512) : i.val % 64 < 64 := Nat.mod_lt _ (by omega)

variable (r : Fin 256) (j : Fin 1024)

/-! The row with the attention added, the feed-forward part, the second norm and the two projections. -/

theorem mid_apply (i : grid0.Coords) (oa ob : Vec Ideal S1x8x64x256 .bf16) (ctx x : Vec Ideal S1x256x1024 .f32) (t : Vec Ideal S1x1x8x1024 .f32) (wa wb : Vec Ideal S512x1024 .bf16) :
    k0_pay6 i oa ob ctx x t wa wb (ix2 r j)
      = gated (fun j => Scalar.select (Scalar.cmpi .eq (BitVec.ofNat 32 (i 1).val) 0#32) (ctx (ix3 0 r j)) (x (ix3 0 r j))) (fun j => t (ix4 0 0 2 j))
        (fun j => through (fun i => oa (ix4 0 ⟨i.val / 64, head_lt i⟩ ⟨i.val % 64, within_lt i⟩ r)) (fun i j => wa (ix2 i j)) j
          + through (fun i => ob (ix4 0 ⟨i.val / 64, head_lt i⟩ ⟨i.val % 64, within_lt i⟩ r)) (fun i j => wb (ix2 i j)) j) j := by
  unfold gated through
  pointwise [k0_pay6, k0_pay5]

theorem table_apply (t : Vec Ideal S1x1x8x1024 .f32) (i : Fin 8) : k0_pay5 t (ix2 i j) = t (ix4 0 0 i j) := by pointwise [k0_pay5]

def normK (x : FVec Ideal S256x1024 .f32) (t : FVec Ideal S8x1024 .f32) (nw : Vec Ideal S1x1024 .f32) : FVec Ideal S256x1024 .bf16 :=
  truncf .bf16 (addf (mulf (mulf (mulf x (broadcastTo S256x1024 (rsqrt (addf (divf
      (shapeCast S256x1 (multiReduction .add [1] S256 (mulf x x) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024))
    (broadcastTo S256x1024 nw broadcasts_S1x1024_S256x1024))
    (broadcastTo S256x1024 (addf (broadcast S1x1024 (Scalar.ofBits .f32 0x3F800000#32)) (extractStridedSlice S1x1024 ![4, 0] t slices_S8x1024_o4_0_S1x1024)) broadcasts_S1x1024_S256x1024))
    (broadcastTo S256x1024 (extractStridedSlice S1x1024 ![3, 0] t slices_S8x1024_o3_0_S1x1024) broadcasts_S1x1024_S256x1024)) bitsLt_bf16_f32

theorem norm_apply (x : FVec Ideal S256x1024 .f32) (t : FVec Ideal S8x1024 .f32) (nw : Vec Ideal S1x1024 .f32) :
    normK x t nw (ix2 r j) = normed (fun j => x (ix2 r j)) (fun j => nw (ix2 0 j)) (fun j => t (ix2 4 j)) (fun j => t (ix2 3 j)) j := by
  unfold normed
  pointwise [normK]

def gateK (h : FVec Ideal S256x1024 .bf16) (wi : Vec Ideal S1024x5632 .bf16) : FVec Ideal S256x5632 .f32 :=
  matmul (φ₂ := .bf16) dot_S256x1024_S1024x5632_S256x5632_1_0_0_1_n_n none h wi (constant S256x5632 .f32 0x00000000#32)

def actK (u : FVec Ideal S256x5632 .f32) : FVec Ideal S256x2816 .bf16 :=
  truncf .bf16 (mulf (divf (extractStridedSlice S256x2816 ![0, 0] u slices_S256x5632_o0_0_S256x2816)
    (addf (broadcast S256x2816 (Scalar.ofBits .f32 0x3F800000#32)) (exp (subf (broadcast S256x2816 (Scalar.ofBits .f32 0x00000000#32))
      (extractStridedSlice S256x2816 ![0, 0] u slices_S256x5632_o0_0_S256x2816)))))
    (extractStridedSlice S256x2816 ![0, 2816] u slices_S256x5632_o0_2816_S256x2816)) bitsLt_bf16_f32

def lastK (t : FVec Ideal S8x1024 .f32) (x : FVec Ideal S256x1024 .f32) (a : FVec Ideal S256x2816 .bf16) (wf : Vec Ideal S2816x1024 .bf16) : FVec Ideal S256x1024 .f32 :=
  addf x (mulf (broadcastTo S256x1024 (extractStridedSlice S1x1024 ![5, 0] t slices_S8x1024_o5_0_S1x1024) broadcasts_S1x1024_S256x1024)
    (matmul (φ₂ := .bf16) dot_S256x2816_S2816x1024_S256x1024_1_0_0_1_n_n none a wf (constant S256x1024 .f32 0x00000000#32)))

theorem gate_apply (h : FVec Ideal S256x1024 .bf16) (wi : Vec Ideal S1024x5632 .bf16) (k : Fin 5632) :
    gateK h wi (ix2 r k) = through (fun j => h (ix2 r j)) (fun i j => wi (ix2 i j)) k := by
  unfold through
  pointwise [gateK]

theorem act_apply (u : FVec Ideal S256x5632 .f32) (k : Fin 2816) : actK u (ix2 r k) = act (fun j => u (ix2 r j)) k := by
  unfold act
  rw [← zero_sub, ← Ideal.ofBits_zero_f32]
  pointwise [actK]

theorem last_apply (t : FVec Ideal S8x1024 .f32) (x : FVec Ideal S256x1024 .f32) (a : FVec Ideal S256x2816 .bf16) (wf : Vec Ideal S2816x1024 .bf16) :
    lastK t x a wf (ix2 r j) = gated (fun j => x (ix2 r j)) (fun j => t (ix2 5 j)) (through (fun j => a (ix2 r j)) (fun i j => wf (ix2 i j))) j := by
  unfold gated through
  pointwise [lastK]

/-- The tile of rows after the feed-forward part. -/
def rows (i : grid0.Coords) (oa ob : Vec Ideal S1x8x64x256 .bf16) (ctx x : Vec Ideal S1x256x1024 .f32) (t : Vec Ideal S1x1x8x1024 .f32) (wa wb : Vec Ideal S512x1024 .bf16)
    (nw : Vec Ideal S1x1024 .f32) (wi : Vec Ideal S1024x5632 .bf16) (wf : Vec Ideal S2816x1024 .bf16) : FVec Ideal S256x1024 .f32 :=
  k0_pay10 (k0_pay5 t) (k0_pay6 i oa ob ctx x t wa wb) nw (k0_pay7 t) (k0_pay8 t) (k0_pay9 i oa ob ctx x t wa wb) (FloatOps.ofBits .f32 0x44800000#32) wi wf

theorem rows_eq (i : grid0.Coords) (oa ob : Vec Ideal S1x8x64x256 .bf16) (ctx x : Vec Ideal S1x256x1024 .f32) (t : Vec Ideal S1x1x8x1024 .f32) (wa wb : Vec Ideal S512x1024 .bf16)
    (nw : Vec Ideal S1x1024 .f32) (wi : Vec Ideal S1024x5632 .bf16) (wf : Vec Ideal S2816x1024 .bf16) :
    rows i oa ob ctx x t wa wb nw wi wf = lastK (k0_pay5 t) (k0_pay6 i oa ob ctx x t wa wb) (actK (gateK (normK (k0_pay6 i oa ob ctx x t wa wb) (k0_pay5 t) nw) wi)) wf := rfl

theorem second_apply (x : FVec Ideal S256x1024 .f32) (nw : Vec Ideal S1x1024 .f32) (sh sc : Vec Ideal S1x1x1x1024 .f32) :
    k0_pay13 x nw (k0_pay12 sh) sc (ix2 r j) = normed (fun j => x (ix2 r j)) (fun j => nw (ix2 0 j)) (fun j => sc (ix4 0 0 0 j)) (fun j => sh (ix4 0 0 0 j)) j := by
  unfold normed
  pointwise [k0_pay13, k0_pay12]

theorem wide_apply (x : FVec Ideal S256x1024 .f32) (nw : Vec Ideal S1x1024 .f32) (sh : FVec Ideal S1x1024 .f32) (sc : Vec Ideal S1x1x1x1024 .f32) (w : Vec Ideal S1024x2048 .bf16) (k : Fin 2048) :
    k0_pay14 x nw sh sc w (ix2 r k) = through (fun j => k0_pay13 x nw sh sc (ix2 r j)) (fun i j => w (ix2 i j)) k := by
  unfold through
  unfold k0_pay14
  generalize k0_pay13 x nw sh sc = h
  pointwise

theorem value_apply (h : FVec Ideal S256x1024 .bf16) (w : Vec Ideal S1024x1024 .bf16) :
    k0_pay56 h w (ix2 j r) = ∑ i : Fin 1024, w (ix2 j i) * h (ix2 r i) := by
  pointwise [k0_pay56]

/-! One chunk of 256 columns of the queries and keys. -/

/-- Chunk `c` of the columns. -/
def cut (c : Fin 8) (y : FVec Ideal S256x2048 .f32) : FVec Ideal S256x256 .f32 :=
  match c with
  | 0 => extractStridedSlice S256x256 ![0, 0] y slices_S256x2048_o0_0_S256x256
  | 1 => extractStridedSlice S256x256 ![0, 256] y slices_S256x2048_o0_256_S256x256
  | 2 => extractStridedSlice S256x256 ![0, 512] y slices_S256x2048_o0_512_S256x256
  | 3 => extractStridedSlice S256x256 ![0, 768] y slices_S256x2048_o0_768_S256x256
  | 4 => extractStridedSlice S256x256 ![0, 1024] y slices_S256x2048_o0_1024_S256x256
  | 5 => extractStridedSlice S256x256 ![0, 1280] y slices_S256x2048_o0_1280_S256x256
  | 6 => extractStridedSlice S256x256 ![0, 1536] y slices_S256x2048_o0_1536_S256x256
  | 7 => extractStridedSlice S256x256 ![0, 1792] y slices_S256x2048_o0_1792_S256x256

theorem chunk_lt (c : Fin 8) (l : Fin 256) : c.val * 256 + l.val < 2048 := by have := c.isLt; have := l.isLt; omega

theorem cut_apply (c : Fin 8) (y : FVec Ideal S256x2048 .f32) (l : Fin 256) : cut c y (ix2 r l) = y (ix2 r ⟨c.val * 256 + l.val, chunk_lt c l⟩) := by
  fin_cases c <;> simp only [cut] <;> pointwise

/-- The head norm of one chunk. -/
def unitTile (y : FVec Ideal S256x256 .f32) (bd : Vec Ideal S256x256 .bf16) (g : Vec Ideal S1x256 .f32) : FVec Ideal S256x256 .f32 :=
  mulf (mulf y (rsqrt (addf (mulf (matmul (φ₂ := .bf16) dot_S256x256_S256x256_S256x256_1_0_0_1_n_n none (truncf .bf16 (mulf y y) bitsLt_bf16_f32)
      (shapeCast S256x256 bd shapeCasts_S256x256_S256x256) (constant S256x256 .f32 0x00000000#32))
    (broadcast S256x256 (Scalar.ofBits .f32 0x3C800000#32))) (broadcast S256x256 (Scalar.ofBits .f32 0x358637BD#32)))))
    (broadcastTo S256x256 g broadcasts_S1x256_S256x256)

theorem unit_read (y : FVec Ideal S256x256 .f32) (bd : Vec Ideal S256x256 .bf16) (g : Vec Ideal S1x256 .f32) (l : Fin 256) :
    unitTile y bd g (ix2 r l) = y (ix2 r l) * Ideal.rsqrt ((∑ u : Fin 256, y (ix2 r u) * y (ix2 r u) * bd (ix2 u l)) * Ideal.ofBits .f32 0x3C800000#32
      + Ideal.ofBits .f32 0x358637BD#32) * g (ix2 0 l) := by
  pointwise [unitTile]

/-- One half of a chunk, one head's 128 columns. -/
def halfOf (h : Fin 2) (z : FVec Ideal S256x256 .f32) : FVec Ideal S256x128 .f32 :=
  match h with
  | 0 => extractStridedSlice S256x128 ![0, 0] z slices_S256x256_o0_0_S256x128
  | 1 => extractStridedSlice S256x128 ![0, 128] z slices_S256x256_o0_128_S256x128

theorem half_lt (h : Fin 2) (l : Fin 128) : h.val * 128 + l.val < 256 := by have := h.isLt; have := l.isLt; omega

theorem half_apply (h : Fin 2) (z : FVec Ideal S256x256 .f32) (l : Fin 128) : halfOf h z (ix2 r l) = z (ix2 r ⟨h.val * 128 + l.val, half_lt h l⟩) := by
  fin_cases h <;> simp only [halfOf] <;> pointwise

/-- Where a column is in the first half of its group of 64. -/
def firstHalf : IVec S256x128 1 := k0_pay17 (Scalar.select (Scalar.cmpi .eq 64#32 0#32) 1#32 64#32) k0_pay15 k0_pay16

theorem firstHalf_apply (l : Fin 128) : firstHalf (ix2 r l) = if l.val % 64 < 32 then 1#1 else 0#1 := by
  have h : ∀ l : Fin 128, firstHalf (ix2 0 l) = if l.val % 64 < 32 then 1#1 else 0#1 := by decide +kernel
  exact h l

def turnTile (z : FVec Ideal S256x128 .f32) (cos sin : Vec Ideal S256x128 .f32) : FVec Ideal S256x128 .f32 :=
  addf (mulf z cos) (mulf (select firstHalf (dynamicRotate 1 96#32 none z rotates_S256x128_d1) (dynamicRotate 1 32#32 none z rotates_S256x128_d1)) sin)

theorem turn_lt (k : ℕ) : k % 128 < 128 := Nat.mod_lt _ (by omega)

theorem turn_read (z : FVec Ideal S256x128 .f32) (cos sin : Vec Ideal S256x128 .f32) (l : Fin 128) :
    turnTile z cos sin (ix2 r l) = z (ix2 r l) * cos (ix2 r l)
      + Scalar.select (firstHalf (ix2 r l)) (z (ix2 r ⟨(l.val + 128 - 96) % 128, turn_lt _⟩)) (z (ix2 r ⟨(l.val + 128 - 32) % 128, turn_lt _⟩)) * sin (ix2 r l) := by
  unfold turnTile
  generalize firstHalf = f
  pointwise

/-- The matrix of ones on the four groups of 64 columns. -/
def Indicates (bd : Vec Ideal S256x256 .bf16) : Prop := ∀ u l : Fin 256, bd (ix2 u l) = if u.val / 64 = l.val / 64 then 1 else 0

section Chunk

variable (c : Fin 8) (y : FVec Ideal S256x2048 .f32) {bd : Vec Ideal S256x256 .bf16} (hbd : Indicates bd) {g : Vec Ideal S1x256 .f32} {gain : Fin 2048 → EReal}
  (hg : ∀ l, g (ix2 0 l) = gain ⟨c.val * 256 + l.val, chunk_lt c l⟩) (cos sin : Vec Ideal S256x128 .f32)

theorem group_chunk (l : Fin 256) (e : Fin 64) : group ⟨c.val * 256 + l.val, chunk_lt c l⟩ e = ⟨c.val * 256 + (l.val / 64 * 64 + e.val), chunk_lt c ⟨_, place_lt l e⟩⟩ := by
  apply Fin.ext; have := l.isLt; simp only [group]; omega

include hbd hg in
theorem unit_apply (l : Fin 256) : unitTile (cut c y) bd g (ix2 r l) = head (fun k => y (ix2 r k)) gain ⟨c.val * 256 + l.val, chunk_lt c l⟩ := by
  rw [unit_read]
  have hs : (∑ u : Fin 256, cut c y (ix2 r u) * cut c y (ix2 r u) * bd (ix2 u l)) = ∑ e : Fin 64, cut c y (ix2 r ⟨l.val / 64 * 64 + e.val, place_lt l e⟩) * cut c y (ix2 r ⟨l.val / 64 * 64 + e.val, place_lt l e⟩) := by
    rw [← sum_group (fun u => cut c y (ix2 r u) * cut c y (ix2 r u)) l]
    exact Finset.sum_congr rfl fun u _ => by rw [hbd u l]
  rw [hs]
  simp only [hg, div_64, cut_apply, head, group_chunk]

theorem pair_lt (c : Fin 8) (h : Fin 2) (l : Fin 128) : c.val * 256 + (h.val * 128 + l.val) < 2048 := by have := c.isLt; have := h.isLt; have := l.isLt; omega

include hbd hg in
theorem turn_apply (h : Fin 2) (l : Fin 128) : turnTile (halfOf h (unitTile (cut c y) bd g)) cos sin (ix2 r l)
    = turned (fun k => y (ix2 r k)) gain (fun l => cos (ix2 r l)) (fun l => sin (ix2 r l)) ⟨c.val * 256 + (h.val * 128 + l.val), pair_lt c h l⟩ := by
  have hl := l.isLt
  have hh := h.isLt
  have hlane : (⟨(c.val * 256 + (h.val * 128 + l.val)) % 128, lane_lt ⟨c.val * 256 + (h.val * 128 + l.val), pair_lt c h l⟩⟩ : Fin 128) = l := Fin.ext (by simp; omega)
  rw [turn_read, firstHalf_apply]
  simp only [half_apply, unit_apply r c y hbd hg, turned, hlane]
  congr 2
  by_cases h32 : l.val % 64 < 32
  · rw [if_pos h32, Scalar.select, if_pos (show (1#1 : BitVec 1) = 1 from rfl), partner, dif_pos (by simp; omega)]
    congr 1
    apply Fin.ext; simp; omega
  · rw [if_neg h32, Scalar.select, if_neg (by decide), partner, dif_neg (by simp; omega)]
    congr 1
    apply Fin.ext; simp; omega

def qTile (c : Fin 8) (h : Fin 2) (y : FVec Ideal S256x2048 .f32) (bd : Vec Ideal S256x256 .bf16) (g : Vec Ideal S1x256 .f32) (cos sin : Vec Ideal S256x128 .f32) : FVec Ideal S1x256x128 .bf16 :=
  shapeCast S1x256x128 (truncf .bf16 (mulf (turnTile (halfOf h (unitTile (cut c y) bd g)) cos sin) (broadcast S256x128 (Scalar.ofBits .f32 0x3E38AA3B#32))) bitsLt_bf16_f32) shapeCasts_S256x128_S1x256x128

def kTile (c : Fin 8) (h : Fin 2) (y : FVec Ideal S256x2048 .f32) (bd : Vec Ideal S256x256 .bf16) (g : Vec Ideal S1x256 .f32) (cos sin : Vec Ideal S256x128 .f32) : FVec Ideal S1x1x256x128 .bf16 :=
  shapeCast S1x1x256x128 (truncf .bf16 (turnTile (halfOf h (unitTile (cut c y) bd g)) cos sin) bitsLt_bf16_f32) shapeCasts_S256x128_S1x1x256x128

theorem q_read (h : Fin 2) (l : Fin 128) : qTile c h y bd g cos sin (ix3 0 r l) = turnTile (halfOf h (unitTile (cut c y) bd g)) cos sin (ix2 r l) * Ideal.ofBits .f32 0x3E38AA3B#32 := by
  unfold qTile
  generalize turnTile (halfOf h (unitTile (cut c y) bd g)) cos sin = z
  pointwise

theorem k_read (h : Fin 2) (l : Fin 128) : kTile c h y bd g cos sin (ix4 0 0 r l) = turnTile (halfOf h (unitTile (cut c y) bd g)) cos sin (ix2 r l) := by
  unfold kTile
  generalize turnTile (halfOf h (unitTile (cut c y) bd g)) cos sin = z
  pointwise

theorem query_lt (j : Fin 1024) : j.val < 2048 := by have := j.isLt; omega
theorem key_lt (h : Fin 8) (l : Fin 128) : 1024 + (h.val * 128 + l.val) < 2048 := by have := h.isLt; have := l.isLt; omega

include hbd hg in
/-- A piece of the queries, where it lies. -/
theorem q_at (h : Fin 2) (off : ℕ) (ho : off = c.val * 256 + h.val * 128) :
    View.TileAt (Val := Elt Ideal) (S := S1x256x1024) (e := .bf16) (ix3 0 r j) ![0, 0, off] ![1, 256, 128] (qTile c h y bd g cos sin)
      (turned (fun k => y (ix2 r k)) gain (fun l => cos (ix2 r l)) (fun l => sin (ix2 r l)) ⟨j.val, query_lt j⟩ * Ideal.ofBits .f32 0x3E38AA3B#32) := by
  intro x hx
  have h1 : r.val = 0 + (x 1).val := hx 1
  have h2 : j.val = off + (x 2).val := hx 2
  obtain ⟨l, hl⟩ : ∃ l : Fin 128, l.val = (x 2).val := ⟨x 2, rfl⟩
  have e : x = ix3 0 r l := by
    funext a; fin_cases a
    · exact Fin.ext (by have := (x 0).isLt; change _ < 1 at this; change (x 0).val = 0; omega)
    · exact Fin.ext (by change (x 1).val = r.val; omega)
    · exact Fin.ext hl.symm
  subst e
  refine (q_read r c y cos sin h l).trans ?_
  rw [turn_apply r c y hbd hg]
  congr 2
  apply Fin.ext
  change c.val * 256 + (h.val * 128 + l.val) = j.val
  omega

include hbd hg in
/-- A piece of the keys, where it lies. -/
theorem k_at (h : Fin 2) (hv : Fin 8) (l : Fin 128) (off : ℕ) (ho : 1024 + off * 128 = c.val * 256 + h.val * 128) :
    View.TileAt (Val := Elt Ideal) (S := S1x8x256x128) (e := .bf16) (ix4 0 hv r l) ![0, off, 0, 0] ![1, 1, 256, 128] (kTile c h y bd g cos sin)
      (turned (fun k => y (ix2 r k)) gain (fun l => cos (ix2 r l)) (fun l => sin (ix2 r l)) ⟨1024 + (hv.val * 128 + l.val), key_lt hv l⟩) := by
  intro x hx
  have h1 : hv.val = off + (x 1).val := hx 1
  have h2 : r.val = 0 + (x 2).val := hx 2
  have h3 : l.val = 0 + (x 3).val := hx 3
  have h1' : (x 1).val < 1 := (x 1).isLt
  have e : x = ix4 0 0 r l := by
    funext a; fin_cases a
    · exact Fin.ext (by have := (x 0).isLt; change _ < 1 at this; change (x 0).val = 0; omega)
    · exact Fin.ext (by change (x 1).val = 0; omega)
    · exact Fin.ext (by change (x 2).val = r.val; omega)
    · exact Fin.ext (by change (x 3).val = l.val; omega)
  subst e
  refine (k_read r c y cos sin h l).trans ?_
  rw [turn_apply r c y hbd hg]
  congr 1
  apply Fin.ext
  change c.val * 256 + (h.val * 128 + l.val) = 1024 + (hv.val * 128 + l.val)
  omega

end Chunk

/-! The values' pieces: a head's 128 rows, then a row of ones and fifteen of zeros. -/

def vTile (h : Fin 8) (v : FVec Ideal S1024x256 .bf16) : FVec Ideal S1x1x128x256 .bf16 :=
  match h with
  | 0 => shapeCast S1x1x128x256 (extractStridedSlice S128x256 ![0, 0] v slices_S1024x256_o0_0_S128x256) shapeCasts_S128x256_S1x1x128x256
  | 1 => shapeCast S1x1x128x256 (extractStridedSlice S128x256 ![128, 0] v slices_S1024x256_o128_0_S128x256) shapeCasts_S128x256_S1x1x128x256
  | 2 => shapeCast S1x1x128x256 (extractStridedSlice S128x256 ![256, 0] v slices_S1024x256_o256_0_S128x256) shapeCasts_S128x256_S1x1x128x256
  | 3 => shapeCast S1x1x128x256 (extractStridedSlice S128x256 ![384, 0] v slices_S1024x256_o384_0_S128x256) shapeCasts_S128x256_S1x1x128x256
  | 4 => shapeCast S1x1x128x256 (extractStridedSlice S128x256 ![512, 0] v slices_S1024x256_o512_0_S128x256) shapeCasts_S128x256_S1x1x128x256
  | 5 => shapeCast S1x1x128x256 (extractStridedSlice S128x256 ![640, 0] v slices_S1024x256_o640_0_S128x256) shapeCasts_S128x256_S1x1x128x256
  | 6 => shapeCast S1x1x128x256 (extractStridedSlice S128x256 ![768, 0] v slices_S1024x256_o768_0_S128x256) shapeCasts_S128x256_S1x1x128x256
  | 7 => shapeCast S1x1x128x256 (extractStridedSlice S128x256 ![896, 0] v slices_S1024x256_o896_0_S128x256) shapeCasts_S128x256_S1x1x128x256

theorem value_lt (h : Fin 8) (e : Fin 128) : h.val * 128 + e.val < 1024 := by have := h.isLt; have := e.isLt; omega

theorem v_read (h : Fin 8) (v : FVec Ideal S1024x256 .bf16) (e : Fin 128) : vTile h v (ix4 0 0 e r) = v (ix2 ⟨h.val * 128 + e.val, value_lt h e⟩ r) := by
  fin_cases h <;> simp only [vTile] <;> pointwise

theorem ones_raw (i : Fin 16) : (k0_pay57 (F := Ideal)) (ix2 i r)
    = FloatOps.sitofp (F := Ideal) FTy.f32 (BitVec.setWidth 32 (IntOp.cmpi CmpIPredicate.eq (BitVec.ofNat 32 i.val) 0#32)) := by
  pointwise [k0_pay57]

theorem ones_read (i : Fin 16) : (k0_pay57 (F := Ideal)) (ix2 i r) = if i.val = 0 then 1 else 0 := by
  have h : ∀ i : Fin 16, BitVec.setWidth 32 (IntOp.cmpi CmpIPredicate.eq (BitVec.ofNat 32 i.val) 0#32) = if i.val = 0 then 1#32 else 0#32 := by decide
  rw [ones_raw, h]
  split
  · change (((1#32 : BitVec 32).toInt : ℝ) : EReal) = 1
    norm_num
  · change (((0#32 : BitVec 32).toInt : ℝ) : EReal) = 0
    norm_num

/-- A piece of the values, where it lies. -/
theorem v_at (h hv : Fin 8) (v : FVec Ideal S1024x256 .bf16) (u : Fin 144) (off : ℕ) (ho : off = h.val) (w : EReal)
    (hw : ∀ e : Fin 128, e.val = u.val → w = v (ix2 ⟨hv.val * 128 + e.val, value_lt hv e⟩ r)) :
    View.TileAt (Val := Elt Ideal) (S := S1x8x144x256) (e := .bf16) (ix4 0 hv u r) ![0, off, 0, 0] ![1, 1, 128, 256] (vTile h v) w := by
  intro x hx
  have h1 : hv.val = off + (x 1).val := hx 1
  have h2 : u.val = 0 + (x 2).val := hx 2
  have h3 : r.val = 0 + (x 3).val := hx 3
  have h1' : (x 1).val < 1 := (x 1).isLt
  obtain ⟨e, he⟩ : ∃ e : Fin 128, e.val = (x 2).val := ⟨x 2, rfl⟩
  have ex : x = ix4 0 0 e r := by
    funext a; fin_cases a
    · exact Fin.ext (by have := (x 0).isLt; change _ < 1 at this; change (x 0).val = 0; omega)
    · exact Fin.ext (by change (x 1).val = 0; omega)
    · exact Fin.ext he.symm
    · exact Fin.ext (by change (x 3).val = r.val; omega)
  have hh : hv = h := Fin.ext (by omega)
  subst hh
  subst ex
  rw [hw e (by omega)]
  exact v_read r hv v e

/-- A piece of the rows below, where it lies. -/
theorem ones_at (h hv : Fin 8) (u : Fin 144) (off : ℕ) (ho : off = h.val) (w : EReal) (hw : 128 ≤ u.val → w = if u.val = 128 then 1 else 0) :
    View.TileAt (Val := Elt Ideal) (S := S1x8x144x256) (e := .bf16) (ix4 0 hv u r) ![0, off, 128, 0] ![1, 1, 16, 256]
      (shapeCast S1x1x16x256 (k0_pay57 (F := Ideal)) shapeCasts_S16x256_S1x1x16x256) w := by
  intro x hx
  have h1 : hv.val = off + (x 1).val := hx 1
  have h2 : u.val = 128 + (x 2).val := hx 2
  have h3 : r.val = 0 + (x 3).val := hx 3
  have h1' : (x 1).val < 1 := (x 1).isLt
  obtain ⟨e, he⟩ : ∃ e : Fin 16, e.val = (x 2).val := ⟨x 2, rfl⟩
  have ex : x = ix4 0 0 e r := by
    funext a; fin_cases a
    · exact Fin.ext (by have := (x 0).isLt; change _ < 1 at this; change (x 0).val = 0; omega)
    · exact Fin.ext (by change (x 1).val = 0; omega)
    · exact Fin.ext he.symm
    · exact Fin.ext (by change (x 3).val = r.val; omega)
  subst ex
  have hr : (shapeCast S1x1x16x256 (k0_pay57 (F := Ideal)) shapeCasts_S16x256_S1x1x16x256) (ix4 0 0 e r) = k0_pay57 (F := Ideal) (ix2 e r) := by
    generalize k0_pay57 (F := Ideal) = z
    pointwise
  rw [hw (by omega)]
  refine hr.trans ((ones_read r e).trans ?_)
  by_cases hz : e.val = 0
  · rw [if_pos hz, if_pos (by omega)]
  · rw [if_neg hz, if_neg (by omega)]

end Cert.Kernel3Ideal.Hand

end
-- ==== Proof.InprojOut.lean ====
/- The third kernel's output blocks of a grid point, read at one element. -/
module

public import proofs.«01_k».proof.Proof.InprojTile

@[expose] public section

set_option maxRecDepth 16384

noncomputable section

namespace Cert.Kernel3Ideal.Hand

open Idealize.ShloMosaic Idealize.ShloMosaic.Tactic Idealize.ShloMosaic.TcCoe Idealize.SL.Sem Cert.Kernel3Ideal.Gen
open Cert.Block Cert.Heads

theorem zero2 : (![0, 0] : Fin 2 → ℕ) = fun _ => 0 := by funext a; fin_cases a <;> rfl
theorem zero3 : (![0, 0, 0] : Fin 3 → ℕ) = fun _ => 0 := by funext a; fin_cases a <;> rfl
theorem zero4 : (![0, 0, 0, 0] : Fin 4 → ℕ) = fun _ => 0 := by funext a; fin_cases a <;> rfl

section Loads

variable (x0 : Vec Ideal S1x256x1024 .f32) (x2 : Vec Ideal S1x1x8x1024 .f32) (x3 : Vec Ideal S1x8x64x256 .bf16) (x6 : Vec Ideal S1x1024 .f32)
  (x7 : Vec Ideal S1024x5632 .bf16) (x8 : Vec Ideal S2816x1024 .bf16) (x11 : Vec Ideal S1024x2048 .bf16) (x12 : Vec Ideal S1024x1024 .bf16)
  (x14 : Vec Ideal S256x128 .f32) (x16 : Vec Ideal S256x256 .bf16)

/-! Loads of whole blocks. -/

theorem ld0 : View.ld x0 (Rect.unit ![0, 0, 0] ![1, 256, 1024] inb_S1x256x1024_S1x256x1024_0_0_0) = x0 := View.ld_unit_zero zero3 _ _
theorem ld2 : View.ld x2 (Rect.unit ![0, 0, 0, 0] ![1, 1, 8, 1024] inb_S1x1x8x1024_S1x1x8x1024_0_0_0_0) = x2 := View.ld_unit_zero zero4 _ _
theorem ld3 : View.ld x3 (Rect.unit ![0, 0, 0, 0] ![1, 8, 64, 256] inb_S1x8x64x256_S1x8x64x256_0_0_0_0) = x3 := View.ld_unit_zero zero4 _ _
theorem ld6 : View.ld x6 (Rect.unit ![0, 0] ![1, 1024] inb_S1x1024_S1x1024_0_0) = x6 := View.ld_unit_zero zero2 _ _
theorem ld7 : View.ld x7 (Rect.unit ![0, 0] ![1024, 5632] inb_S1024x5632_S1024x5632_0_0) = x7 := View.ld_unit_zero zero2 _ _
theorem ld8 : View.ld x8 (Rect.unit ![0, 0] ![2816, 1024] inb_S2816x1024_S2816x1024_0_0) = x8 := View.ld_unit_zero zero2 _ _
theorem ld11 : View.ld x11 (Rect.unit ![0, 0] ![1024, 2048] inb_S1024x2048_S1024x2048_0_0) = x11 := View.ld_unit_zero zero2 _ _
theorem ld12 : View.ld x12 (Rect.unit ![0, 0] ![1024, 1024] inb_S1024x1024_S1024x1024_0_0) = x12 := View.ld_unit_zero zero2 _ _
theorem ld14 : View.ld x14 (Rect.unit ![0, 0] ![256, 128] inb_S256x128_S256x128_0_0) = x14 := View.ld_unit_zero zero2 _ _
theorem ld16 : View.ld x16 (Rect.unit ![0, 0] ![256, 256] inb_S256x256_S256x256_0_0) = x16 := View.ld_unit_zero zero2 _ _

end Loads

/-! What a grid point computes from its blocks. -/

section Tile

variable (i : grid0.Coords) (x0 x1 : Vec Ideal S1x256x1024 .f32) (x2 : Vec Ideal S1x1x8x1024 .f32) (x3 x4 : Vec Ideal S1x8x64x256 .bf16) (x5 : Vec Ideal S1024x1024 .bf16)
  (x6 : Vec Ideal S1x1024 .f32) (x7 : Vec Ideal S1024x5632 .bf16) (x8 : Vec Ideal S2816x1024 .bf16) (x9 : Vec Ideal S1x1x8x1024 .f32) (x10 : Vec Ideal S1x1024 .f32)
  (x11 : Vec Ideal S1024x2048 .bf16)

def tileRows : FVec Ideal S256x1024 .f32 :=
  rows i x3 x4 x0 x1 x2 (View.ld x5 (Rect.unit ![0, 0] ![512, 1024] inb_S1024x1024_S512x1024_0_0)) (View.ld x5 (Rect.unit ![512, 0] ![512, 1024] inb_S1024x1024_S512x1024_512_0)) x6 x7 x8

def tileSecond : FVec Ideal S256x1024 .bf16 :=
  k0_pay13 (tileRows i x0 x1 x2 x3 x4 x5 x6 x7 x8) x10 (k0_pay12 (View.ld x9 (Rect.unit ![0, 0, 0, 0] ![1, 1, 1, 1024] inb_S1x1x8x1024_S1x1x1x1024_0_0_0_0)))
    (View.ld x9 (Rect.unit ![0, 0, 1, 0] ![1, 1, 1, 1024] inb_S1x1x8x1024_S1x1x1x1024_0_0_1_0))

def tileWide : FVec Ideal S256x2048 .f32 :=
  k0_pay14 (tileRows i x0 x1 x2 x3 x4 x5 x6 x7 x8) x10 (k0_pay12 (View.ld x9 (Rect.unit ![0, 0, 0, 0] ![1, 1, 1, 1024] inb_S1x1x8x1024_S1x1x1x1024_0_0_0_0)))
    (View.ld x9 (Rect.unit ![0, 0, 1, 0] ![1, 1, 1, 1024] inb_S1x1x8x1024_S1x1x1x1024_0_0_1_0)) x11

/-- One entry of the values: a row of the matrix against a row of the tile. -/
def valueAt (w : Vec Ideal S1024x1024 .bf16) (h : FVec Ideal S256x1024 .bf16) (r : Fin 256) (k : Fin 1024) : EReal := ∑ i : Fin 1024, w (ix2 k i) * h (ix2 r i)

theorem valueAt_eq (w : Vec Ideal S1024x1024 .bf16) (h : FVec Ideal S256x1024 .bf16) (r : Fin 256) (k : Fin 1024) : valueAt w h r k = k0_pay56 h w (ix2 k r) :=
  (value_apply r k h w).symm

end Tile

variable (m : (ℓ : Loc nD τ sig) → Buf (Elt Ideal) ℓ) (c : Dev nD)
variable (r : Fin 256) (j : Fin 1024)

theorem out17 (t : Fin cfg0.N) : (outsAt0 m c t).1 (ix3 0 r j)
    = tileRows (grid0.coords t) (iblk m c 0 t) (iblk m c 1 t) (iblk m c 2 t) (iblk m c 3 t) (iblk m c 4 t) (iblk m c 5 t) (iblk m c 6 t) (iblk m c 7 t) (iblk m c 8 t) (ix2 r j) := by
  unfold outsAt0
  dsimp only
  unfold out0_A_17
  rw [View.read_writes_eq_canon _ _ _ (fun y => by apply cover0_A_17)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  rw [View.canon_unit_zero zero3]
  unfold tileRows rows k0_pay11
  rw [ld0, ld0, ld2, ld3, ld3, ld6, ld7, ld8]
  generalize k0_pay10 (F := Ideal) _ _ _ _ _ _ _ _ _ = z
  pointwise

theorem out18 (t : Fin cfg0.N) (hbd : Indicates (iblk m c 16 t)) : (outsAt0 m c t).2.1 (ix3 0 r j)
    = turned (fun k => tileWide (grid0.coords t) (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (ix2 r k)) (fun k => iblk m c 13 t (ix2 0 k)) (fun l => iblk m c 14 t (ix2 r l)) (fun l => iblk m c 15 t (ix2 r l))
        ⟨j.val, query_lt j⟩ * Ideal.ofBits .f32 0x3E38AA3B#32 := by
  revert hbd
  unfold outsAt0
  dsimp only
  unfold out0_A_18
  rw [View.read_writes_eq_canon _ _ _ (fun y => by apply cover0_A_18)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 13 t = x13
  generalize iblk m c 14 t = x14
  generalize iblk m c 15 t = x15
  generalize iblk m c 16 t = x16
  intro hbd
  unfold tileWide tileRows rows
  rw [ld0, ld0, ld2, ld3, ld3, ld6, ld6, ld7, ld8, ld11, ld14, ld14, ld16]
  generalize k0_pay14 (F := Ideal) _ _ _ _ _ = y
  refine View.canon_eq_of_allAt _ _ _ (View.cover_of_tiled_head _ _ _ (by sl_kernel_rfl) _) ?_
  refine View.allAt_cons_unit _ _ _ _ _ (q_at r j 3 y hbd (by intro l; pointwise) x14 x15 1 896 rfl) ?_
  refine View.allAt_cons_unit _ _ _ _ _ (q_at r j 3 y hbd (by intro l; pointwise) x14 x15 0 768 rfl) ?_
  refine View.allAt_cons_unit _ _ _ _ _ (q_at r j 2 y hbd (by intro l; pointwise) x14 x15 1 640 rfl) ?_
  refine View.allAt_cons_unit _ _ _ _ _ (q_at r j 2 y hbd (by intro l; pointwise) x14 x15 0 512 rfl) ?_
  refine View.allAt_cons_unit _ _ _ _ _ (q_at r j 1 y hbd (by intro l; pointwise) x14 x15 1 384 rfl) ?_
  refine View.allAt_cons_unit _ _ _ _ _ (q_at r j 1 y hbd (by intro l; pointwise) x14 x15 0 256 rfl) ?_
  refine View.allAt_cons_unit _ _ _ _ _ (q_at r j 0 y hbd (by intro l; pointwise) x14 x15 1 128 rfl) ?_
  refine View.allAt_cons_unit _ _ _ _ _ (q_at r j 0 y hbd (by intro l; pointwise) x14 x15 0 0 rfl) ?_
  exact View.allAt_nil _ _

theorem out19 (t : Fin cfg0.N) (hv : Fin 8) (l : Fin 128) (hbd : Indicates (iblk m c 16 t)) : (outsAt0 m c t).2.2.1 (ix4 0 hv r l)
    = turned (fun k => tileWide (grid0.coords t) (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (ix2 r k)) (fun k => iblk m c 13 t (ix2 0 k)) (fun l => iblk m c 14 t (ix2 r l)) (fun l => iblk m c 15 t (ix2 r l))
        ⟨1024 + (hv.val * 128 + l.val), key_lt hv l⟩ := by
  revert hbd
  unfold outsAt0
  dsimp only
  unfold out0_A_19
  rw [View.read_writes_eq_canon _ _ _ (fun y => by apply cover0_A_19)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 13 t = x13
  generalize iblk m c 14 t = x14
  generalize iblk m c 15 t = x15
  generalize iblk m c 16 t = x16
  intro hbd
  unfold tileWide tileRows rows
  rw [ld0, ld0, ld2, ld3, ld3, ld6, ld6, ld7, ld8, ld11, ld14, ld14, ld16]
  generalize k0_pay14 (F := Ideal) _ _ _ _ _ = y
  refine View.canon_eq_of_allAt _ _ _ (View.cover_of_tiled_head _ _ _ (by sl_kernel_rfl) _) ?_
  refine View.allAt_cons_unit _ _ _ _ _ (k_at r 7 y hbd (by intro l; pointwise) x14 x15 1 hv l 7 rfl) ?_
  refine View.allAt_cons_unit _ _ _ _ _ (k_at r 7 y hbd (by intro l; pointwise) x14 x15 0 hv l 6 rfl) ?_
  refine View.allAt_cons_unit _ _ _ _ _ (k_at r 6 y hbd (by intro l; pointwise) x14 x15 1 hv l 5 rfl) ?_
  refine View.allAt_cons_unit _ _ _ _ _ (k_at r 6 y hbd (by intro l; pointwise) x14 x15 0 hv l 4 rfl) ?_
  refine View.allAt_cons_unit _ _ _ _ _ (k_at r 5 y hbd (by intro l; pointwise) x14 x15 1 hv l 3 rfl) ?_
  refine View.allAt_cons_unit _ _ _ _ _ (k_at r 5 y hbd (by intro l; pointwise) x14 x15 0 hv l 2 rfl) ?_
  refine View.allAt_cons_unit _ _ _ _ _ (k_at r 4 y hbd (by intro l; pointwise) x14 x15 1 hv l 1 rfl) ?_
  refine View.allAt_cons_unit _ _ _ _ _ (k_at r 4 y hbd (by intro l; pointwise) x14 x15 0 hv l 0 rfl) ?_
  exact View.allAt_nil _ _

theorem out20 (t : Fin cfg0.N) (hv : Fin 8) (u : Fin 144) : (outsAt0 m c t).2.2.2 (ix4 0 hv u r)
    = if hu : u.val < 128 then valueAt (iblk m c 12 t)
        (tileSecond (grid0.coords t) (iblk m c 0 t) (iblk m c 1 t) (iblk m c 2 t) (iblk m c 3 t) (iblk m c 4 t) (iblk m c 5 t) (iblk m c 6 t) (iblk m c 7 t) (iblk m c 8 t)
          (iblk m c 9 t) (iblk m c 10 t)) r ⟨hv.val * 128 + u.val, value_lt hv ⟨u.val, hu⟩⟩
      else if u.val = 128 then 1 else 0 := by
  unfold outsAt0
  dsimp only
  unfold out0_A_20
  rw [View.read_writes_eq_canon _ _ _ (fun y => by apply cover0_A_20)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 12 t = x12
  unfold tileSecond tileRows rows
  rw [ld0, ld0, ld2, ld3, ld3, ld6, ld6, ld7, ld8, ld12]
  generalize k0_pay13 (F := Ideal) _ _ _ _ = h
  simp only [valueAt_eq]
  have hv1 : ∀ e : Fin 128, e.val = u.val → (if hu : u.val < 128 then k0_pay56 h x12 (ix2 ⟨hv.val * 128 + u.val, value_lt hv ⟨u.val, hu⟩⟩ r) else if u.val = 128 then 1 else 0)
      = k0_pay56 h x12 (ix2 ⟨hv.val * 128 + e.val, value_lt hv e⟩ r) := by
    intro e he
    rw [dif_pos (he ▸ e.isLt)]
    simp only [he]
  have hv2 : 128 ≤ u.val → (if hu : u.val < 128 then k0_pay56 h x12 (ix2 ⟨hv.val * 128 + u.val, value_lt hv ⟨u.val, hu⟩⟩ r) else if u.val = 128 then (1 : EReal) else 0)
      = if u.val = 128 then 1 else 0 := fun h => dif_neg (by omega)
  revert hv1 hv2
  generalize (if hu : u.val < 128 then k0_pay56 h x12 (ix2 ⟨hv.val * 128 + u.val, value_lt hv ⟨u.val, hu⟩⟩ r) else if u.val = 128 then (1 : EReal) else 0) = w
  intro hv1 hv2
  refine View.canon_eq_of_allAt _ _ _ (View.cover_of_tiledBy _ ![1, 1, 16, 256] (by sl_kernel_rfl) _) ?_
  refine View.allAt_cons_unit _ _ _ _ _ (ones_at r 7 hv u 7 rfl w hv2) ?_
  refine View.allAt_cons_unit _ _ _ _ _ (v_at r 7 hv (k0_pay56 h x12) u 7 rfl w hv1) ?_
  refine View.allAt_cons_unit _ _ _ _ _ (ones_at r 6 hv u 6 rfl w hv2) ?_
  refine View.allAt_cons_unit _ _ _ _ _ (v_at r 6 hv (k0_pay56 h x12) u 6 rfl w hv1) ?_
  refine View.allAt_cons_unit _ _ _ _ _ (ones_at r 5 hv u 5 rfl w hv2) ?_
  refine View.allAt_cons_unit _ _ _ _ _ (v_at r 5 hv (k0_pay56 h x12) u 5 rfl w hv1) ?_
  refine View.allAt_cons_unit _ _ _ _ _ (ones_at r 4 hv u 4 rfl w hv2) ?_
  refine View.allAt_cons_unit _ _ _ _ _ (v_at r 4 hv (k0_pay56 h x12) u 4 rfl w hv1) ?_
  refine View.allAt_cons_unit _ _ _ _ _ (ones_at r 3 hv u 3 rfl w hv2) ?_
  refine View.allAt_cons_unit _ _ _ _ _ (v_at r 3 hv (k0_pay56 h x12) u 3 rfl w hv1) ?_
  refine View.allAt_cons_unit _ _ _ _ _ (ones_at r 2 hv u 2 rfl w hv2) ?_
  refine View.allAt_cons_unit _ _ _ _ _ (v_at r 2 hv (k0_pay56 h x12) u 2 rfl w hv1) ?_
  refine View.allAt_cons_unit _ _ _ _ _ (ones_at r 1 hv u 1 rfl w hv2) ?_
  refine View.allAt_cons_unit _ _ _ _ _ (v_at r 1 hv (k0_pay56 h x12) u 1 rfl w hv1) ?_
  refine View.allAt_cons_unit _ _ _ _ _ (ones_at r 0 hv u 0 rfl w hv2) ?_
  refine View.allAt_cons_unit _ _ _ _ _ (v_at r 0 hv (k0_pay56 h x12) u 0 rfl w hv1) ?_
  exact View.allAt_nil _ _

end Cert.Kernel3Ideal.Hand

end
-- ==== Proof.InprojRef.lean ====
/- The third reference's results read at one element. -/
module

public import proofs.«01_k».proof.Proof.Heads
public import proofs.«01_k».proof.Proof.Gen.Reference3Ideal.Run

@[expose] public section

set_option maxRecDepth 16384

noncomputable section

namespace Cert.InprojRef

open Cert.Reference3Ideal Cert.Reference3Ideal.Gen Idealize.ShloMosaic Idealize.ShloMosaic.TcCoe Idealize.SL.Sem
open Cert.Block Cert.Heads

/-! The stages of the reference. -/

/-- A row of the modulation table per batch entry. -/
def lift (g : FVec Ideal S4x1x1x1024 .f32) : FVec Ideal S4x1x1024 .f32 :=
  broadcastInDim S4x1x1024 ![0, 2] bcast_S4x1024_S4x1x1024_0_2 (shapeCast _ g shapeCasts_S4x1x1x1024_S4x1024)

/-- The context's rows, then the latents'. -/
def chain (a : FVec Ideal S4x256x1024 .f32) (b : FVec Ideal S4x8192x1024 .f32) : FVec Ideal S4x8448x1024 .f32 :=
  concatenate S4x8448x1024 1 [⟨S4x256x1024, a⟩, ⟨S4x8192x1024, b⟩] concatenates_S4x256x1024_S4x8192x1024_S4x8448x1024_d1

/-- One table row for the context's rows and one for the latents'. -/
def spread (a b : FVec Ideal S4x1x1x1024 .f32) : FVec Ideal S4x8448x1024 .f32 :=
  chain (broadcastInDim S4x256x1024 ![0, 1, 2] bcast_S4x1x1024_S4x256x1024_0_1_2 (lift a)) (broadcastInDim S4x8192x1024 ![0, 1, 2] bcast_S4x1x1024_S4x8192x1024_0_1_2 (lift b))

def row0 (t : FVec Ideal S4x2x8x1024 .f32) : FVec Ideal S4x8448x1024 .f32 :=
  spread (extractStridedSlice S4x1x1x1024 ![0, 0, 0, 0] t slices_S4x2x8x1024_S4x1x1x1024_0_0_0_0) (extractStridedSlice S4x1x1x1024 ![0, 1, 0, 0] t slices_S4x2x8x1024_S4x1x1x1024_0_1_0_0)
def row1 (t : FVec Ideal S4x2x8x1024 .f32) : FVec Ideal S4x8448x1024 .f32 :=
  spread (extractStridedSlice S4x1x1x1024 ![0, 0, 1, 0] t slices_S4x2x8x1024_S4x1x1x1024_0_0_1_0) (extractStridedSlice S4x1x1x1024 ![0, 1, 1, 0] t slices_S4x2x8x1024_S4x1x1x1024_0_1_1_0)
def row2 (t : FVec Ideal S4x2x8x1024 .f32) : FVec Ideal S4x8448x1024 .f32 :=
  spread (extractStridedSlice S4x1x1x1024 ![0, 0, 2, 0] t slices_S4x2x8x1024_S4x1x1x1024_0_0_2_0) (extractStridedSlice S4x1x1x1024 ![0, 1, 2, 0] t slices_S4x2x8x1024_S4x1x1x1024_0_1_2_0)
def row3 (t : FVec Ideal S4x2x8x1024 .f32) : FVec Ideal S4x8448x1024 .f32 :=
  spread (extractStridedSlice S4x1x1x1024 ![0, 0, 3, 0] t slices_S4x2x8x1024_S4x1x1x1024_0_0_3_0) (extractStridedSlice S4x1x1x1024 ![0, 1, 3, 0] t slices_S4x2x8x1024_S4x1x1x1024_0_1_3_0)
def row4 (t : FVec Ideal S4x2x8x1024 .f32) : FVec Ideal S4x8448x1024 .f32 :=
  spread (extractStridedSlice S4x1x1x1024 ![0, 0, 4, 0] t slices_S4x2x8x1024_S4x1x1x1024_0_0_4_0) (extractStridedSlice S4x1x1x1024 ![0, 1, 4, 0] t slices_S4x2x8x1024_S4x1x1x1024_0_1_4_0)
def row5 (t : FVec Ideal S4x2x8x1024 .f32) : FVec Ideal S4x8448x1024 .f32 :=
  spread (extractStridedSlice S4x1x1x1024 ![0, 0, 5, 0] t slices_S4x2x8x1024_S4x1x1x1024_0_0_5_0) (extractStridedSlice S4x1x1x1024 ![0, 1, 5, 0] t slices_S4x2x8x1024_S4x1x1x1024_0_1_5_0)

/-- The heads of both attentions, one after the other. -/
def heads (oa ob : FVec Ideal S4x8x64x8448 .bf16) : FVec Ideal S4x16x64x8448 .bf16 :=
  concatenate S4x16x64x8448 1 [⟨S4x8x64x8448, oa⟩, ⟨S4x8x64x8448, ob⟩] concatenates_S4x8x64x8448_S4x8x64x8448_S4x16x64x8448_d1

/-- The attention through the output matrix. -/
def project (o : FVec Ideal S4x16x64x8448 .bf16) (wo : FVec Ideal S1024x1024 .bf16) : FVec Ideal S4x8448x1024 .f32 :=
  Host.dotGeneral dot_S4x8448x1024_S1024x1024_S4x8448x1024_2_0_01_1_n_n none
    (transpose S4x8448x1024 [0, 2, 1] (shapeCast _ (extf .f32 o bitsLt_bf16_f32) shapeCasts_S4x16x64x8448_S4x1024x8448) transposes_S4x1024x8448_S4x8448x1024_0_2_1)
    (extf .f32 wo bitsLt_bf16_f32)

def addGated (x g a : FVec Ideal S4x8448x1024 .f32) : FVec Ideal S4x8448x1024 .f32 := addf x (mulf g a)

def norm (x : FVec Ideal S4x8448x1024 .f32) (nw : FVec Ideal S1x1024 .f32) (sc sh : FVec Ideal S4x8448x1024 .f32) : FVec Ideal S4x8448x1024 .f32 :=
  addf (mulf (mulf (mulf x
    (broadcastInDim S4x8448x1024 ![0, 1, 2] bcast_S4x8448x1_S4x8448x1024_0_1_2 (Host.rsqrt (addf (Host.divf (broadcastInDim S4x8448x1 ![0, 1] bcast_S4x8448_S4x8448x1_0_1
      (Host.reduceAdd (mulf x x) (constant S_ .f32 0x00000000#32) reducesTo_S4x8448x1024_S4x8448_d2 h_S_)) (broadcastInDim S4x8448x1 ![] bcast_S_S4x8448x1 (constant S_ .f32 0x44800000#32)))
      (broadcastInDim S4x8448x1 ![] bcast_S_S4x8448x1 (constant S_ .f32 0x358637BD#32))))))
    (broadcastInDim S4x8448x1024 ![0, 1, 2] bcast_S1x1x1024_S4x8448x1024_0_1_2 (broadcastInDim S1x1x1024 ![1, 2] bcast_S1x1024_S1x1x1024_1_2 nw)))
    (addf (broadcastInDim S4x8448x1024 ![] bcast_S_S4x8448x1024 (constant S_ .f32 0x3F800000#32)) sc)) sh

def widen (h : FVec Ideal S4x8448x1024 .f32) (wi : FVec Ideal S1024x5632 .bf16) : FVec Ideal S4x8448x5632 .f32 :=
  Host.dotGeneral dot_S4x8448x1024_S1024x5632_S4x8448x5632_2_0_01_1_n_n none h (extf .f32 wi bitsLt_bf16_f32)

def silu (g : FVec Ideal S4x8448x2816 .f32) : FVec Ideal S4x8448x2816 .f32 :=
  mulf g (Host.divf (broadcastInDim S4x8448x2816 ![] bcast_S_S4x8448x2816 (constant S_ .f32 0x3F800000#32))
    (addf (broadcastInDim S4x8448x2816 ![] bcast_S_S4x8448x2816 (constant S_ .f32 0x3F800000#32)) (Host.exp (Host.negf g))))

def swiglu (u : FVec Ideal S4x8448x5632 .f32) : FVec Ideal S4x8448x2816 .f32 :=
  mulf (silu (extractStridedSlice S4x8448x2816 ![0, 0, 0] u slices_S4x8448x5632_S4x8448x2816_0_0_0))
    (extractStridedSlice S4x8448x2816 ![0, 0, 2816] u slices_S4x8448x5632_S4x8448x2816_0_0_2816)

def narrow (a : FVec Ideal S4x8448x2816 .f32) (wf : FVec Ideal S2816x1024 .bf16) : FVec Ideal S4x8448x1024 .f32 :=
  Host.dotGeneral dot_S4x8448x2816_S2816x1024_S4x8448x1024_2_0_01_1_n_n none a (extf .f32 wf bitsLt_bf16_f32)

/-- The queries and keys before their norm. -/
def both (h : FVec Ideal S4x8448x1024 .f32) (w : FVec Ideal S1024x2048 .bf16) : FVec Ideal S4x8448x2048 .f32 :=
  Host.dotGeneral dot_S4x8448x1024_S1024x2048_S4x8448x2048_2_0_01_1_n_n none h (extf .f32 w bitsLt_bf16_f32)

def queries (y : FVec Ideal S4x8448x2048 .f32) : FVec Ideal S4x8448x8x2x64 .f32 :=
  shapeCast _ (extractStridedSlice S4x8448x1024 ![0, 0, 0] y slices_S4x8448x2048_S4x8448x1024_0_0_0) shapeCasts_S4x8448x1024_S4x8448x8x2x64
def keys (y : FVec Ideal S4x8448x2048 .f32) : FVec Ideal S4x8448x8x2x64 .f32 :=
  shapeCast _ (extractStridedSlice S4x8448x1024 ![0, 0, 1024] y slices_S4x8448x2048_S4x8448x1024_0_0_1024) shapeCasts_S4x8448x1024_S4x8448x8x2x64
def queryGain (g : FVec Ideal S1x2048 .f32) : FVec Ideal S8x2x64 .f32 :=
  shapeCast _ (extractStridedSlice S1x1024 ![0, 0] g slices_S1x2048_S1x1024_0_0) shapeCasts_S1x1024_S8x2x64
def keyGain (g : FVec Ideal S1x2048 .f32) : FVec Ideal S8x2x64 .f32 :=
  shapeCast _ (extractStridedSlice S1x1024 ![0, 1024] g slices_S1x2048_S1x1024_0_1024) shapeCasts_S1x1024_S8x2x64

/-- The norm over the last axis, with its gain. -/
def headNorm (z : FVec Ideal S4x8448x8x2x64 .f32) (g : FVec Ideal S8x2x64 .f32) : FVec Ideal S4x8448x8x2x64 .f32 :=
  mulf (mulf z (broadcastInDim S4x8448x8x2x64 ![0, 1, 2, 3, 4] bcast_S4x8448x8x2x1_S4x8448x8x2x64_0_1_2_3_4 (Host.rsqrt (addf (Host.divf
      (broadcastInDim S4x8448x8x2x1 ![0, 1, 2, 3] bcast_S4x8448x8x2_S4x8448x8x2x1_0_1_2_3 (Host.reduceAdd (mulf z z) (constant S_ .f32 0x00000000#32) reducesTo_S4x8448x8x2x64_S4x8448x8x2_d4 h_S_))
      (broadcastInDim S4x8448x8x2x1 ![] bcast_S_S4x8448x8x2x1 (constant S_ .f32 0x42800000#32))) (broadcastInDim S4x8448x8x2x1 ![] bcast_S_S4x8448x8x2x1 (constant S_ .f32 0x358637BD#32))))))
    (broadcastInDim S4x8448x8x2x64 ![0, 1, 2, 3, 4] bcast_S1x1x8x2x64_S4x8448x8x2x64_0_1_2_3_4 (broadcastInDim S1x1x8x2x64 ![2, 3, 4] bcast_S8x2x64_S1x1x8x2x64_2_3_4 g))

def angles (a : FVec Ideal S8448x128 .f32) : FVec Ideal S4x8448x8x2x64 .f32 :=
  broadcastInDim S4x8448x8x2x64 ![0, 1, 2, 3, 4] bcast_S1x8448x1x2x64_S4x8448x8x2x64_0_1_2_3_4
    (broadcastInDim S1x8448x1x2x64 ![1, 2, 3, 4] bcast_S8448x1x2x64_S1x8448x1x2x64_1_2_3_4 (shapeCast _ a shapeCasts_S8448x128_S8448x1x2x64))

/-- The two halves of the last axis changed over. -/
def swap (z : FVec Ideal S4x8448x8x2x64 .f32) : FVec Ideal S4x8448x8x2x64 .f32 :=
  concatenate S4x8448x8x2x64 4 [⟨S4x8448x8x2x32, (extractStridedSlice S4x8448x8x2x32 ![0, 0, 0, 0, 32] z slices_S4x8448x8x2x64_S4x8448x8x2x32_0_0_0_0_32)⟩,
    ⟨S4x8448x8x2x32, (extractStridedSlice S4x8448x8x2x32 ![0, 0, 0, 0, 0] z slices_S4x8448x8x2x64_S4x8448x8x2x32_0_0_0_0_0)⟩] concatenates_S4x8448x8x2x32_S4x8448x8x2x32_S4x8448x8x2x64_d4

def turn (z : FVec Ideal S4x8448x8x2x64 .f32) (cos sin : FVec Ideal S8448x128 .f32) : FVec Ideal S4x8448x8x2x64 .f32 :=
  addf (mulf z (angles cos)) (mulf (swap z) (angles sin))

def asQueries (z : FVec Ideal S4x8448x8x2x64 .f32) : FVec Ideal S4x8448x1024 .bf16 :=
  truncf .bf16 (shapeCast _ (mulf z (broadcastInDim S4x8448x8x2x64 ![] bcast_S_S4x8448x8x2x64 (constant S_ .f32 0x3E38AA3B#32))) shapeCasts_S4x8448x8x2x64_S4x8448x1024) bitsLt_bf16_f32

def asKeys (z : FVec Ideal S4x8448x8x2x64 .f32) : FVec Ideal S4x8x8448x128 .bf16 :=
  truncf .bf16 (transpose S4x8x8448x128 [0, 2, 1, 3] (shapeCast _ z shapeCasts_S4x8448x8x2x64_S4x8448x8x128) transposes_S4x8448x8x128_S4x8x8448x128_0_2_1_3) bitsLt_bf16_f32

def values (h : FVec Ideal S4x8448x1024 .f32) (w : FVec Ideal S1024x1024 .bf16) : FVec Ideal S4x8x128x8448 .f32 :=
  shapeCast _ (transpose S4x1024x8448 [0, 2, 1] (Host.dotGeneral dot_S4x8448x1024_S1024x1024_S4x8448x1024_2_1_01_0_n_n none h (extf .f32 w bitsLt_bf16_f32))
    transposes_S4x8448x1024_S4x1024x8448_0_2_1) shapeCasts_S4x1024x8448_S4x8x128x8448

/-- The values with a row of ones and fifteen of zeros below each head. -/
def asValues (v : FVec Ideal S4x8x128x8448 .f32) : FVec Ideal S4x8x144x8448 .bf16 :=
  truncf .bf16 (concatenate S4x8x144x8448 2 [⟨S4x8x128x8448, v⟩, ⟨S4x8x1x8448, (broadcastInDim S4x8x1x8448 ![] bcast_S_S4x8x1x8448 (constant (F := Ideal) S_ .f32 0x3F800000#32))⟩,
    ⟨S4x8x15x8448, (broadcastInDim S4x8x15x8448 ![] bcast_S_S4x8x15x8448 (constant (F := Ideal) S_ .f32 0x00000000#32))⟩] concatenates_S4x8x128x8448_S4x8x1x8448_S4x8x15x8448_S4x8x144x8448_d2 :
      FVec Ideal S4x8x144x8448 .f32) bitsLt_bf16_f32

/-! The stages read at one element. -/

theorem ctx_lt {n : Fin 8448} (h : n.val < 256) : n.val < 256 := h
theorem lat_lt (n : Fin 8448) : n.val - 256 < 8192 := by have := n.isLt; omega
theorem head_lt (i : Fin 1024) : i.val / 64 < 16 := by have := i.isLt; omega
theorem within_lt (i : Fin 1024) : i.val % 64 < 64 := Nat.mod_lt _ (by omega)

/-- Which row of the modulation table a token reads: the context's or the latents'. -/
def seg (n : Fin 8448) : Fin 2 := if n.val < 256 then 0 else 1

variable (b : Fin 4) (n : Fin 8448) (j : Fin 1024)

theorem chain_apply (x : FVec Ideal S4x256x1024 .f32) (y : FVec Ideal S4x8192x1024 .f32) :
    chain x y (ix3 b n j) = if h : n.val < 256 then x (ix3 b ⟨n.val, ctx_lt h⟩ j) else y (ix3 b ⟨n.val - 256, lat_lt n⟩ j) := by
  pointwise [chain]

theorem spread_apply (x y : FVec Ideal S4x1x1x1024 .f32) : spread x y (ix3 b n j) = if n.val < 256 then x (ix4 b 0 0 j) else y (ix4 b 0 0 j) := by
  unfold spread
  rw [chain_apply]
  split
  · pointwise [lift]
  · pointwise [lift]

theorem seg_apply (t : FVec Ideal S4x2x8x1024 .f32) (i : Fin 8) : (if n.val < 256 then t (ix4 b 0 i j) else t (ix4 b 1 i j)) = t (ix4 b (seg n) i j) := by
  unfold seg
  split <;> rfl

theorem row0_apply (t : FVec Ideal S4x2x8x1024 .f32) : row0 t (ix3 b n j) = t (ix4 b (seg n) 0 j) := by
  rw [← seg_apply b n j t 0, row0, spread_apply]; congr 1 <;> pointwise
theorem row1_apply (t : FVec Ideal S4x2x8x1024 .f32) : row1 t (ix3 b n j) = t (ix4 b (seg n) 1 j) := by
  rw [← seg_apply b n j t 1, row1, spread_apply]; congr 1 <;> pointwise
theorem row2_apply (t : FVec Ideal S4x2x8x1024 .f32) : row2 t (ix3 b n j) = t (ix4 b (seg n) 2 j) := by
  rw [← seg_apply b n j t 2, row2, spread_apply]; congr 1 <;> pointwise
theorem row3_apply (t : FVec Ideal S4x2x8x1024 .f32) : row3 t (ix3 b n j) = t (ix4 b (seg n) 3 j) := by
  rw [← seg_apply b n j t 3, row3, spread_apply]; congr 1 <;> pointwise
theorem row4_apply (t : FVec Ideal S4x2x8x1024 .f32) : row4 t (ix3 b n j) = t (ix4 b (seg n) 4 j) := by
  rw [← seg_apply b n j t 4, row4, spread_apply]; congr 1 <;> pointwise
theorem row5_apply (t : FVec Ideal S4x2x8x1024 .f32) : row5 t (ix3 b n j) = t (ix4 b (seg n) 5 j) := by
  rw [← seg_apply b n j t 5, row5, spread_apply]; congr 1 <;> pointwise

theorem project_apply (o : FVec Ideal S4x16x64x8448 .bf16) (wo : FVec Ideal S1024x1024 .bf16) :
    project o wo (ix3 b n j) = through (fun i => o (ix4 b ⟨i.val / 64, head_lt i⟩ ⟨i.val % 64, within_lt i⟩ n)) (fun i j => wo (ix2 i j)) j := by
  unfold through
  pointwise [project]

theorem lo_lt {h : Fin 16} (hh : h.val < 8) : h.val < 8 := hh
theorem hi_lt (h : Fin 16) : h.val - 8 < 8 := by have := h.isLt; omega

theorem heads_apply (oa ob : FVec Ideal S4x8x64x8448 .bf16) (h : Fin 16) (e : Fin 64) :
    heads oa ob (ix4 b h e n) = if hh : h.val < 8 then oa (ix4 b ⟨h.val, lo_lt hh⟩ e n) else ob (ix4 b ⟨h.val - 8, hi_lt h⟩ e n) := by
  pointwise [heads]

theorem addGated_apply (x g a : FVec Ideal S4x8448x1024 .f32) :
    addGated x g a (ix3 b n j) = gated (fun j => x (ix3 b n j)) (fun j => g (ix3 b n j)) (fun j => a (ix3 b n j)) j := by
  unfold gated
  pointwise [addGated]

theorem norm_apply (x : FVec Ideal S4x8448x1024 .f32) (nw : FVec Ideal S1x1024 .f32) (sc sh : FVec Ideal S4x8448x1024 .f32) :
    norm x nw sc sh (ix3 b n j) = normed (fun j => x (ix3 b n j)) (fun j => nw (ix2 0 j)) (fun j => sc (ix3 b n j)) (fun j => sh (ix3 b n j)) j := by
  unfold normed
  pointwise [norm]

theorem widen_apply (h : FVec Ideal S4x8448x1024 .f32) (wi : FVec Ideal S1024x5632 .bf16) (k : Fin 5632) :
    widen h wi (ix3 b n k) = through (fun j => h (ix3 b n j)) (fun i j => wi (ix2 i j)) k := by
  unfold through
  pointwise [widen]

theorem swiglu_apply (u : FVec Ideal S4x8448x5632 .f32) (k : Fin 2816) : swiglu u (ix3 b n k) = act (fun j => u (ix3 b n j)) k := by
  unfold act
  rw [← div_sigmoid]
  pointwise [swiglu, silu]

theorem narrow_apply (a : FVec Ideal S4x8448x2816 .f32) (wf : FVec Ideal S2816x1024 .bf16) :
    narrow a wf (ix3 b n j) = through (fun j => a (ix3 b n j)) (fun i j => wf (ix2 i j)) j := by
  unfold through
  pointwise [narrow]

theorem both_apply (h : FVec Ideal S4x8448x1024 .f32) (w : FVec Ideal S1024x2048 .bf16) (k : Fin 2048) :
    both h w (ix3 b n k) = through (fun j => h (ix3 b n j)) (fun i j => w (ix2 i j)) k := by
  unfold through
  pointwise [both]

theorem flat_lt (h : Fin 8) (e : Fin 2) (d : Fin 64) : h.val * 128 + e.val * 64 + d.val < 2048 := by have := h.isLt; have := e.isLt; have := d.isLt; omega
theorem flatk_lt (h : Fin 8) (e : Fin 2) (d : Fin 64) : 1024 + (h.val * 128 + e.val * 64 + d.val) < 2048 := by have := h.isLt; have := e.isLt; have := d.isLt; omega
theorem lane_lt (e : Fin 2) (d : Fin 64) : e.val * 64 + d.val < 128 := by have := e.isLt; have := d.isLt; omega

variable (h : Fin 8) (e : Fin 2) (d : Fin 64)

theorem queries_apply (y : FVec Ideal S4x8448x2048 .f32) : queries y (ix5 b n h e d) = y (ix3 b n ⟨h.val * 128 + e.val * 64 + d.val, flat_lt h e d⟩) := by
  pointwise [queries]
theorem keys_apply (y : FVec Ideal S4x8448x2048 .f32) : keys y (ix5 b n h e d) = y (ix3 b n ⟨1024 + (h.val * 128 + e.val * 64 + d.val), flatk_lt h e d⟩) := by
  pointwise [keys]
theorem queryGain_apply (g : FVec Ideal S1x2048 .f32) : queryGain g (ix3 h e d) = g (ix2 0 ⟨h.val * 128 + e.val * 64 + d.val, flat_lt h e d⟩) := by
  pointwise [queryGain]
theorem keyGain_apply (g : FVec Ideal S1x2048 .f32) : keyGain g (ix3 h e d) = g (ix2 0 ⟨1024 + (h.val * 128 + e.val * 64 + d.val), flatk_lt h e d⟩) := by
  pointwise [keyGain]

theorem headNorm_apply (z : FVec Ideal S4x8448x8x2x64 .f32) (g : FVec Ideal S8x2x64 .f32) :
    headNorm z g (ix5 b n h e d) = z (ix5 b n h e d) * Ideal.rsqrt (Ideal.div (∑ κ : Fin 64, z (ix5 b n h e κ) * z (ix5 b n h e κ)) (Ideal.ofBits .f32 0x42800000#32)
      + Ideal.ofBits .f32 0x358637BD#32) * g (ix3 h e d) := by
  pointwise [headNorm]

theorem angles_apply (a : FVec Ideal S8448x128 .f32) : angles a (ix5 b n h e d) = a (ix2 n ⟨e.val * 64 + d.val, lane_lt e d⟩) := by
  pointwise [angles]

theorem next_lt {d : Fin 64} (hd : d.val < 32) : 32 + d.val < 64 := by omega
theorem prev_lt (d : Fin 64) : d.val - 32 < 64 := by have := d.isLt; omega

theorem swap_apply (z : FVec Ideal S4x8448x8x2x64 .f32) :
    swap z (ix5 b n h e d) = if hd : d.val < 32 then z (ix5 b n h e ⟨32 + d.val, next_lt hd⟩) else z (ix5 b n h e ⟨d.val - 32, prev_lt d⟩) := by
  pointwise [swap]

theorem turn_apply (z : FVec Ideal S4x8448x8x2x64 .f32) (cos sin : FVec Ideal S8448x128 .f32) :
    turn z cos sin (ix5 b n h e d) = z (ix5 b n h e d) * cos (ix2 n ⟨e.val * 64 + d.val, lane_lt e d⟩) + swap z (ix5 b n h e d) * sin (ix2 n ⟨e.val * 64 + d.val, lane_lt e d⟩) := by
  rw [← angles_apply b n h e d cos, ← angles_apply b n h e d sin]
  rfl

theorem group_flat (κ : Fin 64) : group ⟨h.val * 128 + e.val * 64 + d.val, flat_lt h e d⟩ κ = ⟨h.val * 128 + e.val * 64 + κ.val, flat_lt h e κ⟩ := by
  apply Fin.ext; have := d.isLt; simp only [group]; omega
theorem group_flatk (κ : Fin 64) : group ⟨1024 + (h.val * 128 + e.val * 64 + d.val), flatk_lt h e d⟩ κ = ⟨1024 + (h.val * 128 + e.val * 64 + κ.val), flatk_lt h e κ⟩ := by
  apply Fin.ext; have := d.isLt; simp only [group]; omega

theorem query_head (y : FVec Ideal S4x8448x2048 .f32) (g : FVec Ideal S1x2048 .f32) :
    headNorm (queries y) (queryGain g) (ix5 b n h e d) = head (fun k => y (ix3 b n k)) (fun k => g (ix2 0 k)) ⟨h.val * 128 + e.val * 64 + d.val, flat_lt h e d⟩ := by
  simp only [headNorm_apply, queries_apply, queryGain_apply, head, group_flat]

theorem key_head (y : FVec Ideal S4x8448x2048 .f32) (g : FVec Ideal S1x2048 .f32) :
    headNorm (keys y) (keyGain g) (ix5 b n h e d) = head (fun k => y (ix3 b n k)) (fun k => g (ix2 0 k)) ⟨1024 + (h.val * 128 + e.val * 64 + d.val), flatk_lt h e d⟩ := by
  simp only [headNorm_apply, keys_apply, keyGain_apply, head, group_flatk]

theorem query_turned (y : FVec Ideal S4x8448x2048 .f32) (g : FVec Ideal S1x2048 .f32) (cos sin : FVec Ideal S8448x128 .f32) :
    turn (headNorm (queries y) (queryGain g)) cos sin (ix5 b n h e d)
      = turned (fun k => y (ix3 b n k)) (fun k => g (ix2 0 k)) (fun l => cos (ix2 n l)) (fun l => sin (ix2 n l)) ⟨h.val * 128 + e.val * 64 + d.val, flat_lt h e d⟩ := by
  have hd := d.isLt
  have he := e.isLt
  have hl : (⟨(h.val * 128 + e.val * 64 + d.val) % 128, Heads.lane_lt ⟨h.val * 128 + e.val * 64 + d.val, flat_lt h e d⟩⟩ : Fin 128) = ⟨e.val * 64 + d.val, lane_lt e d⟩ := Fin.ext (by simp; omega)
  rw [turn_apply, swap_apply, query_head]
  unfold turned
  simp only [hl]
  congr 2
  by_cases h32 : d.val < 32
  · rw [dif_pos h32, query_head, partner, dif_pos (by simp; omega)]
    congr 1
    apply Fin.ext; simp; omega
  · rw [dif_neg h32, query_head, partner, dif_neg (by simp; omega)]
    congr 1
    apply Fin.ext; simp; omega

theorem key_turned (y : FVec Ideal S4x8448x2048 .f32) (g : FVec Ideal S1x2048 .f32) (cos sin : FVec Ideal S8448x128 .f32) :
    turn (headNorm (keys y) (keyGain g)) cos sin (ix5 b n h e d)
      = turned (fun k => y (ix3 b n k)) (fun k => g (ix2 0 k)) (fun l => cos (ix2 n l)) (fun l => sin (ix2 n l)) ⟨1024 + (h.val * 128 + e.val * 64 + d.val), flatk_lt h e d⟩ := by
  have hd := d.isLt
  have he := e.isLt
  have hl : (⟨(1024 + (h.val * 128 + e.val * 64 + d.val)) % 128, Heads.lane_lt ⟨1024 + (h.val * 128 + e.val * 64 + d.val), flatk_lt h e d⟩⟩ : Fin 128) = ⟨e.val * 64 + d.val, lane_lt e d⟩ := Fin.ext (by simp; omega)
  rw [turn_apply, swap_apply, key_head]
  unfold turned
  simp only [hl]
  congr 2
  by_cases h32 : d.val < 32
  · rw [dif_pos h32, key_head, partner, dif_pos (by simp; omega)]
    congr 1
    apply Fin.ext; simp; omega
  · rw [dif_neg h32, key_head, partner, dif_neg (by simp; omega)]
    congr 1
    apply Fin.ext; simp; omega

theorem col_head_lt (j : Fin 1024) : j.val / 128 < 8 := by have := j.isLt; omega
theorem col_half_lt (j : Fin 1024) : j.val / 64 % 2 < 2 := Nat.mod_lt _ (by omega)
theorem lane_half_lt (l : Fin 128) : l.val / 64 < 2 := by have := l.isLt; omega
theorem lane_in_lt (l : Fin 128) : l.val % 64 < 64 := Nat.mod_lt _ (by omega)

theorem asQueries_apply (z : FVec Ideal S4x8448x8x2x64 .f32) :
    asQueries z (ix3 b n j) = z (ix5 b n ⟨j.val / 128, col_head_lt j⟩ ⟨j.val / 64 % 2, col_half_lt j⟩ ⟨j.val % 64, within_lt j⟩) * Ideal.ofBits .f32 0x3E38AA3B#32 := by
  pointwise [asQueries]

theorem asKeys_apply (z : FVec Ideal S4x8448x8x2x64 .f32) (l : Fin 128) :
    asKeys z (ix4 b h n l) = z (ix5 b n h ⟨l.val / 64, lane_half_lt l⟩ ⟨l.val % 64, lane_in_lt l⟩) := by
  pointwise [asKeys]

theorem row_lt {u : Fin 144} (hu : u.val < 128) : u.val < 128 := hu

theorem asValues_read (v : FVec Ideal S4x8x128x8448 .f32) (u : Fin 144) :
    asValues v (ix4 b h u n) = if hu : u.val < 128 then v (ix4 b h ⟨u.val, row_lt hu⟩ n) else if hu : u.val - 128 < 1 then 1 else 0 := by
  pointwise [asValues]

theorem asValues_apply (v : FVec Ideal S4x8x128x8448 .f32) (u : Fin 144) :
    asValues v (ix4 b h u n) = if hu : u.val < 128 then v (ix4 b h ⟨u.val, row_lt hu⟩ n) else if u.val = 128 then 1 else 0 := by
  rw [asValues_read]
  by_cases hu : u.val < 128
  · rw [dif_pos hu, dif_pos hu]
  · rw [dif_neg hu, dif_neg hu]
    by_cases hv : u.val = 128
    · rw [dif_pos (by omega), if_pos hv]
    · rw [dif_neg (by omega), if_neg hv]

theorem value_lt (h : Fin 8) (e : Fin 128) : h.val * 128 + e.val < 1024 := by have := h.isLt; have := e.isLt; omega

theorem values_apply (x : FVec Ideal S4x8448x1024 .f32) (w : FVec Ideal S1024x1024 .bf16) (e : Fin 128) :
    values x w (ix4 b h e n) = ∑ i : Fin 1024, x (ix3 b n i) * w (ix2 ⟨h.val * 128 + e.val, value_lt h e⟩ i) := by
  pointwise [values]

/-! The whole computation. -/

section Whole

variable (a0 : FVec Ideal S4x256x1024 .f32) (a1 : FVec Ideal S4x8192x1024 .f32) (a2 : FVec Ideal S4x2x8x1024 .f32) (a3 a4 : FVec Ideal S4x8x64x8448 .bf16)
  (a5 : FVec Ideal S1024x1024 .bf16) (a6 : FVec Ideal S1x1024 .f32) (a7 : FVec Ideal S1024x5632 .bf16) (a8 : FVec Ideal S2816x1024 .bf16)
  (a9 : FVec Ideal S4x2x8x1024 .f32) (a10 : FVec Ideal S1x1024 .f32) (a11 : FVec Ideal S1024x2048 .bf16) (a12 : FVec Ideal S1024x1024 .bf16)
  (a13 : FVec Ideal S1x2048 .f32) (a14 a15 : FVec Ideal S8448x128 .f32)

def mid : FVec Ideal S4x8448x1024 .f32 := addGated (chain a0 a1) (row2 a2) (project (heads a3 a4) a5)

def stream : FVec Ideal S4x8448x1024 .f32 :=
  addGated (mid a0 a1 a2 a3 a4 a5) (row5 a2) (narrow (swiglu (widen (norm (mid a0 a1 a2 a3 a4 a5) a6 (row4 a2) (row3 a2)) a7)) a8)

def second : FVec Ideal S4x8448x1024 .f32 := norm (stream a0 a1 a2 a3 a4 a5 a6 a7 a8) a10 (row1 a9) (row0 a9)

def wide : FVec Ideal S4x8448x2048 .f32 := both (second a0 a1 a2 a3 a4 a5 a6 a7 a8 a9 a10) a11

def q : FVec Ideal S4x8448x1024 .bf16 := asQueries (turn (headNorm (queries (wide a0 a1 a2 a3 a4 a5 a6 a7 a8 a9 a10 a11)) (queryGain a13)) a14 a15)

def k : FVec Ideal S4x8x8448x128 .bf16 := asKeys (turn (headNorm (keys (wide a0 a1 a2 a3 a4 a5 a6 a7 a8 a9 a10 a11)) (keyGain a13)) a14 a15)

def v : FVec Ideal S4x8x144x8448 .bf16 := asValues (values (second a0 a1 a2 a3 a4 a5 a6 a7 a8 a9 a10) a12)

/-- A token's row before the block. -/
def tokenRow : Fin 1024 → EReal := fun j => if h : n.val < 256 then a0 (ix3 b ⟨n.val, ctx_lt h⟩ j) else a1 (ix3 b ⟨n.val - 256, lat_lt n⟩ j)

/-- A token's attention, all heads. -/
def attRow : Fin 1024 → EReal := fun i => if hh : i.val / 64 < 8 then a3 (ix4 b ⟨i.val / 64, hh⟩ ⟨i.val % 64, within_lt i⟩ n)
  else a4 (ix4 b ⟨i.val / 64 - 8, hi_lt ⟨i.val / 64, head_lt i⟩⟩ ⟨i.val % 64, within_lt i⟩ n)

/-- A token's row after the block. -/
def streamRow : Fin 1024 → EReal :=
  token (tokenRow b n a0 a1) (attRow b n a3 a4) (fun j => a2 (ix4 b (seg n) 2 j)) (fun j => a2 (ix4 b (seg n) 3 j)) (fun j => a2 (ix4 b (seg n) 4 j))
    (fun j => a2 (ix4 b (seg n) 5 j)) (fun j => a6 (ix2 0 j)) (fun i j => a5 (ix2 i j)) (fun i j => a7 (ix2 i j)) (fun i j => a8 (ix2 i j))

/-- The same row after the next layer's first norm. -/
def secondRow : Fin 1024 → EReal :=
  normed (streamRow b n a0 a1 a2 a3 a4 a5 a6 a7 a8) (fun j => a10 (ix2 0 j)) (fun j => a9 (ix4 b (seg n) 1 j)) (fun j => a9 (ix4 b (seg n) 0 j))

/-- Its queries and keys, turned. -/
def turnedRow : Fin 2048 → EReal :=
  turned (through (secondRow b n a0 a1 a2 a3 a4 a5 a6 a7 a8 a9 a10) (fun i j => a11 (ix2 i j))) (fun k => a13 (ix2 0 k)) (fun l => a14 (ix2 n l)) (fun l => a15 (ix2 n l))

theorem mid_apply : mid a0 a1 a2 a3 a4 a5 (ix3 b n j)
    = gated (tokenRow b n a0 a1) (fun j => a2 (ix4 b (seg n) 2 j)) (through (attRow b n a3 a4) (fun i j => a5 (ix2 i j))) j := by
  simp only [mid, addGated_apply, chain_apply, row2_apply, project_apply, heads_apply]
  rfl

theorem stream_apply : stream a0 a1 a2 a3 a4 a5 a6 a7 a8 (ix3 b n j) = streamRow b n a0 a1 a2 a3 a4 a5 a6 a7 a8 j := by
  simp only [stream, streamRow, token, feed, addGated_apply, mid_apply, row3_apply, row4_apply, row5_apply, narrow_apply, swiglu_apply, widen_apply, norm_apply]

theorem second_apply : second a0 a1 a2 a3 a4 a5 a6 a7 a8 a9 a10 (ix3 b n j) = secondRow b n a0 a1 a2 a3 a4 a5 a6 a7 a8 a9 a10 j := by
  simp only [second, secondRow, norm_apply, stream_apply, row0_apply, row1_apply]

theorem wide_apply (k : Fin 2048) : wide a0 a1 a2 a3 a4 a5 a6 a7 a8 a9 a10 a11 (ix3 b n k)
    = through (secondRow b n a0 a1 a2 a3 a4 a5 a6 a7 a8 a9 a10) (fun i j => a11 (ix2 i j)) k := by
  simp only [wide, both_apply, second_apply]

theorem query_lt (j : Fin 1024) : j.val < 2048 := by have := j.isLt; omega
theorem key_lt (h : Fin 8) (l : Fin 128) : 1024 + (h.val * 128 + l.val) < 2048 := by have := h.isLt; have := l.isLt; omega

theorem q_apply : q a0 a1 a2 a3 a4 a5 a6 a7 a8 a9 a10 a11 a13 a14 a15 (ix3 b n j)
    = turnedRow b n a0 a1 a2 a3 a4 a5 a6 a7 a8 a9 a10 a11 a13 a14 a15 ⟨j.val, query_lt j⟩ * Ideal.ofBits .f32 0x3E38AA3B#32 := by
  unfold q turnedRow
  rw [asQueries_apply, query_turned]
  simp only [wide_apply]
  congr 2
  apply Fin.ext; simp; omega

theorem k_apply (l : Fin 128) : k a0 a1 a2 a3 a4 a5 a6 a7 a8 a9 a10 a11 a13 a14 a15 (ix4 b h n l)
    = turnedRow b n a0 a1 a2 a3 a4 a5 a6 a7 a8 a9 a10 a11 a13 a14 a15 ⟨1024 + (h.val * 128 + l.val), key_lt h l⟩ := by
  unfold k turnedRow
  rw [asKeys_apply, key_turned]
  simp only [wide_apply]
  congr 1
  apply Fin.ext; simp; omega

theorem v_apply (u : Fin 144) : v a0 a1 a2 a3 a4 a5 a6 a7 a8 a9 a10 a12 (ix4 b h u n)
    = if hu : u.val < 128 then ∑ i : Fin 1024, secondRow b n a0 a1 a2 a3 a4 a5 a6 a7 a8 a9 a10 i * a12 (ix2 ⟨h.val * 128 + u.val, value_lt h ⟨u.val, hu⟩⟩ i)
      else if u.val = 128 then 1 else 0 := by
  unfold v
  rw [asValues_apply]
  simp only [values_apply, second_apply]

end Whole

/-! The run's results are these. -/

section Run

variable (V : Valuation τ sig (Elt Ideal))

theorem stream_eq : Value.res_main_v71 V = stream (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7)) (V (Proc.devRef .tc main_arg8)) := rfl

theorem second_eq : Value.res_main_v106 V = second (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7)) (V (Proc.devRef .tc main_arg8)) (V (Proc.devRef .tc main_arg9))
    (V (Proc.devRef .tc main_arg10)) := by
  unfold second
  rw [← stream_eq]
  rfl

theorem wide_eq : Value.res_main_v108 V = wide (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7)) (V (Proc.devRef .tc main_arg8)) (V (Proc.devRef .tc main_arg9))
    (V (Proc.devRef .tc main_arg10)) (V (Proc.devRef .tc main_arg11)) := by
  unfold wide
  rw [← second_eq]
  rfl

theorem query_eq : Value.res_main_v125 V = headNorm (queries (wide (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7)) (V (Proc.devRef .tc main_arg8)) (V (Proc.devRef .tc main_arg9))
    (V (Proc.devRef .tc main_arg10)) (V (Proc.devRef .tc main_arg11)))) (queryGain (V (Proc.devRef .tc main_arg13))) := by
  rw [← wide_eq]
  rfl

theorem key_eq : Value.res_main_v156 V = headNorm (keys (wide (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7)) (V (Proc.devRef .tc main_arg8)) (V (Proc.devRef .tc main_arg9))
    (V (Proc.devRef .tc main_arg10)) (V (Proc.devRef .tc main_arg11)))) (keyGain (V (Proc.devRef .tc main_arg13))) := by
  rw [← wide_eq]
  rfl

end Run

end Cert.InprojRef

end
-- ==== Proof.InprojK.lean ====
/- The third kernel's result arrays over the reals. -/
module

public import proofs.«01_k».proof.Proof.InprojOut
public import proofs.«01_k».proof.Proof.InprojRef

@[expose] public section

set_option maxRecDepth 16384

noncomputable section

namespace Cert.Kernel3Ideal.Hand

open Idealize.ShloMosaic Idealize.ShloMosaic.Tactic Idealize.ShloMosaic.TcCoe Idealize.SL.Sem Cert.Kernel3Ideal.Gen
open Cert.Block Cert.Heads

variable (r : Fin 256) (j : Fin 1024)

/-! A tile's rows in terms of its blocks. -/

section Tile

variable (i : grid0.Coords) (x0 x1 : Vec Ideal S1x256x1024 .f32) (x2 : Vec Ideal S1x1x8x1024 .f32) (x3 x4 : Vec Ideal S1x8x64x256 .bf16) (x5 : Vec Ideal S1024x1024 .bf16)
  (x6 : Vec Ideal S1x1024 .f32) (x7 : Vec Ideal S1024x5632 .bf16) (x8 : Vec Ideal S2816x1024 .bf16) (x9 : Vec Ideal S1x1x8x1024 .f32) (x10 : Vec Ideal S1x1024 .f32)
  (x11 : Vec Ideal S1024x2048 .bf16)

theorem low_lt (i : Fin 512) : i.val < 1024 := by have := i.isLt; omega
theorem high_lt (i : Fin 512) : 512 + i.val < 1024 := by have := i.isLt; omega
theorem att_lt {i : Fin 1024} (h : i.val / 64 < 8) : i.val / 64 < 8 := h
theorem att_hi_lt (i : Fin 1024) : i.val / 64 - 8 < 8 := by have := i.isLt; omega
theorem att_in_lt (i : Fin 1024) : i.val % 64 < 64 := Nat.mod_lt _ (by omega)

theorem low_read (i : Fin 512) : View.ld x5 (Rect.unit ![0, 0] ![512, 1024] inb_S1024x1024_S512x1024_0_0) (ix2 i j) = x5 (ix2 ⟨i.val, low_lt i⟩ j) := by pointwise
theorem high_read (i : Fin 512) : View.ld x5 (Rect.unit ![512, 0] ![512, 1024] inb_S1024x1024_S512x1024_512_0) (ix2 i j) = x5 (ix2 ⟨512 + i.val, high_lt i⟩ j) := by pointwise
theorem shift_read : View.ld x9 (Rect.unit ![0, 0, 0, 0] ![1, 1, 1, 1024] inb_S1x1x8x1024_S1x1x1x1024_0_0_0_0) (ix4 0 0 0 j) = x9 (ix4 0 0 0 j) := by pointwise
theorem scale_read : View.ld x9 (Rect.unit ![0, 0, 1, 0] ![1, 1, 1, 1024] inb_S1x1x8x1024_S1x1x1x1024_0_0_1_0) (ix4 0 0 0 j) = x9 (ix4 0 0 1 j) := by pointwise

/-- All heads' attention of one row of the tile. -/
def tileAtt : Fin 1024 → EReal := fun i => if hh : i.val / 64 < 8 then x3 (ix4 0 ⟨i.val / 64, att_lt hh⟩ ⟨i.val % 64, att_in_lt i⟩ r)
  else x4 (ix4 0 ⟨i.val / 64 - 8, att_hi_lt i⟩ ⟨i.val % 64, att_in_lt i⟩ r)

/-- The output matrix in its two halves. -/
theorem halves : through (fun i => x3 (ix4 0 ⟨i.val / 64, head_lt i⟩ ⟨i.val % 64, within_lt i⟩ r))
        (fun i j => View.ld x5 (Rect.unit ![0, 0] ![512, 1024] inb_S1024x1024_S512x1024_0_0) (ix2 i j)) j
      + through (fun i => x4 (ix4 0 ⟨i.val / 64, head_lt i⟩ ⟨i.val % 64, within_lt i⟩ r))
        (fun i j => View.ld x5 (Rect.unit ![512, 0] ![512, 1024] inb_S1024x1024_S512x1024_512_0) (ix2 i j)) j
    = through (tileAtt r x3 x4) (fun i j => x5 (ix2 i j)) j := by
  unfold through
  refine Eq.trans ?_ (Fin.sum_univ_add (a := 512) (b := 512) (fun i : Fin (512 + 512) => tileAtt r x3 x4 i * x5 (ix2 i j))).symm
  refine congrArg₂ (· + ·) (Finset.sum_congr rfl fun i _ => ?_) (Finset.sum_congr rfl fun i _ => ?_)
  · have hi := i.isLt
    beta_reduce
    rw [low_read, tileAtt, dif_pos (show (Fin.castAdd 512 i).val / 64 < 8 by rw [Fin.val_castAdd]; omega)]
    rfl
  · have hi := i.isLt
    beta_reduce
    rw [high_read, tileAtt, dif_neg (show ¬ (Fin.natAdd 512 i).val / 64 < 8 by rw [Fin.val_natAdd]; omega)]
    refine congrArg₂ (· * ·) (congrArg x4 ?_) (congrArg x5 ?_)
    · funext a; fin_cases a
      · rfl
      · exact Fin.ext (by change i.val / 64 = (512 + i.val) / 64 - 8; omega)
      · exact Fin.ext (by change i.val % 64 = (512 + i.val) % 64; omega)
      · rfl
    · rfl

theorem tileRows_apply : tileRows i x0 x1 x2 x3 x4 x5 x6 x7 x8 (ix2 r j)
    = token (fun j => Scalar.select (Scalar.cmpi .eq (BitVec.ofNat 32 (i 1).val) 0#32) (x0 (ix3 0 r j)) (x1 (ix3 0 r j))) (tileAtt r x3 x4) (fun j => x2 (ix4 0 0 2 j))
      (fun j => x2 (ix4 0 0 3 j)) (fun j => x2 (ix4 0 0 4 j)) (fun j => x2 (ix4 0 0 5 j)) (fun j => x6 (ix2 0 j)) (fun i j => x5 (ix2 i j)) (fun i j => x7 (ix2 i j))
      (fun i j => x8 (ix2 i j)) j := by
  unfold tileRows
  simp only [rows_eq, last_apply, act_apply, gate_apply, norm_apply, table_apply, mid_apply, token, feed, halves]

theorem tileSecond_apply : tileSecond i x0 x1 x2 x3 x4 x5 x6 x7 x8 x9 x10 (ix2 r j)
    = normed (fun j => tileRows i x0 x1 x2 x3 x4 x5 x6 x7 x8 (ix2 r j)) (fun j => x10 (ix2 0 j)) (fun j => x9 (ix4 0 0 1 j)) (fun j => x9 (ix4 0 0 0 j)) j := by
  unfold tileSecond
  refine (second_apply r j _ _ _ _).trans ?_
  exact congrArg₂ (fun a b => normed (fun j => tileRows i x0 x1 x2 x3 x4 x5 x6 x7 x8 (ix2 r j)) (fun j => x10 (ix2 0 j)) a b j)
    (funext fun j => scale_read j x9) (funext fun j => shift_read j x9)

theorem tileWide_apply (k : Fin 2048) : tileWide i x0 x1 x2 x3 x4 x5 x6 x7 x8 x9 x10 x11 (ix2 r k)
    = through (fun j => tileSecond i x0 x1 x2 x3 x4 x5 x6 x7 x8 x9 x10 (ix2 r j)) (fun i j => x11 (ix2 i j)) k := wide_apply r _ _ _ _ _ k

end Tile

/-! The windows' block indices at a grid point. -/

theorem index0 : ∀ t : Fin cfg0.N, win0_0.index t = ![t.val / 33, 0, 0] := (by decide +kernel : ∀ t : Fin grid0.N, win0_0.index t = ![t.val / 33, 0, 0])
theorem index1 : ∀ t : Fin cfg0.N, win0_1.index t = ![t.val / 33, t.val % 33 - 1, 0] := (by decide +kernel : ∀ t : Fin grid0.N, win0_1.index t = ![t.val / 33, t.val % 33 - 1, 0])
theorem index2 : ∀ t : Fin cfg0.N, win0_2.index t = ![t.val / 33, min (t.val % 33) 1, 0, 0] := (by decide +kernel : ∀ t : Fin grid0.N, win0_2.index t = ![t.val / 33, min (t.val % 33) 1, 0, 0])
theorem index3 : ∀ t : Fin cfg0.N, win0_3.index t = ![t.val / 33, 0, 0, t.val % 33] := (by decide +kernel : ∀ t : Fin grid0.N, win0_3.index t = ![t.val / 33, 0, 0, t.val % 33])
theorem index4 : ∀ t : Fin cfg0.N, win0_4.index t = ![t.val / 33, 0, 0, t.val % 33] := (by decide +kernel : ∀ t : Fin grid0.N, win0_4.index t = ![t.val / 33, 0, 0, t.val % 33])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![t.val / 33, min (t.val % 33) 1, 0, 0] := (by decide +kernel : ∀ t : Fin grid0.N, win0_9.index t = ![t.val / 33, min (t.val % 33) 1, 0, 0])
theorem index10 : ∀ t : Fin cfg0.N, win0_10.index t = ![0, 0] := (by decide +kernel : ∀ t : Fin grid0.N, win0_10.index t = ![0, 0])
theorem index11 : ∀ t : Fin cfg0.N, win0_11.index t = ![0, 0] := (by decide +kernel : ∀ t : Fin grid0.N, win0_11.index t = ![0, 0])
theorem index12 : ∀ t : Fin cfg0.N, win0_12.index t = ![0, 0] := (by decide +kernel : ∀ t : Fin grid0.N, win0_12.index t = ![0, 0])
theorem index13 : ∀ t : Fin cfg0.N, win0_13.index t = ![0, 0] := (by decide +kernel : ∀ t : Fin grid0.N, win0_13.index t = ![0, 0])
theorem index14 : ∀ t : Fin cfg0.N, win0_14.index t = ![t.val % 33, 0] := (by decide +kernel : ∀ t : Fin grid0.N, win0_14.index t = ![t.val % 33, 0])
theorem index15 : ∀ t : Fin cfg0.N, win0_15.index t = ![t.val % 33, 0] := (by decide +kernel : ∀ t : Fin grid0.N, win0_15.index t = ![t.val % 33, 0])
theorem index16 : ∀ t : Fin cfg0.N, win0_16.index t = ![0, 0] := (by decide +kernel : ∀ t : Fin grid0.N, win0_16.index t = ![0, 0])
theorem index17 : ∀ t : Fin cfg0.N, win0_17.index t = ![t.val / 33, t.val % 33, 0] := (by decide +kernel : ∀ t : Fin grid0.N, win0_17.index t = ![t.val / 33, t.val % 33, 0])
theorem index18 : ∀ t : Fin cfg0.N, win0_18.index t = ![t.val / 33, t.val % 33, 0] := (by decide +kernel : ∀ t : Fin grid0.N, win0_18.index t = ![t.val / 33, t.val % 33, 0])
theorem index19 : ∀ t : Fin cfg0.N, win0_19.index t = ![t.val / 33, 0, t.val % 33, 0] := (by decide +kernel : ∀ t : Fin grid0.N, win0_19.index t = ![t.val / 33, 0, t.val % 33, 0])
theorem index20 : ∀ t : Fin cfg0.N, win0_20.index t = ![t.val / 33, 0, 0, t.val % 33] := (by decide +kernel : ∀ t : Fin grid0.N, win0_20.index t = ![t.val / 33, 0, 0, t.val % 33])
theorem coord1 : ∀ t : Fin cfg0.N, ((grid0.coords t) 1).val = t.val % 33 := (by decide +kernel : ∀ t : Fin grid0.N, ((grid0.coords t) 1).val = t.val % 33)

variable (m : (ℓ : Loc nD τ sig) → Buf (Elt Ideal) ℓ) (c : Dev nD)

theorem batch_lt {t : ℕ} (ht : t < 132) : t / 33 < 4 := by omega
theorem row_lt (t : ℕ) (r : Fin 256) : t % 33 * 256 + r.val < 8448 := by have := r.isLt; omega
theorem lat_lt (t : ℕ) (r : Fin 256) : (t % 33 - 1) * 256 + r.val < 8192 := by have := r.isLt; omega
theorem seg_lt (t : ℕ) : min (t % 33) 1 < 2 := by omega

theorem blk0 (t : Fin cfg0.N) (ht : t.val < 132) : iblk m c 0 t (ix3 0 r j) = m ((c.tc : Thread nD τ).loc main_arg0) (ix3 ⟨t.val / 33, batch_lt ht⟩ r j) := by
  blk_simp [iblk]
  rw [V_main_arg0]
  congr 1
  blk_ext [index0]

theorem blk1 (t : Fin cfg0.N) (ht : t.val < 132) : iblk m c 1 t (ix3 0 r j) = m ((c.tc : Thread nD τ).loc main_arg1) (ix3 ⟨t.val / 33, batch_lt ht⟩ ⟨(t.val % 33 - 1) * 256 + r.val, lat_lt t.val r⟩ j) := by
  blk_simp [iblk]
  rw [V_main_arg1]
  congr 1
  blk_ext [index1]

theorem blk2 (t : Fin cfg0.N) (ht : t.val < 132) (i : Fin 8) : iblk m c 2 t (ix4 0 0 i j) = m ((c.tc : Thread nD τ).loc main_arg2) (ix4 ⟨t.val / 33, batch_lt ht⟩ ⟨min (t.val % 33) 1, seg_lt t.val⟩ i j) := by
  blk_simp [iblk]
  rw [V_main_arg2]
  congr 1
  blk_ext [index2]

theorem blk3 (t : Fin cfg0.N) (ht : t.val < 132) (h : Fin 8) (e : Fin 64) : iblk m c 3 t (ix4 0 h e r) = m ((c.tc : Thread nD τ).loc main_arg3) (ix4 ⟨t.val / 33, batch_lt ht⟩ h e ⟨t.val % 33 * 256 + r.val, row_lt t.val r⟩) := by
  blk_simp [iblk]
  rw [V_main_arg3]
  congr 1
  blk_ext [index3]

theorem blk4 (t : Fin cfg0.N) (ht : t.val < 132) (h : Fin 8) (e : Fin 64) : iblk m c 4 t (ix4 0 h e r) = m ((c.tc : Thread nD τ).loc main_arg4) (ix4 ⟨t.val / 33, batch_lt ht⟩ h e ⟨t.val % 33 * 256 + r.val, row_lt t.val r⟩) := by
  blk_simp [iblk]
  rw [V_main_arg4]
  congr 1
  blk_ext [index4]

theorem blk5 (t : Fin cfg0.N) (ht : t.val < 132) (i : Fin 1024) : iblk m c 5 t (ix2 i j) = m ((c.tc : Thread nD τ).loc main_arg5) (ix2 i j) := by
  blk_simp [iblk]
  rw [V_main_arg5]
  congr 1
  blk_ext [index5]

theorem blk6 (t : Fin cfg0.N) (ht : t.val < 132) : iblk m c 6 t (ix2 0 j) = m ((c.tc : Thread nD τ).loc main_arg6) (ix2 0 j) := by
  blk_simp [iblk]
  rw [V_main_arg6]
  congr 1
  blk_ext [index6]

theorem blk7 (t : Fin cfg0.N) (ht : t.val < 132) (i : Fin 1024) (k : Fin 5632) : iblk m c 7 t (ix2 i k) = m ((c.tc : Thread nD τ).loc main_arg7) (ix2 i k) := by
  blk_simp [iblk]
  rw [V_main_arg7]
  congr 1
  blk_ext [index7]

theorem blk8 (t : Fin cfg0.N) (ht : t.val < 132) (i : Fin 2816) : iblk m c 8 t (ix2 i j) = m ((c.tc : Thread nD τ).loc main_arg8) (ix2 i j) := by
  blk_simp [iblk]
  rw [V_main_arg8]
  congr 1
  blk_ext [index8]

theorem blk9 (t : Fin cfg0.N) (ht : t.val < 132) (i : Fin 8) : iblk m c 9 t (ix4 0 0 i j) = m ((c.tc : Thread nD τ).loc main_arg9) (ix4 ⟨t.val / 33, batch_lt ht⟩ ⟨min (t.val % 33) 1, seg_lt t.val⟩ i j) := by
  blk_simp [iblk]
  rw [V_main_arg9]
  congr 1
  blk_ext [index9]

theorem blk10 (t : Fin cfg0.N) (ht : t.val < 132) : iblk m c 10 t (ix2 0 j) = m ((c.tc : Thread nD τ).loc main_arg10) (ix2 0 j) := by
  blk_simp [iblk]
  rw [V_main_arg10]
  congr 1
  blk_ext [index10]

theorem blk11 (t : Fin cfg0.N) (ht : t.val < 132) (i : Fin 1024) (k : Fin 2048) : iblk m c 11 t (ix2 i k) = m ((c.tc : Thread nD τ).loc main_arg11) (ix2 i k) := by
  blk_simp [iblk]
  rw [V_main_arg11]
  congr 1
  blk_ext [index11]

theorem blk12 (t : Fin cfg0.N) (ht : t.val < 132) (i : Fin 1024) : iblk m c 12 t (ix2 i j) = m ((c.tc : Thread nD τ).loc main_arg12) (ix2 i j) := by
  blk_simp [iblk]
  rw [V_main_arg12]
  congr 1
  blk_ext [index12]

theorem blk13 (t : Fin cfg0.N) (ht : t.val < 132) (k : Fin 2048) : iblk m c 13 t (ix2 0 k) = m ((c.tc : Thread nD τ).loc main_arg13) (ix2 0 k) := by
  blk_simp [iblk]
  rw [V_main_arg13]
  congr 1
  blk_ext [index13]

theorem blk14 (t : Fin cfg0.N) (ht : t.val < 132) (l : Fin 128) : iblk m c 14 t (ix2 r l) = m ((c.tc : Thread nD τ).loc main_arg14) (ix2 ⟨t.val % 33 * 256 + r.val, row_lt t.val r⟩ l) := by
  blk_simp [iblk]
  rw [V_main_arg14]
  congr 1
  blk_ext [index14]

theorem blk15 (t : Fin cfg0.N) (ht : t.val < 132) (l : Fin 128) : iblk m c 15 t (ix2 r l) = m ((c.tc : Thread nD τ).loc main_arg15) (ix2 ⟨t.val % 33 * 256 + r.val, row_lt t.val r⟩ l) := by
  blk_simp [iblk]
  rw [V_main_arg15]
  congr 1
  blk_ext [index15]

/-! The matrix of ones, computed before the kernel. -/

def onesMatrix : FVec Ideal S256x256 .bf16 :=
  truncf .bf16 (shapeCast S256x256 (mulf (broadcastInDim S4x64x4x64 ![0, 1, 2, 3] bcast_S4x1x4x1_S4x64x4x64_0_1_2_3 (broadcastInDim S4x1x4x1 ![0, 2] bcast_S4x4_S4x1x4x1_0_2
      (uitofp (F := Ideal) .f32 (cmpi .eq (addi (iotaInDim S4x4 32 0) (broadcastInDim S4x4 ![] bcast_S_S4x4 (constantI S_ 32 0#32))) (iotaInDim S4x4 32 1)))))
    (broadcastInDim S4x64x4x64 ![0, 1, 2, 3] bcast_S1x64x1x64_S4x64x4x64_0_1_2_3 (broadcastInDim S1x64x1x64 ![1, 3] bcast_S64x64_S1x64x1x64_1_3
      (broadcastInDim S64x64 ![] bcast_S_S64x64 (constant (F := Ideal) S_ .f32 0x3F800000#32))))) shapeCasts_S4x64x4x64_S256x256) bitsLt_bf16_f32

theorem V_ones : V m c main_v8 = onesMatrix := by
  change StableHlo.after _ _ (Proc.devRef .tc main_v8) = _
  simp only [hostOps0, hostOps0_1, hostOps0_2, List.flatten_cons, List.flatten_nil, List.append_nil, List.cons_append, List.nil_append]
  after_results_simp
  rfl

theorem matrix_raw (u l : Fin 256) : onesMatrix (ix2 u l)
    = FloatOps.uitofp (F := Ideal) .f32 (IntOp.cmpi .eq (IntOp.addi (BitVec.ofNat 32 (u.val / 64)) 0#32) (BitVec.ofNat 32 (l.val / 64))) := by
  pointwise [onesMatrix]

theorem same_bit : ∀ a b : Fin 4, IntOp.cmpi .eq (IntOp.addi (BitVec.ofNat 32 a.val) 0#32) (BitVec.ofNat 32 b.val) = if a.val = b.val then 1#1 else 0#1 := by decide +kernel

theorem group_lt (u : Fin 256) : u.val / 64 < 4 := by have := u.isLt; omega

theorem matrix_apply (u l : Fin 256) : onesMatrix (ix2 u l) = if u.val / 64 = l.val / 64 then 1 else 0 := by
  rw [matrix_raw]
  rw [same_bit ⟨u.val / 64, group_lt u⟩ ⟨l.val / 64, group_lt l⟩]
  by_cases h : u.val / 64 = l.val / 64
  · rw [if_pos h, if_pos h]
    change (((1#1 : BitVec 1).toNat : ℝ) : EReal) = 1
    norm_num
  · rw [if_neg h, if_neg h]
    change (((0#1 : BitVec 1).toNat : ℝ) : EReal) = 0
    norm_num

theorem blk16 (t : Fin cfg0.N) : Indicates (iblk m c 16 t) := fun u l => by
  refine Eq.trans ?_ (matrix_apply u l)
  blk_simp [iblk]
  rw [V_ones]
  congr 1
  blk_ext [index16]

/-! A tile's rows are the rows of the whole. -/

theorem pick : ∀ n : Fin 33, Scalar.cmpi .eq (BitVec.ofNat 32 n.val) 0#32 = if n.val = 0 then 1#1 else 0#1 := by decide +kernel

theorem tile_lt (t : ℕ) : t % 33 < 33 := Nat.mod_lt _ (by omega)

theorem stream_row (t : Fin cfg0.N) (x y : EReal) : Scalar.select (Scalar.cmpi .eq (BitVec.ofNat 32 ((grid0.coords t) 1).val) 0#32) x y = if t.val % 33 = 0 then x else y := by
  rw [coord1, pick ⟨t.val % 33, tile_lt t.val⟩]
  by_cases h : t.val % 33 = 0
  · rw [if_pos h, if_pos h]; exact if_pos (show (1#1 : BitVec 1) = 1 from rfl)
  · rw [if_neg h, if_neg h]; exact if_neg (show ¬ (0#1 : BitVec 1) = 1 by decide)

/-- A token's row of the stream, from the kernel's arguments. -/
def streamK (b : Fin 4) (n : Fin 8448) : Fin 1024 → EReal := Cert.InprojRef.streamRow b n (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- The same row after the next layer's first norm. -/
def secondK (b : Fin 4) (n : Fin 8448) : Fin 1024 → EReal := Cert.InprojRef.secondRow b n (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- Its queries and keys, turned. -/
def turnedK (b : Fin 4) (n : Fin 8448) : Fin 2048 → EReal := Cert.InprojRef.turnedRow b n (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg13)) (m ((c.tc : Thread nD τ).loc main_arg14)) (m ((c.tc : Thread nD τ).loc main_arg15))

section At

variable (t : Fin cfg0.N) (ht : t.val < 132)

theorem seg_row : (⟨min (t.val % 33) 1, seg_lt t.val⟩ : Fin 2) = Cert.InprojRef.seg ⟨t.val % 33 * 256 + r.val, row_lt t.val r⟩ := by
  have hr := r.isLt
  unfold Cert.InprojRef.seg
  by_cases h : t.val % 33 = 0
  · rw [if_pos (show t.val % 33 * 256 + r.val < 256 by omega)]; exact Fin.ext (by change min _ _ = 0; omega)
  · rw [if_neg (show ¬ t.val % 33 * 256 + r.val < 256 by omega)]; exact Fin.ext (by change min _ _ = 1; omega)

include ht in
theorem token_row : (if t.val % 33 = 0 then iblk m c 0 t (ix3 0 r j) else iblk m c 1 t (ix3 0 r j))
    = Cert.InprojRef.tokenRow ⟨t.val / 33, batch_lt ht⟩ ⟨t.val % 33 * 256 + r.val, row_lt t.val r⟩ (m ((c.tc : Thread nD τ).loc main_arg0)) (m ((c.tc : Thread nD τ).loc main_arg1)) j := by
  have hr := r.isLt
  unfold Cert.InprojRef.tokenRow
  by_cases h : t.val % 33 = 0
  · rw [if_pos h, dif_pos (show t.val % 33 * 256 + r.val < 256 by omega), blk0 r j m c t ht]
    refine congrArg (m ((c.tc : Thread nD τ).loc main_arg0)) (congrArg (fun n => ix3 _ n j) (Fin.ext ?_))
    change r.val = t.val % 33 * 256 + r.val
    omega
  · rw [if_neg h, dif_neg (show ¬ t.val % 33 * 256 + r.val < 256 by omega), blk1 r j m c t ht]
    refine congrArg (m ((c.tc : Thread nD τ).loc main_arg1)) (congrArg (fun n => ix3 _ n j) (Fin.ext ?_))
    change (t.val % 33 - 1) * 256 + r.val = t.val % 33 * 256 + r.val - 256
    omega

include ht in
theorem att_row (i : Fin 1024) : tileAtt r (iblk m c 3 t) (iblk m c 4 t) i
    = Cert.InprojRef.attRow ⟨t.val / 33, batch_lt ht⟩ ⟨t.val % 33 * 256 + r.val, row_lt t.val r⟩ (m ((c.tc : Thread nD τ).loc main_arg3)) (m ((c.tc : Thread nD τ).loc main_arg4)) i := by
  unfold tileAtt Cert.InprojRef.attRow
  by_cases h : i.val / 64 < 8
  · rw [dif_pos h, dif_pos h]; exact blk3 r m c t ht _ _
  · rw [dif_neg h, dif_neg h]; exact blk4 r m c t ht _ _

include ht in
theorem mod_row (i : Fin 8) : iblk m c 2 t (ix4 0 0 i j)
    = (m ((c.tc : Thread nD τ).loc main_arg2)) (ix4 ⟨t.val / 33, batch_lt ht⟩ (Cert.InprojRef.seg ⟨t.val % 33 * 256 + r.val, row_lt t.val r⟩) i j) := by
  rw [← seg_row r t]; exact blk2 j m c t ht i

include ht in
theorem mod1_row (i : Fin 8) : iblk m c 9 t (ix4 0 0 i j)
    = (m ((c.tc : Thread nD τ).loc main_arg9)) (ix4 ⟨t.val / 33, batch_lt ht⟩ (Cert.InprojRef.seg ⟨t.val % 33 * 256 + r.val, row_lt t.val r⟩) i j) := by
  rw [← seg_row r t]; exact blk9 j m c t ht i

theorem streamAt : tileRows (grid0.coords t) (iblk m c 0 t) (iblk m c 1 t) (iblk m c 2 t) (iblk m c 3 t) (iblk m c 4 t) (iblk m c 5 t) (iblk m c 6 t) (iblk m c 7 t) (iblk m c 8 t) (ix2 r j)
    = streamK m c ⟨t.val / 33, batch_lt ht⟩ ⟨t.val % 33 * 256 + r.val, row_lt t.val r⟩ j := by
  refine (tileRows_apply r j (grid0.coords t) (iblk m c 0 t) (iblk m c 1 t) (iblk m c 2 t) (iblk m c 3 t) (iblk m c 4 t) (iblk m c 5 t) (iblk m c 6 t) (iblk m c 7 t) (iblk m c 8 t)).trans ?_
  refine congrFun (token_congr (fun j => (stream_row t _ _).trans (token_row r j m c t ht)) (att_row r m c t ht) (fun j => mod_row r j m c t ht 2) (fun j => mod_row r j m c t ht 3)
    (fun j => mod_row r j m c t ht 4) (fun j => mod_row r j m c t ht 5) (fun j => blk6 j m c t ht) (fun i j => blk5 j m c t ht i) (fun i k => blk7 m c t ht i k) (fun i j => blk8 j m c t ht i)) j

theorem normed_congr {x x' nw nw' sc sc' sh sh' : Fin 1024 → EReal} (hx : ∀ j, x j = x' j) (hn : ∀ j, nw j = nw' j) (hc : ∀ j, sc j = sc' j) (hs : ∀ j, sh j = sh' j) :
    normed x nw sc sh = normed x' nw' sc' sh' := by rw [funext hx, funext hn, funext hc, funext hs]

theorem through_congr {n k : ℕ} {x x' : Fin n → EReal} {w w' : Fin n → Fin k → EReal} (hx : ∀ i, x i = x' i) (hw : ∀ i j, w i j = w' i j) : through x w = through x' w' := by
  rw [funext hx, funext fun i => funext (hw i)]

theorem turned_congr {y y' g g' : Fin 2048 → EReal} {p p' q q' : Fin 128 → EReal} (hy : ∀ k, y k = y' k) (hg : ∀ k, g k = g' k) (hp : ∀ l, p l = p' l) (hq : ∀ l, q l = q' l) :
    turned y g p q = turned y' g' p' q' := by rw [funext hy, funext hg, funext hp, funext hq]

theorem secondAt : tileSecond (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = secondK m c ⟨t.val / 33, batch_lt ht⟩ ⟨t.val % 33 * 256 + r.val, row_lt t.val r⟩ j := by
  refine (tileSecond_apply r j (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)).trans ?_
  exact congrFun (normed_congr (fun j => streamAt r j m c t ht) (fun j => blk10 j m c t ht) (fun j => mod1_row r j m c t ht 1) (fun j => mod1_row r j m c t ht 0)) j

theorem turnedAt (k : Fin 2048) : turned (fun k => tileWide (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r k)) (fun k => iblk m c 13 t (ix2 0 k)) (fun l => iblk m c 14 t (ix2 r l))
      (fun l => iblk m c 15 t (ix2 r l)) k
    = turnedK m c ⟨t.val / 33, batch_lt ht⟩ ⟨t.val % 33 * 256 + r.val, row_lt t.val r⟩ k := by
  refine congrFun (turned_congr (fun k => ?_) (fun k => blk13 m c t ht k) (fun l => blk14 r m c t ht l) (fun l => blk15 r m c t ht l)) k
  refine (tileWide_apply r (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) k).trans ?_
  exact congrFun (through_congr (fun j => secondAt r j m c t ht) (fun i k => blk11 m c t ht i k)) k

theorem valueAt_row (w : Vec Ideal S1024x1024 .bf16) (h : Vec Ideal S256x1024 .bf16) (x : Fin 1024 → EReal) (y : Fin 1024 → EReal) (k : Fin 1024) (hw : ∀ i, w (ix2 k i) = y i)
    (hh : ∀ i, h (ix2 r i) = x i) : valueAt w h r k = ∑ i : Fin 1024, x i * y i := by
  unfold valueAt
  exact Finset.sum_congr rfl fun i _ => by rw [hw, hh, mul_comm]

end At

/-! The four result arrays. -/

def result17 : FVec Ideal S4x8448x1024 .f32 := fun i => streamK m c (i 0) (i 1) (i 2)

def result18 : FVec Ideal S4x8448x1024 .bf16 := fun i => turnedK m c (i 0) (i 1) ⟨(i 2).val, query_lt (i 2)⟩ * Ideal.ofBits .f32 0x3E38AA3B#32

def result19 : FVec Ideal S4x8x8448x128 .bf16 := fun i => turnedK m c (i 0) (i 2) ⟨1024 + ((i 1).val * 128 + (i 3).val), key_lt (i 1) (i 3)⟩

def result20 : FVec Ideal S4x8x144x8448 .bf16 := fun i =>
  if hu : (i 2).val < 128 then ∑ k : Fin 1024, secondK m c (i 0) (i 3) k * (m ((c.tc : Thread nD τ).loc main_arg12)) (ix2 ⟨(i 1).val * 128 + (i 2).val, value_lt (i 1) ⟨(i 2).val, hu⟩⟩ k)
  else if (i 2).val = 128 then 1 else 0

theorem result20_at (b : Fin 4) (hv : Fin 8) (u : Fin 144) (n : Fin 8448) : result20 m c (ix4 b hv u n)
    = if hu : u.val < 128 then ∑ k : Fin 1024, secondK m c b n k * (m ((c.tc : Thread nD τ).loc main_arg12)) (ix2 ⟨hv.val * 128 + u.val, value_lt hv ⟨u.val, hu⟩⟩ k)
      else if u.val = 128 then 1 else 0 := rfl

theorem final17 : (dats m 0 c).arrAt 17 cfg0.N = result17 m c := by
  refine (dats m 0 c).arrAt_eq_of_covers 17 _ (by decide +kernel) fun t hf y => ?_
  have ht : t.val < 132 := lt_of_lt_of_eq t.isLt N_0
  blk_simp
  rw [after0_17]
  obtain ⟨r, j, rfl⟩ : ∃ (r : Fin 256) (j : Fin 1024), y = ix3 0 r j := ⟨y 1, y 2, by
    funext a; fin_cases a
    · exact Fin.ext (by have := (y 0).isLt; change _ < 1 at this; change (y 0).val = 0; omega)
    all_goals rfl⟩
  refine ((out17 m c r j t).trans (streamAt r j m c t ht)).trans ?_
  change result17 m c (ix3 ⟨t.val / 33, batch_lt ht⟩ ⟨t.val % 33 * 256 + r.val, row_lt t.val r⟩ j) = _
  congr 1
  blk_ext [index17]

theorem final18 : (dats m 0 c).arrAt 18 cfg0.N = result18 m c := by
  refine (dats m 0 c).arrAt_eq_of_covers 18 _ (by decide +kernel) fun t hf y => ?_
  have ht : t.val < 132 := lt_of_lt_of_eq t.isLt N_0
  blk_simp
  rw [after0_18]
  obtain ⟨r, j, rfl⟩ : ∃ (r : Fin 256) (j : Fin 1024), y = ix3 0 r j := ⟨y 1, y 2, by
    funext a; fin_cases a
    · exact Fin.ext (by have := (y 0).isLt; change _ < 1 at this; change (y 0).val = 0; omega)
    all_goals rfl⟩
  refine ((out18 m c r j t (blk16 m c t)).trans (congrArg (· * Ideal.ofBits .f32 0x3E38AA3B#32) (turnedAt r m c t ht _))).trans ?_
  change result18 m c (ix3 ⟨t.val / 33, batch_lt ht⟩ ⟨t.val % 33 * 256 + r.val, row_lt t.val r⟩ j) = _
  congr 1
  blk_ext [index18]

theorem final19 : (dats m 0 c).arrAt 19 cfg0.N = result19 m c := by
  refine (dats m 0 c).arrAt_eq_of_covers 19 _ (by decide +kernel) fun t hf y => ?_
  have ht : t.val < 132 := lt_of_lt_of_eq t.isLt N_0
  blk_simp
  rw [after0_19]
  obtain ⟨hv, r, l, rfl⟩ : ∃ (hv : Fin 8) (r : Fin 256) (l : Fin 128), y = ix4 0 hv r l := ⟨y 1, y 2, y 3, by
    funext a; fin_cases a
    · exact Fin.ext (by have := (y 0).isLt; change _ < 1 at this; change (y 0).val = 0; omega)
    all_goals rfl⟩
  refine ((out19 m c r t hv l (blk16 m c t)).trans (turnedAt r m c t ht _)).trans ?_
  change result19 m c (ix4 ⟨t.val / 33, batch_lt ht⟩ hv ⟨t.val % 33 * 256 + r.val, row_lt t.val r⟩ l) = _
  congr 1
  blk_ext [index19]

theorem final20 : (dats m 0 c).arrAt 20 cfg0.N = result20 m c := by
  refine (dats m 0 c).arrAt_eq_of_covers 20 _ (by decide +kernel) fun t hf y => ?_
  have ht : t.val < 132 := lt_of_lt_of_eq t.isLt N_0
  blk_simp
  rw [after0_20]
  obtain ⟨hv, u, r, rfl⟩ : ∃ (hv : Fin 8) (u : Fin 144) (r : Fin 256), y = ix4 0 hv u r := ⟨y 1, y 2, y 3, by
    funext a; fin_cases a
    · exact Fin.ext (by have := (y 0).isLt; change _ < 1 at this; change (y 0).val = 0; omega)
    all_goals rfl⟩
  refine (out20 m c r t hv u).trans ?_
  trans result20 m c (ix4 ⟨t.val / 33, batch_lt ht⟩ hv u ⟨t.val % 33 * 256 + r.val, row_lt t.val r⟩)
  · rw [result20_at]
    by_cases hu : u.val < 128
    · rw [dif_pos hu, dif_pos hu]
      exact valueAt_row r _ _ _ _ _ (fun i => blk12 i m c t ht _) (fun i => secondAt r i m c t ht)
    · rw [dif_neg hu, dif_neg hu]
  congr 1
  blk_ext [index20]

end Cert.Kernel3Ideal.Hand

end
-- ==== Proof.InprojAgree.lean ====
/- The third call's four results agree over the reals. -/
module

public import proofs.«01_k».proof.Proof.InprojK

@[expose] public section

set_option maxRecDepth 16384

noncomputable section

namespace Cert.InprojAgree

open Idealize.ShloMosaic Idealize.ShloMosaic.Tactic Idealize.ShloMosaic.TcCoe Idealize.SL.Sem
open Cert.InprojRef

variable (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7))
    (h8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8))
    (h9 : m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9))
    (h10 : m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10))
    (h11 : m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11))
    (h12 : m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12))
    (h13 : m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13))
    (h14 : m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14))
    (h15 : m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15))

include h0 h1 h2 h3 h4 h5 h6 h7 h8 in
theorem stream_agree : Cert.Reference3Ideal.Value.res_main_v71 (StableHlo.launchContents m' c) = (Cert.Kernel3Ideal.Gen.dats m 0 c).arrAt 17 Cert.Kernel3Ideal.cfg0.N := by
  rw [Cert.Kernel3Ideal.Hand.final17, stream_eq]
  change stream (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) = _
  rw [h0, h1, h2, h3, h4, h5, h6, h7, h8]
  funext i
  obtain ⟨b, n, j, rfl⟩ : ∃ (b : Fin 4) (n : Fin 8448) (j : Fin 1024), i = ix3 b n j := ⟨i 0, i 1, i 2, by funext a; fin_cases a <;> rfl⟩
  exact stream_apply (b := b) (n := n) (j := j) ..

include h0 h1 h2 h3 h4 h5 h6 h7 h8 h9 h10 h11 h13 h14 h15 in
theorem query_agree : asQueries (turn (Cert.Reference3Ideal.Value.res_main_v125 (StableHlo.launchContents m' c)) ((StableHlo.launchContents m' c) (Proc.devRef .tc Cert.Reference3Ideal.main_arg14)) ((StableHlo.launchContents m' c) (Proc.devRef .tc Cert.Reference3Ideal.main_arg15))) = (Cert.Kernel3Ideal.Gen.dats m 0 c).arrAt 18 Cert.Kernel3Ideal.cfg0.N := by
  rw [Cert.Kernel3Ideal.Hand.final18, query_eq]
  change q (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg13)) (m' ((c.tc : Thread Cert.Reference3Ideal.nD Cert.Reference3Ideal.τ).loc Cert.Reference3Ideal.main_arg14)) (m' ((c.tc : Thread Cert.Reference3Ideal.nD Cert.Reference3Ideal.τ).loc Cert.Reference3Ideal.main_arg15)) = _
  rw [h0, h1, h2, h3, h4, h5, h6, h7, h8, h9, h10, h11, h13, h14, h15]
  funext i
  obtain ⟨b, n, j, rfl⟩ : ∃ (b : Fin 4) (n : Fin 8448) (j : Fin 1024), i = ix3 b n j := ⟨i 0, i 1, i 2, by funext a; fin_cases a <;> rfl⟩
  exact q_apply (b := b) (n := n) (j := j) ..

include h0 h1 h2 h3 h4 h5 h6 h7 h8 h9 h10 h11 h13 h14 h15 in
theorem key_agree : asKeys (turn (Cert.Reference3Ideal.Value.res_main_v156 (StableHlo.launchContents m' c)) ((StableHlo.launchContents m' c) (Proc.devRef .tc Cert.Reference3Ideal.main_arg14)) ((StableHlo.launchContents m' c) (Proc.devRef .tc Cert.Reference3Ideal.main_arg15))) = (Cert.Kernel3Ideal.Gen.dats m 0 c).arrAt 19 Cert.Kernel3Ideal.cfg0.N := by
  rw [Cert.Kernel3Ideal.Hand.final19, key_eq]
  change k (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg13)) (m' ((c.tc : Thread Cert.Reference3Ideal.nD Cert.Reference3Ideal.τ).loc Cert.Reference3Ideal.main_arg14)) (m' ((c.tc : Thread Cert.Reference3Ideal.nD Cert.Reference3Ideal.τ).loc Cert.Reference3Ideal.main_arg15)) = _
  rw [h0, h1, h2, h3, h4, h5, h6, h7, h8, h9, h10, h11, h13, h14, h15]
  funext i
  obtain ⟨b, h, n, l, rfl⟩ : ∃ (b : Fin 4) (h : Fin 8) (n : Fin 8448) (l : Fin 128), i = ix4 b h n l := ⟨i 0, i 1, i 2, i 3, by funext a; fin_cases a <;> rfl⟩
  exact k_apply (b := b) (n := n) (h := h) (l := l) ..

include h0 h1 h2 h3 h4 h5 h6 h7 h8 h9 h10 h12 in
theorem value_agree : asValues (values (Cert.Reference3Ideal.Value.res_main_v106 (StableHlo.launchContents m' c)) ((StableHlo.launchContents m' c) (Proc.devRef .tc Cert.Reference3Ideal.main_arg12))) = (Cert.Kernel3Ideal.Gen.dats m 0 c).arrAt 20 Cert.Kernel3Ideal.cfg0.N := by
  rw [Cert.Kernel3Ideal.Hand.final20, second_eq]
  change v (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg12)) = _
  rw [h0, h1, h2, h3, h4, h5, h6, h7, h8, h9, h10, h12]
  funext i
  obtain ⟨b, h, u, n, rfl⟩ : ∃ (b : Fin 4) (h : Fin 8) (u : Fin 144) (n : Fin 8448), i = ix4 b h u n := ⟨i 0, i 1, i 2, i 3, by funext a; fin_cases a <;> rfl⟩
  exact v_apply (b := b) (n := n) (h := h) (u := u) ..

end Cert.InprojAgree

end
-- ==== Proof.ModAgree.lean ====
/- The modulation, as the kernel and as the reference compute it over the reals. -/
module

public import proofs.«01_k».proof.Proof.Gen.Kernel4Ideal.Value
public import proofs.«01_k».proof.Proof.Gen.Reference4Ideal.Run
public import proofs.«01_k».proof.Proof.Block
public import Idealize.ShloMosaic.Lib.Pipeline.ValueKit.Tiles
public import Idealize.ShloMosaic.Lib.Pipeline.ValueKit.Geometry

@[expose] public section

set_option maxRecDepth 16384

noncomputable section

namespace Cert.Modulation

open Idealize.ShloMosaic Idealize.ShloMosaic.Tactic Idealize.ShloMosaic.TcCoe Idealize.SL.Sem

/-- One number through silu. -/
def silu (x : EReal) : EReal := Ideal.div x (Ideal.ofBits .f32 0x3F800000#32 + Ideal.exp (-x))

/-- One entry of the modulation: a conditioning row through silu, then through a layer's matrix, plus its bias. -/
def entry (cc : FVec Ideal Cert.Kernel4Ideal.S8x1024 .f32) (w : FVec Ideal Cert.Kernel4Ideal.S2x1024x6144 .f32) (b : FVec Ideal Cert.Kernel4Ideal.S2x6144 .f32)
    (l : Fin 2) (r : Fin 8) (j : Fin 6144) : EReal := (∑ i : Fin 1024, silu (cc (ix2 r i)) * w (ix3 l i j)) + b (ix2 l j)

end Cert.Modulation

namespace Cert.Kernel4Ideal.Hand

open Idealize.ShloMosaic Idealize.ShloMosaic.Tactic Idealize.ShloMosaic.TcCoe Idealize.SL.Sem Cert.Kernel4Ideal.Gen
open Cert.Modulation

theorem zero2 : (![0, 0] : Fin 2 → ℕ) = fun _ => 0 := by funext a; fin_cases a <;> rfl
theorem zero3 : (![0, 0, 0] : Fin 3 → ℕ) = fun _ => 0 := by funext a; fin_cases a <;> rfl

theorem pay_apply (cc : Vec Ideal S8x1024 .f32) (w : Vec Ideal S1x1024x1536 .f32) (b : Vec Ideal S1x1x1536 .f32) (r : Fin 8) (j : Fin 1536) :
    k0_pay1 cc w b (ix3 0 r j) = (∑ i : Fin 1024, silu (cc (ix2 r i)) * w (ix3 0 i j)) + b (ix3 0 0 j) := by
  unfold silu
  simp only [← zero_sub, ← Ideal.ofBits_zero_f32]
  pointwise [k0_pay1]

theorem out_apply (cc : Vec Ideal S8x1024 .f32) (w : Vec Ideal S1x1024x1536 .f32) (b : Vec Ideal S1x1x1536 .f32) (r : Fin 8) (j : Fin 1536) :
    out0_3 cc w b (ix3 0 r j) = (∑ i : Fin 1024, silu (cc (ix2 r i)) * w (ix3 0 i j)) + b (ix3 0 0 j) := by
  refine Eq.trans ?_ (pay_apply cc w b r j)
  unfold out0_3
  rw [View.canon_unit_zero zero3, View.ld_unit_zero zero2, View.ld_unit_zero zero3, View.ld_unit_zero zero3]

theorem index0 : ∀ t : Fin cfg0.N, win0_0.index t = ![0, 0] := (by decide +kernel : ∀ t : Fin grid0.N, win0_0.index t = ![0, 0])
theorem index1 : ∀ t : Fin cfg0.N, win0_1.index t = ![t.val / 4, 0, t.val % 4] := (by decide +kernel : ∀ t : Fin grid0.N, win0_1.index t = ![t.val / 4, 0, t.val % 4])
theorem index2 : ∀ t : Fin cfg0.N, win0_2.index t = ![t.val / 4, 0, t.val % 4] := (by decide +kernel : ∀ t : Fin grid0.N, win0_2.index t = ![t.val / 4, 0, t.val % 4])
theorem index3 : ∀ t : Fin cfg0.N, win0_3.index t = ![t.val / 4, 0, t.val % 4] := (by decide +kernel : ∀ t : Fin grid0.N, win0_3.index t = ![t.val / 4, 0, t.val % 4])

variable (m : (ℓ : Loc nD τ sig) → Buf (Elt Ideal) ℓ) (c : Dev nD) (r : Fin 8) (j : Fin 1536)

theorem layer_lt {t : ℕ} (ht : t < 8) : t / 4 < 2 := by omega
theorem col_lt (t : ℕ) (j : Fin 1536) : t % 4 * 1536 + j.val < 6144 := by have := j.isLt; omega

theorem blk0 (t : Fin cfg0.N) (i : Fin 1024) : iblk m c 0 t (ix2 r i) = m ((c.tc : Thread nD τ).loc main_arg0) (ix2 r i) := by
  blk_simp [iblk]
  rw [V_main_arg0]
  congr 1
  blk_ext [index0]

theorem blk1 (t : Fin cfg0.N) (ht : t.val < 8) (i : Fin 1024) : iblk m c 1 t (ix3 0 i j)
    = m ((c.tc : Thread nD τ).loc main_arg1) (ix3 ⟨t.val / 4, layer_lt ht⟩ i ⟨t.val % 4 * 1536 + j.val, col_lt t.val j⟩) := by
  blk_simp [iblk]
  rw [V_main_arg1]
  congr 1
  blk_ext [index1]

theorem V_bias : V m c main_v0 = shapeCast S2x1x6144 (m ((c.tc : Thread nD τ).loc main_arg2)) shapeCasts_S2x6144_S2x1x6144 := by
  change StableHlo.after _ _ (Proc.devRef .tc main_v0) = _
  simp only [hostOps0]
  after_results_simp
  rfl

theorem bias_apply (b : FVec Ideal S2x6144 .f32) (l : Fin 2) (k : Fin 6144) : shapeCast S2x1x6144 b shapeCasts_S2x6144_S2x1x6144 (ix3 l 0 k) = b (ix2 l k) := by pointwise

theorem blk2 (t : Fin cfg0.N) (ht : t.val < 8) : iblk m c 2 t (ix3 0 0 j)
    = m ((c.tc : Thread nD τ).loc main_arg2) (ix2 ⟨t.val / 4, layer_lt ht⟩ ⟨t.val % 4 * 1536 + j.val, col_lt t.val j⟩) := by
  refine Eq.trans ?_ (bias_apply _ _ _)
  blk_simp [iblk]
  rw [V_bias]
  congr 1
  blk_ext [index2]

def result : FVec Ideal S2x8x6144 .f32 := fun i =>
  entry (m ((c.tc : Thread nD τ).loc main_arg0)) (m ((c.tc : Thread nD τ).loc main_arg1)) (m ((c.tc : Thread nD τ).loc main_arg2)) (i 0) (i 1) (i 2)

theorem entry_congr {cc cc' : Fin 1024 → EReal} {w w' : Fin 1024 → EReal} {b b' : EReal} (h0 : ∀ i, cc i = cc' i) (h1 : ∀ i, w i = w' i) (h2 : b = b') :
    (∑ i : Fin 1024, silu (cc i) * w i) + b = (∑ i : Fin 1024, silu (cc' i) * w' i) + b' := by
  rw [funext h0, funext h1, h2]

theorem final : (dats m 0 c).arrAt 3 cfg0.N = result m c := by
  refine (dats m 0 c).arrAt_eq_of_covers 3 _ (by decide +kernel) fun t hf y => ?_
  have ht : t.val < 8 := lt_of_lt_of_eq t.isLt N_0
  blk_simp
  rw [after0_3]
  obtain ⟨r, j, rfl⟩ : ∃ (r : Fin 8) (j : Fin 1536), y = ix3 0 r j := ⟨y 1, y 2, by
    funext a; fin_cases a
    · exact Fin.ext (by have := (y 0).isLt; change _ < 1 at this; change (y 0).val = 0; omega)
    all_goals rfl⟩
  refine ((out_apply _ _ _ r j).trans (entry_congr (fun i => blk0 m c r t i) (fun i => blk1 m c j t ht i) (blk2 m c j t ht))).trans ?_
  change result m c (ix3 ⟨t.val / 4, layer_lt ht⟩ r ⟨t.val % 4 * 1536 + j.val, col_lt t.val j⟩) = _
  congr 1
  blk_ext [index3]

end Cert.Kernel4Ideal.Hand

namespace Cert.Modulation

open Cert.Reference4Ideal Cert.Reference4Ideal.Gen Idealize.ShloMosaic Idealize.ShloMosaic.Tactic Idealize.ShloMosaic.TcCoe Idealize.SL.Sem

/-- The reference's modulation. -/
def whole (cc : FVec Ideal S8x1024 .f32) (w : FVec Ideal S2x1024x6144 .f32) (b : FVec Ideal S2x6144 .f32) : FVec Ideal S2x8x6144 .f32 :=
  addf (transpose S2x8x6144 [0, 2, 1] (Host.dotGeneral dot_S2x1024x6144_S8x1024_S2x6144x8_1_1_02_0_n_n none w (mulf cc (Host.divf (broadcastInDim S8x1024 ![] bcast_S_S8x1024 (constant (F := Ideal) S_ .f32 0x3F800000#32))
      (addf (broadcastInDim S8x1024 ![] bcast_S_S8x1024 (constant S_ .f32 0x3F800000#32)) (Host.exp (Host.negf cc)))))) transposes_S2x6144x8_S2x8x6144_0_2_1)
    (broadcastInDim S2x8x6144 ![0, 1, 2] bcast_S2x1x6144_S2x8x6144_0_1_2 (broadcastInDim S2x1x6144 ![0, 2] bcast_S2x6144_S2x1x6144_0_2 b))

theorem whole_raw (cc : FVec Ideal S8x1024 .f32) (w : FVec Ideal S2x1024x6144 .f32) (b : FVec Ideal S2x6144 .f32) (l : Fin 2) (r : Fin 8) (j : Fin 6144) :
    whole cc w b (ix3 l r j) = (∑ i : Fin 1024, w (ix3 l i j) * (cc (ix2 r i) * Ideal.div (Ideal.ofBits .f32 0x3F800000#32) (Ideal.ofBits .f32 0x3F800000#32 + Ideal.exp (-cc (ix2 r i))))) + b (ix2 l j) := by
  pointwise [whole]

theorem whole_apply (cc : FVec Ideal S8x1024 .f32) (w : FVec Ideal S2x1024x6144 .f32) (b : FVec Ideal S2x6144 .f32) (l : Fin 2) (r : Fin 8) (j : Fin 6144) :
    whole cc w b (ix3 l r j) = entry cc w b l r j := by
  rw [whole_raw]
  unfold entry silu
  refine congrArg (· + b (ix2 l j)) (Finset.sum_congr rfl fun i _ => ?_)
  rw [Cert.Block.div_sigmoid, mul_comm]

theorem results_agree (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) :
    whole (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2))
      = (Cert.Kernel4Ideal.Gen.dats m 0 c).arrAt 3 Cert.Kernel4Ideal.cfg0.N := by
  rw [Cert.Kernel4Ideal.Hand.final, h0, h1, h2]
  funext i
  obtain ⟨l, r, j, rfl⟩ : ∃ (l : Fin 2) (r : Fin 8) (j : Fin 6144), i = ix3 l r j := ⟨i 0, i 1, i 2, by funext a; fin_cases a <;> rfl⟩
  exact whole_apply _ _ _ l r j

end Cert.Modulation

end
-- ==== Proof.EvenRef.lean ====
/- The fifth reference's results read at one element. -/
module

public import proofs.«01_k».proof.Proof.InprojRef
public import proofs.«01_k».proof.Proof.Gen.Reference5Ideal.Run

@[expose] public section

set_option maxRecDepth 16384

noncomputable section

namespace Cert.EvenRef

open Cert.Reference5Ideal Cert.Reference5Ideal.Gen Idealize.ShloMosaic Idealize.ShloMosaic.TcCoe Idealize.SL.Sem
open Cert.Block Cert.Heads

/-! The stages that differ from those of the third reference: 1280 columns, two pairs of heads of keys, four of values. -/

/-- A row of 1280 columns within one of 2048. -/
def pad (y : Fin 1280 → EReal) : Fin 2048 → EReal := fun k => if h : k.val < 1280 then y ⟨k.val, h⟩ else 0

theorem pad_at (y : Fin 1280 → EReal) (k : Fin 2048) (h : k.val < 1280) : pad y k = y ⟨k.val, h⟩ := dif_pos h

/-- The queries and keys before their norm. -/
def both (h : FVec Ideal S4x8448x1024 .f32) (w : FVec Ideal S1024x1280 .bf16) : FVec Ideal S4x8448x1280 .f32 :=
  Host.dotGeneral dot_S4x8448x1024_S1024x1280_S4x8448x1280_2_0_01_1_n_n none h (extf .f32 w bitsLt_bf16_f32)

def queries (y : FVec Ideal S4x8448x1280 .f32) : FVec Ideal S4x8448x8x2x64 .f32 :=
  shapeCast _ (extractStridedSlice S4x8448x1024 ![0, 0, 0] y slices_S4x8448x1280_S4x8448x1024_0_0_0) shapeCasts_S4x8448x1024_S4x8448x8x2x64
def keys (y : FVec Ideal S4x8448x1280 .f32) : FVec Ideal S4x8448x2x2x64 .f32 :=
  shapeCast _ (extractStridedSlice S4x8448x256 ![0, 0, 1024] y slices_S4x8448x1280_S4x8448x256_0_0_1024) shapeCasts_S4x8448x256_S4x8448x2x2x64
def queryGain (g : FVec Ideal S1x1280 .f32) : FVec Ideal S8x2x64 .f32 :=
  shapeCast _ (extractStridedSlice S1x1024 ![0, 0] g slices_S1x1280_S1x1024_0_0) shapeCasts_S1x1024_S8x2x64
def keyGain (g : FVec Ideal S1x1280 .f32) : FVec Ideal S2x2x64 .f32 :=
  shapeCast _ (extractStridedSlice S1x256 ![0, 1024] g slices_S1x1280_S1x256_0_1024) shapeCasts_S1x256_S2x2x64

/-- The norm over the last axis, with its gain. -/
def headNorm (z : FVec Ideal S4x8448x2x2x64 .f32) (g : FVec Ideal S2x2x64 .f32) : FVec Ideal S4x8448x2x2x64 .f32 :=
  mulf (mulf z (broadcastInDim S4x8448x2x2x64 ![0, 1, 2, 3, 4] bcast_S4x8448x2x2x1_S4x8448x2x2x64_0_1_2_3_4 (Host.rsqrt (addf (Host.divf
      (broadcastInDim S4x8448x2x2x1 ![0, 1, 2, 3] bcast_S4x8448x2x2_S4x8448x2x2x1_0_1_2_3 (Host.reduceAdd (mulf z z) (constant S_ .f32 0x00000000#32) reducesTo_S4x8448x2x2x64_S4x8448x2x2_d4 h_S_))
      (broadcastInDim S4x8448x2x2x1 ![] bcast_S_S4x8448x2x2x1 (constant S_ .f32 0x42800000#32))) (broadcastInDim S4x8448x2x2x1 ![] bcast_S_S4x8448x2x2x1 (constant S_ .f32 0x358637BD#32))))))
    (broadcastInDim S4x8448x2x2x64 ![0, 1, 2, 3, 4] bcast_S1x1x2x2x64_S4x8448x2x2x64_0_1_2_3_4 (broadcastInDim S1x1x2x2x64 ![2, 3, 4] bcast_S2x2x64_S1x1x2x2x64_2_3_4 g))

def angles (a : FVec Ideal S8448x128 .f32) : FVec Ideal S4x8448x2x2x64 .f32 :=
  broadcastInDim S4x8448x2x2x64 ![0, 1, 2, 3, 4] bcast_S1x8448x1x2x64_S4x8448x2x2x64_0_1_2_3_4
    (broadcastInDim S1x8448x1x2x64 ![1, 2, 3, 4] bcast_S8448x1x2x64_S1x8448x1x2x64_1_2_3_4 (shapeCast _ a shapeCasts_S8448x128_S8448x1x2x64))

/-- The two halves of the last axis changed over. -/
def swap (z : FVec Ideal S4x8448x2x2x64 .f32) : FVec Ideal S4x8448x2x2x64 .f32 :=
  concatenate S4x8448x2x2x64 4 [⟨S4x8448x2x2x32, (extractStridedSlice S4x8448x2x2x32 ![0, 0, 0, 0, 32] z slices_S4x8448x2x2x64_S4x8448x2x2x32_0_0_0_0_32)⟩,
    ⟨S4x8448x2x2x32, (extractStridedSlice S4x8448x2x2x32 ![0, 0, 0, 0, 0] z slices_S4x8448x2x2x64_S4x8448x2x2x32_0_0_0_0_0)⟩] concatenates_S4x8448x2x2x32_S4x8448x2x2x32_S4x8448x2x2x64_d4

def turn (z : FVec Ideal S4x8448x2x2x64 .f32) (cos sin : FVec Ideal S8448x128 .f32) : FVec Ideal S4x8448x2x2x64 .f32 :=
  addf (mulf z (angles cos)) (mulf (swap z) (angles sin))

def asKeys (z : FVec Ideal S4x8448x2x2x64 .f32) : FVec Ideal S4x4x8448x64 .bf16 :=
  truncf .bf16 (transpose S4x4x8448x64 [0, 2, 1, 3] (shapeCast _ z shapeCasts_S4x8448x2x2x64_S4x8448x4x64) transposes_S4x8448x4x64_S4x4x8448x64_0_2_1_3) bitsLt_bf16_f32

def values (h : FVec Ideal S4x8448x1024 .f32) (w : FVec Ideal S256x1024 .bf16) : FVec Ideal S4x4x64x8448 .f32 :=
  shapeCast _ (transpose S4x256x8448 [0, 2, 1] (Host.dotGeneral dot_S4x8448x1024_S256x1024_S4x8448x256_2_1_01_0_n_n none h (extf .f32 w bitsLt_bf16_f32))
    transposes_S4x8448x256_S4x256x8448_0_2_1) shapeCasts_S4x256x8448_S4x4x64x8448

/-- The values with a row of ones and fifteen of zeros below each head. -/
def asValues (v : FVec Ideal S4x4x64x8448 .f32) : FVec Ideal S4x4x80x8448 .bf16 :=
  truncf .bf16 (concatenate S4x4x80x8448 2 [⟨S4x4x64x8448, v⟩, ⟨S4x4x1x8448, (broadcastInDim S4x4x1x8448 ![] bcast_S_S4x4x1x8448 (constant (F := Ideal) S_ .f32 0x3F800000#32))⟩,
    ⟨S4x4x15x8448, (broadcastInDim S4x4x15x8448 ![] bcast_S_S4x4x15x8448 (constant (F := Ideal) S_ .f32 0x00000000#32))⟩] concatenates_S4x4x64x8448_S4x4x1x8448_S4x4x15x8448_S4x4x80x8448_d2 :
      FVec Ideal S4x4x80x8448 .f32) bitsLt_bf16_f32

/-! These read at one element. -/

variable (b : Fin 4) (n : Fin 8448)

theorem both_apply (h : FVec Ideal S4x8448x1024 .f32) (w : FVec Ideal S1024x1280 .bf16) (k : Fin 1280) :
    both h w (ix3 b n k) = through (fun j => h (ix3 b n j)) (fun i j => w (ix2 i j)) k := by
  unfold through
  pointwise [both]

theorem flat_lt (h : Fin 8) (e : Fin 2) (d : Fin 64) : h.val * 128 + e.val * 64 + d.val < 1280 := by have := h.isLt; have := e.isLt; have := d.isLt; omega
theorem flatk_lt (h : Fin 2) (e : Fin 2) (d : Fin 64) : 1024 + (h.val * 128 + e.val * 64 + d.val) < 1280 := by have := h.isLt; have := e.isLt; have := d.isLt; omega
theorem wide_lt (h : Fin 2) (e : Fin 2) (d : Fin 64) : 1024 + (h.val * 128 + e.val * 64 + d.val) < 2048 := by have := h.isLt; have := e.isLt; have := d.isLt; omega
theorem lane_lt (e : Fin 2) (d : Fin 64) : e.val * 64 + d.val < 128 := by have := e.isLt; have := d.isLt; omega

theorem queries_apply (h : Fin 8) (e : Fin 2) (d : Fin 64) (y : FVec Ideal S4x8448x1280 .f32) :
    queries y (ix5 b n h e d) = y (ix3 b n ⟨h.val * 128 + e.val * 64 + d.val, flat_lt h e d⟩) := by
  pointwise [queries]
theorem queryGain_apply (h : Fin 8) (e : Fin 2) (d : Fin 64) (g : FVec Ideal S1x1280 .f32) :
    queryGain g (ix3 h e d) = g (ix2 0 ⟨h.val * 128 + e.val * 64 + d.val, flat_lt h e d⟩) := by
  pointwise [queryGain]

/-- The array's rows, each within 2048 columns. -/
def padded (y : FVec Ideal S4x8448x1280 .f32) : FVec Ideal Cert.Reference3Ideal.S4x8448x2048 .f32 := fun i => pad (fun k => y (ix3 (i 0) (i 1) k)) (i 2)
def paddedGain (g : FVec Ideal S1x1280 .f32) : FVec Ideal Cert.Reference3Ideal.S1x2048 .f32 := fun i => pad (fun k => g (ix2 (i 0) k)) (i 1)

theorem padded_at (y : FVec Ideal S4x8448x1280 .f32) (k : Fin 2048) : padded y (ix3 b n k) = pad (fun k => y (ix3 b n k)) k := rfl
theorem paddedGain_at (g : FVec Ideal S1x1280 .f32) (k : Fin 2048) : paddedGain g (ix2 0 k) = pad (fun k => g (ix2 0 k)) k := rfl

theorem queries_eq (y : FVec Ideal S4x8448x1280 .f32) : queries y = Cert.InprojRef.queries (padded y) := by
  funext i
  obtain ⟨b, n, h, e, d, rfl⟩ : ∃ (b : Fin 4) (n : Fin 8448) (h : Fin 8) (e : Fin 2) (d : Fin 64), i = ix5 b n h e d :=
    ⟨i 0, i 1, i 2, i 3, i 4, by funext a; fin_cases a <;> rfl⟩
  refine (queries_apply b n h e d y).trans (Eq.trans ?_ (Cert.InprojRef.queries_apply b n h e d (padded y)).symm)
  exact (pad_at (fun k => y (ix3 b n k)) ⟨h.val * 128 + e.val * 64 + d.val, Cert.InprojRef.flat_lt h e d⟩ (flat_lt h e d)).symm

theorem queryGain_eq (g : FVec Ideal S1x1280 .f32) : queryGain g = Cert.InprojRef.queryGain (paddedGain g) := by
  funext i
  obtain ⟨h, e, d, rfl⟩ : ∃ (h : Fin 8) (e : Fin 2) (d : Fin 64), i = ix3 h e d := ⟨i 0, i 1, i 2, by funext a; fin_cases a <;> rfl⟩
  refine (queryGain_apply h e d g).trans (Eq.trans ?_ (Cert.InprojRef.queryGain_apply h e d (paddedGain g)).symm)
  exact (pad_at (fun k => g (ix2 0 k)) ⟨h.val * 128 + e.val * 64 + d.val, Cert.InprojRef.flat_lt h e d⟩ (flat_lt h e d)).symm

variable (h : Fin 2) (e : Fin 2) (d : Fin 64)

theorem keys_apply (y : FVec Ideal S4x8448x1280 .f32) : keys y (ix5 b n h e d) = y (ix3 b n ⟨1024 + (h.val * 128 + e.val * 64 + d.val), flatk_lt h e d⟩) := by
  pointwise [keys]
theorem keyGain_apply (g : FVec Ideal S1x1280 .f32) : keyGain g (ix3 h e d) = g (ix2 0 ⟨1024 + (h.val * 128 + e.val * 64 + d.val), flatk_lt h e d⟩) := by
  pointwise [keyGain]

theorem headNorm_apply (z : FVec Ideal S4x8448x2x2x64 .f32) (g : FVec Ideal S2x2x64 .f32) :
    headNorm z g (ix5 b n h e d) = z (ix5 b n h e d) * Ideal.rsqrt (Ideal.div (∑ κ : Fin 64, z (ix5 b n h e κ) * z (ix5 b n h e κ)) (Ideal.ofBits .f32 0x42800000#32)
      + Ideal.ofBits .f32 0x358637BD#32) * g (ix3 h e d) := by
  pointwise [headNorm]

theorem angles_apply (a : FVec Ideal S8448x128 .f32) : angles a (ix5 b n h e d) = a (ix2 n ⟨e.val * 64 + d.val, lane_lt e d⟩) := by
  pointwise [angles]

theorem next_lt {d : Fin 64} (hd : d.val < 32) : 32 + d.val < 64 := by omega
theorem prev_lt (d : Fin 64) : d.val - 32 < 64 := by have := d.isLt; omega

theorem swap_apply (z : FVec Ideal S4x8448x2x2x64 .f32) :
    swap z (ix5 b n h e d) = if hd : d.val < 32 then z (ix5 b n h e ⟨32 + d.val, next_lt hd⟩) else z (ix5 b n h e ⟨d.val - 32, prev_lt d⟩) := by
  pointwise [swap]

theorem turn_apply (z : FVec Ideal S4x8448x2x2x64 .f32) (cos sin : FVec Ideal S8448x128 .f32) :
    turn z cos sin (ix5 b n h e d) = z (ix5 b n h e d) * cos (ix2 n ⟨e.val * 64 + d.val, lane_lt e d⟩) + swap z (ix5 b n h e d) * sin (ix2 n ⟨e.val * 64 + d.val, lane_lt e d⟩) := by
  rw [← angles_apply b n h e d cos, ← angles_apply b n h e d sin]
  rfl

theorem group_flatk (κ : Fin 64) : group ⟨1024 + (h.val * 128 + e.val * 64 + d.val), wide_lt h e d⟩ κ = ⟨1024 + (h.val * 128 + e.val * 64 + κ.val), wide_lt h e κ⟩ := by
  apply Fin.ext; have := d.isLt; simp only [group]; omega

theorem pad_key (y : Fin 1280 → EReal) : pad y ⟨1024 + (h.val * 128 + e.val * 64 + d.val), wide_lt h e d⟩ = y ⟨1024 + (h.val * 128 + e.val * 64 + d.val), flatk_lt h e d⟩ :=
  pad_at y _ (flatk_lt h e d)

theorem key_head (y : FVec Ideal S4x8448x1280 .f32) (g : FVec Ideal S1x1280 .f32) :
    headNorm (keys y) (keyGain g) (ix5 b n h e d) = head (pad fun k => y (ix3 b n k)) (pad fun k => g (ix2 0 k)) ⟨1024 + (h.val * 128 + e.val * 64 + d.val), wide_lt h e d⟩ := by
  simp only [headNorm_apply, keys_apply, keyGain_apply, head, group_flatk, pad_key]

theorem key_turned (y : FVec Ideal S4x8448x1280 .f32) (g : FVec Ideal S1x1280 .f32) (cos sin : FVec Ideal S8448x128 .f32) :
    turn (headNorm (keys y) (keyGain g)) cos sin (ix5 b n h e d)
      = turned (pad fun k => y (ix3 b n k)) (pad fun k => g (ix2 0 k)) (fun l => cos (ix2 n l)) (fun l => sin (ix2 n l)) ⟨1024 + (h.val * 128 + e.val * 64 + d.val), wide_lt h e d⟩ := by
  have hd := d.isLt
  have he := e.isLt
  have hl : (⟨(1024 + (h.val * 128 + e.val * 64 + d.val)) % 128, Heads.lane_lt ⟨1024 + (h.val * 128 + e.val * 64 + d.val), wide_lt h e d⟩⟩ : Fin 128) = ⟨e.val * 64 + d.val, lane_lt e d⟩ := Fin.ext (by simp; omega)
  rw [turn_apply, swap_apply, key_head]
  unfold turned
  simp only [hl]
  congr 2
  by_cases h32 : d.val < 32
  · rw [dif_pos h32, key_head, partner, dif_pos (by simp; omega)]
    congr 1
    apply Fin.ext; simp; omega
  · rw [dif_neg h32, key_head, partner, dif_neg (by simp; omega)]
    congr 1
    apply Fin.ext; simp; omega

theorem head_hi_lt (h : Fin 4) : h.val / 2 < 2 := by have := h.isLt; omega
theorem head_lo_lt (h : Fin 4) : h.val % 2 < 2 := Nat.mod_lt _ (by omega)

theorem asKeys_apply (z : FVec Ideal S4x8448x2x2x64 .f32) (h : Fin 4) (l : Fin 64) :
    asKeys z (ix4 b h n l) = z (ix5 b n ⟨h.val / 2, head_hi_lt h⟩ ⟨h.val % 2, head_lo_lt h⟩ l) := by
  pointwise [asKeys]

theorem row_lt {u : Fin 80} (hu : u.val < 64) : u.val < 64 := hu

theorem asValues_read (v : FVec Ideal S4x4x64x8448 .f32) (h : Fin 4) (u : Fin 80) :
    asValues v (ix4 b h u n) = if hu : u.val < 64 then v (ix4 b h ⟨u.val, row_lt hu⟩ n) else if hu : u.val - 64 < 1 then 1 else 0 := by
  pointwise [asValues]

theorem asValues_apply (v : FVec Ideal S4x4x64x8448 .f32) (h : Fin 4) (u : Fin 80) :
    asValues v (ix4 b h u n) = if hu : u.val < 64 then v (ix4 b h ⟨u.val, row_lt hu⟩ n) else if u.val = 64 then 1 else 0 := by
  rw [asValues_read]
  by_cases hu : u.val < 64
  · rw [dif_pos hu, dif_pos hu]
  · rw [dif_neg hu, dif_neg hu]
    by_cases hv : u.val = 64
    · rw [dif_pos (by omega), if_pos hv]
    · rw [dif_neg (by omega), if_neg hv]

theorem value_lt (h : Fin 4) (e : Fin 64) : h.val * 64 + e.val < 256 := by have := h.isLt; have := e.isLt; omega

theorem values_apply (x : FVec Ideal S4x8448x1024 .f32) (w : FVec Ideal S256x1024 .bf16) (h : Fin 4) (e : Fin 64) :
    values x w (ix4 b h e n) = ∑ i : Fin 1024, x (ix3 b n i) * w (ix2 ⟨h.val * 64 + e.val, value_lt h e⟩ i) := by
  pointwise [values]

/-! The whole computation. -/

section Whole

variable (a0 : FVec Ideal Cert.Reference3Ideal.S4x256x1024 .f32) (a1 : FVec Ideal Cert.Reference3Ideal.S4x8192x1024 .f32) (a2 : FVec Ideal Cert.Reference3Ideal.S4x2x8x1024 .f32)
  (a3 : FVec Ideal Cert.Reference3Ideal.S1x1024 .f32) (a4 : FVec Ideal S1024x1280 .bf16) (a5 : FVec Ideal S256x1024 .bf16) (a6 : FVec Ideal S1x1280 .f32) (a7 a8 : FVec Ideal S8448x128 .f32)

def first : FVec Ideal S4x8448x1024 .f32 :=
  Cert.InprojRef.norm (Cert.InprojRef.chain a0 a1) a3 (Cert.InprojRef.row1 a2) (Cert.InprojRef.row0 a2)

def wide : FVec Ideal S4x8448x1280 .f32 := both (first a0 a1 a2 a3) a4

def q : FVec Ideal Cert.Reference3Ideal.S4x8448x1024 .bf16 :=
  Cert.InprojRef.asQueries (Cert.InprojRef.turn (Cert.InprojRef.headNorm (queries (wide a0 a1 a2 a3 a4)) (queryGain a6)) a7 a8)

def k : FVec Ideal S4x4x8448x64 .bf16 := asKeys (turn (headNorm (keys (wide a0 a1 a2 a3 a4)) (keyGain a6)) a7 a8)

def v : FVec Ideal S4x4x80x8448 .bf16 := asValues (values (first a0 a1 a2 a3) a5)

/-- A token's row after the norm. -/
def firstRow : Fin 1024 → EReal :=
  normed (Cert.InprojRef.tokenRow b n a0 a1) (fun j => a3 (ix2 0 j)) (fun j => a2 (ix4 b (Cert.InprojRef.seg n) 1 j)) (fun j => a2 (ix4 b (Cert.InprojRef.seg n) 0 j))

/-- Its queries and keys, turned. -/
def turnedRow : Fin 2048 → EReal :=
  turned (pad (through (firstRow b n a0 a1 a2 a3) (fun i j => a4 (ix2 i j)))) (pad fun k => a6 (ix2 0 k)) (fun l => a7 (ix2 n l)) (fun l => a8 (ix2 n l))

theorem first_apply (j : Fin 1024) : first a0 a1 a2 a3 (ix3 b n j) = firstRow b n a0 a1 a2 a3 j := by
  refine (Cert.InprojRef.norm_apply b n j _ _ _ _).trans ?_
  simp only [Cert.InprojRef.chain_apply, Cert.InprojRef.row0_apply, Cert.InprojRef.row1_apply]
  rfl

theorem wide_apply (k : Fin 1280) : wide a0 a1 a2 a3 a4 (ix3 b n k) = through (firstRow b n a0 a1 a2 a3) (fun i j => a4 (ix2 i j)) k := by
  simp only [wide, both_apply, first_apply]

theorem query_lt (j : Fin 1024) : j.val < 2048 := by have := j.isLt; omega
theorem key_lt (h : Fin 4) (l : Fin 64) : 1024 + (h.val * 64 + l.val) < 2048 := by have := h.isLt; have := l.isLt; omega

theorem q_apply (j : Fin 1024) : q a0 a1 a2 a3 a4 a6 a7 a8 (ix3 b n j)
    = turnedRow b n a0 a1 a2 a3 a4 a6 a7 a8 ⟨j.val, query_lt j⟩ * Ideal.ofBits .f32 0x3E38AA3B#32 := by
  unfold q turnedRow
  rw [queries_eq, queryGain_eq]
  refine (Cert.InprojRef.asQueries_apply b n j _).trans (congrArg (· * Ideal.ofBits .f32 0x3E38AA3B#32) ?_)
  refine (Cert.InprojRef.query_turned b n _ _ _ _ _ a7 a8).trans ?_
  simp only [padded_at, paddedGain_at, wide_apply]
  refine congrArg (turned _ _ _ _) (Fin.ext ?_)
  simp; omega

theorem k_apply (h : Fin 4) (l : Fin 64) : k a0 a1 a2 a3 a4 a6 a7 a8 (ix4 b h n l)
    = turnedRow b n a0 a1 a2 a3 a4 a6 a7 a8 ⟨1024 + (h.val * 64 + l.val), key_lt h l⟩ := by
  unfold k turnedRow
  rw [asKeys_apply, key_turned]
  simp only [wide_apply]
  congr 1
  apply Fin.ext; simp; omega

theorem v_apply (h : Fin 4) (u : Fin 80) : v a0 a1 a2 a3 a5 (ix4 b h u n)
    = if hu : u.val < 64 then ∑ i : Fin 1024, firstRow b n a0 a1 a2 a3 i * a5 (ix2 ⟨h.val * 64 + u.val, value_lt h ⟨u.val, hu⟩⟩ i)
      else if u.val = 64 then 1 else 0 := by
  unfold v
  rw [asValues_apply]
  simp only [values_apply, first_apply]

end Whole

/-! The run's results are these. -/

section Run

variable (m : (ℓ : Loc nD τ sig) → Buf (Elt Ideal) ℓ) (c : Dev nD)

theorem query_eq : Value.res_main_v108 m c = q (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg6)) (m ((c.tc : Thread nD τ).loc main_arg7))
    (m ((c.tc : Thread nD τ).loc main_arg8)) := rfl

theorem key_eq : Value.res_main_v109 m c = k (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg6)) (m ((c.tc : Thread nD τ).loc main_arg7))
    (m ((c.tc : Thread nD τ).loc main_arg8)) := rfl

end Run

end Cert.EvenRef

end
-- ==== Proof.EvenOut.lean ====
/- The fifth kernel's payloads and its output blocks of a grid point, read at one element, over the reals. -/
module

public import proofs.«01_k».proof.Proof.InprojTile
public import proofs.«01_k».proof.Proof.EvenRef
public import proofs.«01_k».proof.Proof.Gen.Kernel5Ideal.Value

@[expose] public section

set_option maxRecDepth 16384

noncomputable section

namespace Cert.Kernel5Ideal.Hand

open Idealize.ShloMosaic Idealize.ShloMosaic.Tactic Idealize.ShloMosaic.TcCoe Idealize.SL.Sem Cert.Kernel5Ideal.Gen
open Cert.Block Cert.Heads
open Cert.EvenRef (pad pad_at)
open Cert.Kernel3Ideal.Hand (unitTile halfOf turnTile qTile cut cut_apply chunk_lt pair_lt Indicates query_lt)

variable (r : Fin 256) (j : Fin 1024)

/-! The norm and the two projections. -/

theorem first_apply (i : grid0.Coords) (ctx x : Vec Ideal S1x256x1024 .f32) (nw : Vec Ideal S1x1024 .f32) (sh sc : Vec Ideal S1x1x1x1024 .f32) :
    k0_pay4 i ctx x nw sh sc (ix2 r j) = normed (fun j => Scalar.select (Scalar.cmpi .eq (BitVec.ofNat 32 (i 1).val) 0#32) (ctx (ix3 0 r j)) (x (ix3 0 r j))) (fun j => nw (ix2 0 j))
      (fun j => sc (ix4 0 0 0 j)) (fun j => sh (ix4 0 0 0 j)) j := by
  unfold normed
  pointwise [k0_pay4]

theorem wide_apply (i : grid0.Coords) (ctx x : Vec Ideal S1x256x1024 .f32) (nw : Vec Ideal S1x1024 .f32) (sh sc : Vec Ideal S1x1x1x1024 .f32) (w : Vec Ideal S1024x1280 .bf16) (k : Fin 1280) :
    k0_pay5 i ctx x nw sh sc w (ix2 r k) = through (fun j => k0_pay4 i ctx x nw sh sc (ix2 r j)) (fun i j => w (ix2 i j)) k := by
  unfold through
  unfold k0_pay5
  generalize k0_pay4 i ctx x nw sh sc = h
  pointwise

theorem value_apply (h : FVec Ideal S256x1024 .bf16) (w : Vec Ideal S256x1024 .bf16) (k : Fin 256) :
    k0_pay34 h w (ix2 k r) = ∑ i : Fin 1024, w (ix2 k i) * h (ix2 r i) := by
  pointwise [k0_pay34]

/-! The chunks of 256 columns are the first five of a tile of 2048. -/

/-- The tile's rows, each within 2048 columns. -/
def padTile (y : FVec Ideal S256x1280 .f32) : FVec Ideal Cert.Kernel3Ideal.S256x2048 .f32 := fun i => pad (fun k => y (ix2 (i 0) k)) (i 1)

theorem padTile_at (y : FVec Ideal S256x1280 .f32) (k : Fin 2048) : padTile y (ix2 r k) = pad (fun k => y (ix2 r k)) k := rfl

theorem narrow_lt (c : Fin 5) (l : Fin 256) : c.val * 256 + l.val < 1280 := by have := c.isLt; have := l.isLt; omega
theorem five_lt (c : Fin 5) : c.val < 8 := by have := c.isLt; omega

/-- Chunk `c` of the columns. -/
def chunk (c : Fin 5) (y : FVec Ideal S256x1280 .f32) : FVec Ideal S256x256 .f32 :=
  match c with
  | 0 => extractStridedSlice S256x256 ![0, 0] y slices_S256x1280_o0_0_S256x256
  | 1 => extractStridedSlice S256x256 ![0, 256] y slices_S256x1280_o0_256_S256x256
  | 2 => extractStridedSlice S256x256 ![0, 512] y slices_S256x1280_o0_512_S256x256
  | 3 => extractStridedSlice S256x256 ![0, 768] y slices_S256x1280_o0_768_S256x256
  | 4 => extractStridedSlice S256x256 ![0, 1024] y slices_S256x1280_o0_1024_S256x256

theorem chunk_apply (c : Fin 5) (y : FVec Ideal S256x1280 .f32) (l : Fin 256) : chunk c y (ix2 r l) = y (ix2 r ⟨c.val * 256 + l.val, narrow_lt c l⟩) := by
  fin_cases c <;> simp only [chunk] <;> pointwise

theorem chunk_eq (c : Fin 5) (y : FVec Ideal S256x1280 .f32) : chunk c y = cut ⟨c.val, five_lt c⟩ (padTile y) := by
  funext i
  obtain ⟨r, l, rfl⟩ : ∃ (r : Fin 256) (l : Fin 256), i = ix2 r l := ⟨i 0, i 1, by funext a; fin_cases a <;> rfl⟩
  refine (chunk_apply r c y l).trans (Eq.trans ?_ (cut_apply r ⟨c.val, five_lt c⟩ (padTile y) l).symm)
  exact (pad_at (fun k => y (ix2 r k)) ⟨c.val * 256 + l.val, chunk_lt ⟨c.val, five_lt c⟩ l⟩ (narrow_lt c l)).symm

/-- A head of the queries: one half of a chunk, normed, turned, scaled. -/
def qPiece (c : Fin 5) (h : Fin 2) (y : FVec Ideal S256x1280 .f32) (bd : Vec Ideal S256x256 .bf16) (g : Vec Ideal S1x256 .f32) (cos sin : Vec Ideal S256x128 .f32) : FVec Ideal S1x256x128 .bf16 :=
  shapeCast S1x256x128 (truncf .bf16 (mulf (turnTile (halfOf h (unitTile (chunk c y) bd g)) cos sin) (broadcast S256x128 (Scalar.ofBits .f32 0x3E38AA3B#32))) bitsLt_bf16_f32) shapeCasts_S256x128_S1x256x128

theorem qPiece_eq (c : Fin 5) (h : Fin 2) (y : FVec Ideal S256x1280 .f32) (bd : Vec Ideal S256x256 .bf16) (g : Vec Ideal S1x256 .f32) (cos sin : Vec Ideal S256x128 .f32) :
    qPiece c h y bd g cos sin = qTile ⟨c.val, five_lt c⟩ h (padTile y) bd g cos sin := by
  unfold qPiece
  rw [chunk_eq]
  rfl

def fourth (e : Fin 2) (z : FVec Ideal S256x128 .f32) : FVec Ideal S256x64 .f32 :=
  match e with
  | 0 => extractStridedSlice S256x64 ![0, 0] z slices_S256x128_o0_0_S256x64
  | 1 => extractStridedSlice S256x64 ![0, 64] z slices_S256x128_o0_64_S256x64

theorem fourth_lt (e : Fin 2) (l : Fin 64) : e.val * 64 + l.val < 128 := by have := e.isLt; have := l.isLt; omega

theorem fourth_apply (e : Fin 2) (z : FVec Ideal S256x128 .f32) (l : Fin 64) : fourth e z (ix2 r l) = z (ix2 r ⟨e.val * 64 + l.val, fourth_lt e l⟩) := by
  fin_cases e <;> simp only [fourth] <;> pointwise

/-- A head of the keys: a quarter of a chunk, normed and turned. -/
def kPiece (c : Fin 5) (h e : Fin 2) (y : FVec Ideal S256x1280 .f32) (bd : Vec Ideal S256x256 .bf16) (g : Vec Ideal S1x256 .f32) (cos sin : Vec Ideal S256x128 .f32) : FVec Ideal S1x1x256x64 .bf16 :=
  shapeCast S1x1x256x64 (truncf .bf16 (fourth e (turnTile (halfOf h (unitTile (chunk c y) bd g)) cos sin)) bitsLt_bf16_f32) shapeCasts_S256x64_S1x1x256x64

theorem k_read (c : Fin 5) (h e : Fin 2) (y : FVec Ideal S256x1280 .f32) (bd : Vec Ideal S256x256 .bf16) (g : Vec Ideal S1x256 .f32) (cos sin : Vec Ideal S256x128 .f32) (l : Fin 64) :
    kPiece c h e y bd g cos sin (ix4 0 0 r l) = turnTile (halfOf h (unitTile (chunk c y) bd g)) cos sin (ix2 r ⟨e.val * 64 + l.val, fourth_lt e l⟩) := by
  unfold kPiece
  rw [← fourth_apply r e (turnTile (halfOf h (unitTile (chunk c y) bd g)) cos sin) l]
  generalize fourth e _ = z
  pointwise

section Chunk

variable (c : Fin 5) (y : FVec Ideal S256x1280 .f32) {bd : Vec Ideal S256x256 .bf16} (hbd : Indicates bd) {g : Vec Ideal S1x256 .f32} {gain : Fin 1280 → EReal}
  (hg : ∀ l, g (ix2 0 l) = gain ⟨c.val * 256 + l.val, narrow_lt c l⟩) (cos sin : Vec Ideal S256x128 .f32)

include hg in
theorem gain_at (l : Fin 256) : g (ix2 0 l) = pad gain ⟨c.val * 256 + l.val, chunk_lt ⟨c.val, five_lt c⟩ l⟩ :=
  (hg l).trans (pad_at gain ⟨c.val * 256 + l.val, chunk_lt ⟨c.val, five_lt c⟩ l⟩ (narrow_lt c l)).symm

include hbd hg in
/-- A piece of the queries, where it lies. -/
theorem q_at (h : Fin 2) (off : ℕ) (ho : off = c.val * 256 + h.val * 128) :
    View.TileAt (Val := Elt Ideal) (S := S1x256x1024) (e := .bf16) (ix3 0 r j) ![0, 0, off] ![1, 256, 128] (qPiece c h y bd g cos sin)
      (turned (pad fun k => y (ix2 r k)) (pad gain) (fun l => cos (ix2 r l)) (fun l => sin (ix2 r l)) ⟨j.val, query_lt j⟩ * Ideal.ofBits .f32 0x3E38AA3B#32) := by
  rw [qPiece_eq]
  exact Cert.Kernel3Ideal.Hand.q_at r j ⟨c.val, five_lt c⟩ (padTile y) hbd (gain_at c hg) cos sin h off ho

theorem key_lt (h : Fin 4) (l : Fin 64) : 1024 + (h.val * 64 + l.val) < 2048 := by have := h.isLt; have := l.isLt; omega

include hbd hg in
/-- A piece of the keys, where it lies. -/
theorem k_at (h e : Fin 2) (hv : Fin 4) (l : Fin 64) (off : ℕ) (ho : 1024 + off * 64 = c.val * 256 + (h.val * 128 + e.val * 64)) :
    View.TileAt (Val := Elt Ideal) (S := S1x4x256x64) (e := .bf16) (ix4 0 hv r l) ![0, off, 0, 0] ![1, 1, 256, 64] (kPiece c h e y bd g cos sin)
      (turned (pad fun k => y (ix2 r k)) (pad gain) (fun l => cos (ix2 r l)) (fun l => sin (ix2 r l)) ⟨1024 + (hv.val * 64 + l.val), key_lt hv l⟩) := by
  intro x hx
  have h1 : hv.val = off + (x 1).val := hx 1
  have h2 : r.val = 0 + (x 2).val := hx 2
  have h3 : l.val = 0 + (x 3).val := hx 3
  have h1' : (x 1).val < 1 := (x 1).isLt
  have e4 : x = ix4 0 0 r l := by
    funext a; fin_cases a
    · exact Fin.ext (by have := (x 0).isLt; change _ < 1 at this; change (x 0).val = 0; omega)
    · exact Fin.ext (by change (x 1).val = 0; omega)
    · exact Fin.ext (by change (x 2).val = r.val; omega)
    · exact Fin.ext (by change (x 3).val = l.val; omega)
  subst e4
  refine (k_read r c h e y bd g cos sin l).trans ?_
  rw [chunk_eq]
  refine (Cert.Kernel3Ideal.Hand.turn_apply r ⟨c.val, five_lt c⟩ (padTile y) hbd (gain_at c hg) cos sin h ⟨e.val * 64 + l.val, fourth_lt e l⟩).trans ?_
  refine congrArg (turned _ _ _ _) (Fin.ext ?_)
  change c.val * 256 + (h.val * 128 + (e.val * 64 + l.val)) = 1024 + (hv.val * 64 + l.val)
  omega

end Chunk

/-! The values' pieces: a head's 64 rows, then a row of ones and fifteen of zeros. -/

def vPiece (h : Fin 4) (v : FVec Ideal S256x256 .bf16) : FVec Ideal S1x1x64x256 .bf16 :=
  match h with
  | 0 => shapeCast S1x1x64x256 (extractStridedSlice S64x256 ![0, 0] v slices_S256x256_o0_0_S64x256) shapeCasts_S64x256_S1x1x64x256
  | 1 => shapeCast S1x1x64x256 (extractStridedSlice S64x256 ![64, 0] v slices_S256x256_o64_0_S64x256) shapeCasts_S64x256_S1x1x64x256
  | 2 => shapeCast S1x1x64x256 (extractStridedSlice S64x256 ![128, 0] v slices_S256x256_o128_0_S64x256) shapeCasts_S64x256_S1x1x64x256
  | 3 => shapeCast S1x1x64x256 (extractStridedSlice S64x256 ![192, 0] v slices_S256x256_o192_0_S64x256) shapeCasts_S64x256_S1x1x64x256

theorem value_lt (h : Fin 4) (e : Fin 64) : h.val * 64 + e.val < 256 := by have := h.isLt; have := e.isLt; omega

theorem v_read (h : Fin 4) (v : FVec Ideal S256x256 .bf16) (e : Fin 64) : vPiece h v (ix4 0 0 e r) = v (ix2 ⟨h.val * 64 + e.val, value_lt h e⟩ r) := by
  fin_cases h <;> simp only [vPiece] <;> pointwise

/-- A piece of the values, where it lies. -/
theorem v_at (h hv : Fin 4) (v : FVec Ideal S256x256 .bf16) (u : Fin 80) (off : ℕ) (ho : off = h.val) (w : EReal)
    (hw : ∀ e : Fin 64, e.val = u.val → w = v (ix2 ⟨hv.val * 64 + e.val, value_lt hv e⟩ r)) :
    View.TileAt (Val := Elt Ideal) (S := S1x4x80x256) (e := .bf16) (ix4 0 hv u r) ![0, off, 0, 0] ![1, 1, 64, 256] (vPiece h v) w := by
  intro x hx
  have h1 : hv.val = off + (x 1).val := hx 1
  have h2 : u.val = 0 + (x 2).val := hx 2
  have h3 : r.val = 0 + (x 3).val := hx 3
  have h1' : (x 1).val < 1 := (x 1).isLt
  obtain ⟨e, he⟩ : ∃ e : Fin 64, e.val = (x 2).val := ⟨x 2, rfl⟩
  have ex : x = ix4 0 0 e r := by
    funext a; fin_cases a
    · exact Fin.ext (by have := (x 0).isLt; change _ < 1 at this; change (x 0).val = 0; omega)
    · exact Fin.ext (by change (x 1).val = 0; omega)
    · exact Fin.ext he.symm
    · exact Fin.ext (by change (x 3).val = r.val; omega)
  have hh : hv = h := Fin.ext (by omega)
  subst hh
  subst ex
  rw [hw e (by omega)]
  exact v_read r hv v e

/-- A piece of the rows below, where it lies. -/
theorem ones_at (h hv : Fin 4) (u : Fin 80) (off : ℕ) (ho : off = h.val) (w : EReal) (hw : 64 ≤ u.val → w = if u.val = 64 then 1 else 0) :
    View.TileAt (Val := Elt Ideal) (S := S1x4x80x256) (e := .bf16) (ix4 0 hv u r) ![0, off, 64, 0] ![1, 1, 16, 256]
      (shapeCast S1x1x16x256 (k0_pay35 (F := Ideal)) shapeCasts_S16x256_S1x1x16x256) w := by
  intro x hx
  have h1 : hv.val = off + (x 1).val := hx 1
  have h2 : u.val = 64 + (x 2).val := hx 2
  have h3 : r.val = 0 + (x 3).val := hx 3
  have h1' : (x 1).val < 1 := (x 1).isLt
  obtain ⟨e, he⟩ : ∃ e : Fin 16, e.val = (x 2).val := ⟨x 2, rfl⟩
  have ex : x = ix4 0 0 e r := by
    funext a; fin_cases a
    · exact Fin.ext (by have := (x 0).isLt; change _ < 1 at this; change (x 0).val = 0; omega)
    · exact Fin.ext (by change (x 1).val = 0; omega)
    · exact Fin.ext he.symm
    · exact Fin.ext (by change (x 3).val = r.val; omega)
  subst ex
  have hr : (shapeCast S1x1x16x256 (k0_pay35 (F := Ideal)) shapeCasts_S16x256_S1x1x16x256) (ix4 0 0 e r) = k0_pay35 (F := Ideal) (ix2 e r) := by
    generalize k0_pay35 (F := Ideal) = z
    pointwise
  have h35 : (k0_pay35 (F := Ideal)) (ix2 e r) = if e.val = 0 then 1 else 0 := Cert.Kernel3Ideal.Hand.ones_read r e
  rw [hw (by omega)]
  refine hr.trans (h35.trans ?_)
  by_cases hz : e.val = 0
  · rw [if_pos hz, if_pos (by omega)]
  · rw [if_neg hz, if_neg (by omega)]

/-! What a grid point computes from its blocks. -/

theorem zero2 : (![0, 0] : Fin 2 → ℕ) = fun _ => 0 := by funext a; fin_cases a <;> rfl
theorem zero3 : (![0, 0, 0] : Fin 3 → ℕ) = fun _ => 0 := by funext a; fin_cases a <;> rfl

section Loads

variable (x0 : Vec Ideal S1x256x1024 .f32) (x3 : Vec Ideal S1x1024 .f32) (x4 : Vec Ideal S1024x1280 .bf16) (x5 : Vec Ideal S256x1024 .bf16) (x7 : Vec Ideal S256x128 .f32)
  (x9 : Vec Ideal S256x256 .bf16)

theorem ld0 : View.ld x0 (Rect.unit ![0, 0, 0] ![1, 256, 1024] inb_S1x256x1024_S1x256x1024_0_0_0) = x0 := View.ld_unit_zero zero3 _ _
theorem ld3 : View.ld x3 (Rect.unit ![0, 0] ![1, 1024] inb_S1x1024_S1x1024_0_0) = x3 := View.ld_unit_zero zero2 _ _
theorem ld4 : View.ld x4 (Rect.unit ![0, 0] ![1024, 1280] inb_S1024x1280_S1024x1280_0_0) = x4 := View.ld_unit_zero zero2 _ _
theorem ld5 : View.ld x5 (Rect.unit ![0, 0] ![256, 1024] inb_S256x1024_S256x1024_0_0) = x5 := View.ld_unit_zero zero2 _ _
theorem ld7 : View.ld x7 (Rect.unit ![0, 0] ![256, 128] inb_S256x128_S256x128_0_0) = x7 := View.ld_unit_zero zero2 _ _
theorem ld9 : View.ld x9 (Rect.unit ![0, 0] ![256, 256] inb_S256x256_S256x256_0_0) = x9 := View.ld_unit_zero zero2 _ _

end Loads

section Tile

variable (i : grid0.Coords) (x0 x1 : Vec Ideal S1x256x1024 .f32) (x2 : Vec Ideal S1x1x8x1024 .f32) (x3 : Vec Ideal S1x1024 .f32) (x4 : Vec Ideal S1024x1280 .bf16)

def tileFirst : FVec Ideal S256x1024 .bf16 :=
  k0_pay4 i x0 x1 x3 (View.ld x2 (Rect.unit ![0, 0, 0, 0] ![1, 1, 1, 1024] inb_S1x1x8x1024_S1x1x1x1024_0_0_0_0))
    (View.ld x2 (Rect.unit ![0, 0, 1, 0] ![1, 1, 1, 1024] inb_S1x1x8x1024_S1x1x1x1024_0_0_1_0))

def tileWide : FVec Ideal S256x1280 .f32 :=
  k0_pay5 i x0 x1 x3 (View.ld x2 (Rect.unit ![0, 0, 0, 0] ![1, 1, 1, 1024] inb_S1x1x8x1024_S1x1x1x1024_0_0_0_0))
    (View.ld x2 (Rect.unit ![0, 0, 1, 0] ![1, 1, 1, 1024] inb_S1x1x8x1024_S1x1x1x1024_0_0_1_0)) x4

/-- One entry of the values: a row of the matrix against a row of the tile. -/
def valueAt (w : Vec Ideal S256x1024 .bf16) (h : FVec Ideal S256x1024 .bf16) (r : Fin 256) (k : Fin 256) : EReal := ∑ i : Fin 1024, w (ix2 k i) * h (ix2 r i)

theorem valueAt_eq (w : Vec Ideal S256x1024 .bf16) (h : FVec Ideal S256x1024 .bf16) (r : Fin 256) (k : Fin 256) : valueAt w h r k = k0_pay34 h w (ix2 k r) :=
  (value_apply r h w k).symm

end Tile

variable (m : (ℓ : Loc nD τ sig) → Buf (Elt Ideal) ℓ) (c : Dev nD)

theorem out10 (t : Fin cfg0.N) (hbd : Indicates (iblk m c 9 t)) : (outsAt0 m c t).1 (ix3 0 r j)
    = turned (pad fun k => tileWide (grid0.coords t) (iblk m c 0 t) (iblk m c 1 t) (iblk m c 2 t) (iblk m c 3 t) (iblk m c 4 t) (ix2 r k)) (pad fun k => iblk m c 6 t (ix2 0 k))
        (fun l => iblk m c 7 t (ix2 r l)) (fun l => iblk m c 8 t (ix2 r l)) ⟨j.val, query_lt j⟩ * Ideal.ofBits .f32 0x3E38AA3B#32 := by
  revert hbd
  unfold outsAt0
  dsimp only
  unfold out0_A_10
  rw [View.read_writes_eq_canon _ _ _ (fun y => by apply cover0_A_10)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  generalize iblk m c 0 t = x0
  generalize iblk m c 1 t = x1
  generalize iblk m c 2 t = x2
  generalize iblk m c 3 t = x3
  generalize iblk m c 4 t = x4
  generalize iblk m c 6 t = x6
  generalize iblk m c 7 t = x7
  generalize iblk m c 8 t = x8
  generalize iblk m c 9 t = x9
  intro hbd
  unfold tileWide
  rw [ld0, ld0, ld3, ld4, ld7, ld7, ld9]
  generalize k0_pay5 (F := Ideal) _ _ _ _ _ _ _ = y
  refine View.canon_eq_of_allAt _ _ _ (View.cover_of_tiled_head _ _ _ (by sl_kernel_rfl) _) ?_
  refine View.allAt_cons_unit _ _ _ _ _ (q_at r j 3 y hbd (by intro l; pointwise) x7 x8 1 896 rfl) ?_
  refine View.allAt_cons_unit _ _ _ _ _ (q_at r j 3 y hbd (by intro l; pointwise) x7 x8 0 768 rfl) ?_
  refine View.allAt_cons_unit _ _ _ _ _ (q_at r j 2 y hbd (by intro l; pointwise) x7 x8 1 640 rfl) ?_
  refine View.allAt_cons_unit _ _ _ _ _ (q_at r j 2 y hbd (by intro l; pointwise) x7 x8 0 512 rfl) ?_
  refine View.allAt_cons_unit _ _ _ _ _ (q_at r j 1 y hbd (by intro l; pointwise) x7 x8 1 384 rfl) ?_
  refine View.allAt_cons_unit _ _ _ _ _ (q_at r j 1 y hbd (by intro l; pointwise) x7 x8 0 256 rfl) ?_
  refine View.allAt_cons_unit _ _ _ _ _ (q_at r j 0 y hbd (by intro l; pointwise) x7 x8 1 128 rfl) ?_
  refine View.allAt_cons_unit _ _ _ _ _ (q_at r j 0 y hbd (by intro l; pointwise) x7 x8 0 0 rfl) ?_
  exact View.allAt_nil _ _

theorem out11 (t : Fin cfg0.N) (hv : Fin 4) (l : Fin 64) (hbd : Indicates (iblk m c 9 t)) : (outsAt0 m c t).2.1 (ix4 0 hv r l)
    = turned (pad fun k => tileWide (grid0.coords t) (iblk m c 0 t) (iblk m c 1 t) (iblk m c 2 t) (iblk m c 3 t) (iblk m c 4 t) (ix2 r k)) (pad fun k => iblk m c 6 t (ix2 0 k))
        (fun l => iblk m c 7 t (ix2 r l)) (fun l => iblk m c 8 t (ix2 r l)) ⟨1024 + (hv.val * 64 + l.val), key_lt hv l⟩ := by
  revert hbd
  unfold outsAt0
  dsimp only
  unfold out0_A_11
  rw [View.read_writes_eq_canon _ _ _ (fun y => by apply cover0_A_11)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  generalize iblk m c 0 t = x0
  generalize iblk m c 1 t = x1
  generalize iblk m c 2 t = x2
  generalize iblk m c 3 t = x3
  generalize iblk m c 4 t = x4
  generalize iblk m c 6 t = x6
  generalize iblk m c 7 t = x7
  generalize iblk m c 8 t = x8
  generalize iblk m c 9 t = x9
  intro hbd
  unfold tileWide
  rw [ld0, ld0, ld3, ld4, ld7, ld7, ld9]
  generalize k0_pay5 (F := Ideal) _ _ _ _ _ _ _ = y
  refine View.canon_eq_of_allAt _ _ _ (View.cover_of_tiled_head _ _ _ (by sl_kernel_rfl) _) ?_
  refine View.allAt_cons_unit _ _ _ _ _ (k_at r 4 y hbd (by intro l; pointwise) x7 x8 1 1 hv l 3 rfl) ?_
  refine View.allAt_cons_unit _ _ _ _ _ (k_at r 4 y hbd (by intro l; pointwise) x7 x8 1 0 hv l 2 rfl) ?_
  refine View.allAt_cons_unit _ _ _ _ _ (k_at r 4 y hbd (by intro l; pointwise) x7 x8 0 1 hv l 1 rfl) ?_
  refine View.allAt_cons_unit _ _ _ _ _ (k_at r 4 y hbd (by intro l; pointwise) x7 x8 0 0 hv l 0 rfl) ?_
  exact View.allAt_nil _ _

theorem out12 (t : Fin cfg0.N) (hv : Fin 4) (u : Fin 80) : (outsAt0 m c t).2.2 (ix4 0 hv u r)
    = if hu : u.val < 64 then valueAt (iblk m c 5 t)
        (tileFirst (grid0.coords t) (iblk m c 0 t) (iblk m c 1 t) (iblk m c 2 t) (iblk m c 3 t)) r ⟨hv.val * 64 + u.val, value_lt hv ⟨u.val, hu⟩⟩
      else if u.val = 64 then 1 else 0 := by
  unfold outsAt0
  dsimp only
  unfold out0_A_12
  rw [View.read_writes_eq_canon _ _ _ (fun y => by apply cover0_A_12)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  generalize iblk m c 0 t = x0
  generalize iblk m c 1 t = x1
  generalize iblk m c 2 t = x2
  generalize iblk m c 3 t = x3
  generalize iblk m c 5 t = x5
  unfold tileFirst
  rw [ld0, ld0, ld3, ld5]
  generalize k0_pay4 (F := Ideal) _ _ _ _ _ _ = h
  simp only [valueAt_eq]
  have hv1 : ∀ e : Fin 64, e.val = u.val → (if hu : u.val < 64 then k0_pay34 h x5 (ix2 ⟨hv.val * 64 + u.val, value_lt hv ⟨u.val, hu⟩⟩ r) else if u.val = 64 then 1 else 0)
      = k0_pay34 h x5 (ix2 ⟨hv.val * 64 + e.val, value_lt hv e⟩ r) := by
    intro e he
    rw [dif_pos (he ▸ e.isLt)]
    simp only [he]
  have hv2 : 64 ≤ u.val → (if hu : u.val < 64 then k0_pay34 h x5 (ix2 ⟨hv.val * 64 + u.val, value_lt hv ⟨u.val, hu⟩⟩ r) else if u.val = 64 then (1 : EReal) else 0)
      = if u.val = 64 then 1 else 0 := fun h => dif_neg (by omega)
  revert hv1 hv2
  generalize (if hu : u.val < 64 then k0_pay34 h x5 (ix2 ⟨hv.val * 64 + u.val, value_lt hv ⟨u.val, hu⟩⟩ r) else if u.val = 64 then (1 : EReal) else 0) = w
  intro hv1 hv2
  refine View.canon_eq_of_allAt _ _ _ (View.cover_of_tiledBy _ ![1, 1, 16, 256] (by sl_kernel_rfl) _) ?_
  refine View.allAt_cons_unit _ _ _ _ _ (ones_at r 3 hv u 3 rfl w hv2) ?_
  refine View.allAt_cons_unit _ _ _ _ _ (v_at r 3 hv (k0_pay34 h x5) u 3 rfl w hv1) ?_
  refine View.allAt_cons_unit _ _ _ _ _ (ones_at r 2 hv u 2 rfl w hv2) ?_
  refine View.allAt_cons_unit _ _ _ _ _ (v_at r 2 hv (k0_pay34 h x5) u 2 rfl w hv1) ?_
  refine View.allAt_cons_unit _ _ _ _ _ (ones_at r 1 hv u 1 rfl w hv2) ?_
  refine View.allAt_cons_unit _ _ _ _ _ (v_at r 1 hv (k0_pay34 h x5) u 1 rfl w hv1) ?_
  refine View.allAt_cons_unit _ _ _ _ _ (ones_at r 0 hv u 0 rfl w hv2) ?_
  refine View.allAt_cons_unit _ _ _ _ _ (v_at r 0 hv (k0_pay34 h x5) u 0 rfl w hv1) ?_
  exact View.allAt_nil _ _

end Cert.Kernel5Ideal.Hand

end
-- ==== Proof.EvenK.lean ====
/- The fifth kernel's result arrays over the reals. -/
module

public import proofs.«01_k».proof.Proof.EvenOut
public import proofs.«01_k».proof.Proof.InprojK

@[expose] public section

set_option maxRecDepth 16384

noncomputable section

namespace Cert.Kernel5Ideal.Hand

open Idealize.ShloMosaic Idealize.ShloMosaic.Tactic Idealize.ShloMosaic.TcCoe Idealize.SL.Sem Cert.Kernel5Ideal.Gen
open Cert.Block Cert.Heads
open Cert.EvenRef (pad firstRow turnedRow)
open Cert.Kernel3Ideal.Hand (Indicates query_lt batch_lt row_lt lat_lt seg_lt seg_row pick tile_lt normed_congr through_congr turned_congr onesMatrix matrix_apply)

variable (r : Fin 256) (j : Fin 1024)

/-! A tile's rows in terms of its blocks. -/

section Tile

variable (i : grid0.Coords) (x0 x1 : Vec Ideal S1x256x1024 .f32) (x2 : Vec Ideal S1x1x8x1024 .f32) (x3 : Vec Ideal S1x1024 .f32) (x4 : Vec Ideal S1024x1280 .bf16)

theorem shift_read : View.ld x2 (Rect.unit ![0, 0, 0, 0] ![1, 1, 1, 1024] inb_S1x1x8x1024_S1x1x1x1024_0_0_0_0) (ix4 0 0 0 j) = x2 (ix4 0 0 0 j) := by pointwise
theorem scale_read : View.ld x2 (Rect.unit ![0, 0, 1, 0] ![1, 1, 1, 1024] inb_S1x1x8x1024_S1x1x1x1024_0_0_1_0) (ix4 0 0 0 j) = x2 (ix4 0 0 1 j) := by pointwise

theorem tileFirst_apply : tileFirst i x0 x1 x2 x3 (ix2 r j)
    = normed (fun j => Scalar.select (Scalar.cmpi .eq (BitVec.ofNat 32 (i 1).val) 0#32) (x0 (ix3 0 r j)) (x1 (ix3 0 r j))) (fun j => x3 (ix2 0 j)) (fun j => x2 (ix4 0 0 1 j))
      (fun j => x2 (ix4 0 0 0 j)) j := by
  unfold tileFirst
  refine (first_apply r j i x0 x1 x3 _ _).trans ?_
  exact congrArg₂ (fun a b => normed (fun j => Scalar.select (Scalar.cmpi .eq (BitVec.ofNat 32 (i 1).val) 0#32) (x0 (ix3 0 r j)) (x1 (ix3 0 r j))) (fun j => x3 (ix2 0 j)) a b j)
    (funext fun j => scale_read j x2) (funext fun j => shift_read j x2)

theorem tileWide_apply (k : Fin 1280) : tileWide i x0 x1 x2 x3 x4 (ix2 r k) = through (fun j => tileFirst i x0 x1 x2 x3 (ix2 r j)) (fun i j => x4 (ix2 i j)) k :=
  wide_apply r i x0 x1 x3 _ _ x4 k

end Tile

/-! The windows' block indices at a grid point. -/

theorem index0 : ∀ t : Fin cfg0.N, win0_0.index t = ![t.val / 33, 0, 0] := (by decide +kernel : ∀ t : Fin grid0.N, win0_0.index t = ![t.val / 33, 0, 0])
theorem index1 : ∀ t : Fin cfg0.N, win0_1.index t = ![t.val / 33, t.val % 33 - 1, 0] := (by decide +kernel : ∀ t : Fin grid0.N, win0_1.index t = ![t.val / 33, t.val % 33 - 1, 0])
theorem index2 : ∀ t : Fin cfg0.N, win0_2.index t = ![t.val / 33, min (t.val % 33) 1, 0, 0] := (by decide +kernel : ∀ t : Fin grid0.N, win0_2.index t = ![t.val / 33, min (t.val % 33) 1, 0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![t.val % 33, 0] := (by decide +kernel : ∀ t : Fin grid0.N, win0_7.index t = ![t.val % 33, 0])
theorem index8 : ∀ t : Fin cfg0.N, win0_8.index t = ![t.val % 33, 0] := (by decide +kernel : ∀ t : Fin grid0.N, win0_8.index t = ![t.val % 33, 0])
theorem index9 : ∀ t : Fin cfg0.N, win0_9.index t = ![0, 0] := (by decide +kernel : ∀ t : Fin grid0.N, win0_9.index t = ![0, 0])
theorem index10 : ∀ t : Fin cfg0.N, win0_10.index t = ![t.val / 33, t.val % 33, 0] := (by decide +kernel : ∀ t : Fin grid0.N, win0_10.index t = ![t.val / 33, t.val % 33, 0])
theorem index11 : ∀ t : Fin cfg0.N, win0_11.index t = ![t.val / 33, 0, t.val % 33, 0] := (by decide +kernel : ∀ t : Fin grid0.N, win0_11.index t = ![t.val / 33, 0, t.val % 33, 0])
theorem index12 : ∀ t : Fin cfg0.N, win0_12.index t = ![t.val / 33, 0, 0, t.val % 33] := (by decide +kernel : ∀ t : Fin grid0.N, win0_12.index t = ![t.val / 33, 0, 0, t.val % 33])
theorem coord1 : ∀ t : Fin cfg0.N, ((grid0.coords t) 1).val = t.val % 33 := (by decide +kernel : ∀ t : Fin grid0.N, ((grid0.coords t) 1).val = t.val % 33)

variable (m : (ℓ : Loc nD τ sig) → Buf (Elt Ideal) ℓ) (c : Dev nD)

theorem blk0 (t : Fin cfg0.N) (ht : t.val < 132) : iblk m c 0 t (ix3 0 r j) = m ((c.tc : Thread nD τ).loc main_arg0) (ix3 ⟨t.val / 33, batch_lt ht⟩ r j) := by
  blk_simp [iblk]
  rw [V_main_arg0]
  congr 1
  blk_ext [index0]

theorem blk1 (t : Fin cfg0.N) (ht : t.val < 132) : iblk m c 1 t (ix3 0 r j) = m ((c.tc : Thread nD τ).loc main_arg1) (ix3 ⟨t.val / 33, batch_lt ht⟩ ⟨(t.val % 33 - 1) * 256 + r.val, lat_lt t.val r⟩ j) := by
  blk_simp [iblk]
  rw [V_main_arg1]
  congr 1
  blk_ext [index1]

theorem blk2 (t : Fin cfg0.N) (ht : t.val < 132) (i : Fin 8) : iblk m c 2 t (ix4 0 0 i j) = m ((c.tc : Thread nD τ).loc main_arg2) (ix4 ⟨t.val / 33, batch_lt ht⟩ ⟨min (t.val % 33) 1, seg_lt t.val⟩ i j) := by
  blk_simp [iblk]
  rw [V_main_arg2]
  congr 1
  blk_ext [index2]

theorem blk3 (t : Fin cfg0.N)  : iblk m c 3 t (ix2 0 j) = m ((c.tc : Thread nD τ).loc main_arg3) (ix2 0 j) := by
  blk_simp [iblk]
  rw [V_main_arg3]
  congr 1
  blk_ext [index3]

theorem blk4 (t : Fin cfg0.N) (i : Fin 1024) (k : Fin 1280) : iblk m c 4 t (ix2 i k) = m ((c.tc : Thread nD τ).loc main_arg4) (ix2 i k) := by
  blk_simp [iblk]
  rw [V_main_arg4]
  congr 1
  blk_ext [index4]

theorem blk5 (t : Fin cfg0.N) (k : Fin 256) : iblk m c 5 t (ix2 k j) = m ((c.tc : Thread nD τ).loc main_arg5) (ix2 k j) := by
  blk_simp [iblk]
  rw [V_main_arg5]
  congr 1
  blk_ext [index5]

theorem blk6 (t : Fin cfg0.N) (k : Fin 1280) : iblk m c 6 t (ix2 0 k) = m ((c.tc : Thread nD τ).loc main_arg6) (ix2 0 k) := by
  blk_simp [iblk]
  rw [V_main_arg6]
  congr 1
  blk_ext [index6]

theorem blk7 (t : Fin cfg0.N) (l : Fin 128) : iblk m c 7 t (ix2 r l) = m ((c.tc : Thread nD τ).loc main_arg7) (ix2 ⟨t.val % 33 * 256 + r.val, row_lt t.val r⟩ l) := by
  blk_simp [iblk]
  rw [V_main_arg7]
  congr 1
  blk_ext [index7]

theorem blk8 (t : Fin cfg0.N) (l : Fin 128) : iblk m c 8 t (ix2 r l) = m ((c.tc : Thread nD τ).loc main_arg8) (ix2 ⟨t.val % 33 * 256 + r.val, row_lt t.val r⟩ l) := by
  blk_simp [iblk]
  rw [V_main_arg8]
  congr 1
  blk_ext [index8]

/-! The matrix of ones, computed before the kernel. -/

theorem V_ones : V m c main_v8 = onesMatrix := by
  change StableHlo.after _ _ (Proc.devRef .tc main_v8) = _
  simp only [hostOps0, hostOps0_1, hostOps0_2, List.flatten_cons, List.flatten_nil, List.append_nil, List.cons_append, List.nil_append]
  after_results_simp
  rfl

theorem blk9 (t : Fin cfg0.N) : Indicates (iblk m c 9 t) := fun u l => by
  refine Eq.trans ?_ (matrix_apply u l)
  blk_simp [iblk]
  rw [V_ones]
  congr 1
  blk_ext [index9]

/-! A tile's rows are the rows of the whole. -/

theorem stream_row (t : Fin cfg0.N) (x y : EReal) : Scalar.select (Scalar.cmpi .eq (BitVec.ofNat 32 ((grid0.coords t) 1).val) 0#32) x y = if t.val % 33 = 0 then x else y := by
  rw [coord1, pick ⟨t.val % 33, tile_lt t.val⟩]
  by_cases h : t.val % 33 = 0
  · rw [if_pos h, if_pos h]; exact if_pos (show (1#1 : BitVec 1) = 1 from rfl)
  · rw [if_neg h, if_neg h]; exact if_neg (show ¬ (0#1 : BitVec 1) = 1 by decide)

/-- A token's row after the norm, from the kernel's arguments. -/
def firstK (b : Fin 4) (n : Fin 8448) : Fin 1024 → EReal :=
  firstRow b n (m ((c.tc : Thread nD τ).loc main_arg0)) (m ((c.tc : Thread nD τ).loc main_arg1)) (m ((c.tc : Thread nD τ).loc main_arg2)) (m ((c.tc : Thread nD τ).loc main_arg3))

/-- Its queries and keys, turned. -/
def turnedK (b : Fin 4) (n : Fin 8448) : Fin 2048 → EReal :=
  turnedRow b n (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8))

section At

variable (t : Fin cfg0.N) (ht : t.val < 132)

include ht in
theorem token_row : (if t.val % 33 = 0 then iblk m c 0 t (ix3 0 r j) else iblk m c 1 t (ix3 0 r j))
    = Cert.InprojRef.tokenRow ⟨t.val / 33, batch_lt ht⟩ ⟨t.val % 33 * 256 + r.val, row_lt t.val r⟩ (m ((c.tc : Thread nD τ).loc main_arg0)) (m ((c.tc : Thread nD τ).loc main_arg1)) j := by
  have hr := r.isLt
  unfold Cert.InprojRef.tokenRow
  by_cases h : t.val % 33 = 0
  · rw [if_pos h, dif_pos (show t.val % 33 * 256 + r.val < 256 by omega), blk0 r j m c t ht]
    refine congrArg (m ((c.tc : Thread nD τ).loc main_arg0)) (congrArg (fun n => ix3 _ n j) (Fin.ext ?_))
    change r.val = t.val % 33 * 256 + r.val
    omega
  · rw [if_neg h, dif_neg (show ¬ t.val % 33 * 256 + r.val < 256 by omega), blk1 r j m c t ht]
    refine congrArg (m ((c.tc : Thread nD τ).loc main_arg1)) (congrArg (fun n => ix3 _ n j) (Fin.ext ?_))
    change (t.val % 33 - 1) * 256 + r.val = t.val % 33 * 256 + r.val - 256
    omega

include ht in
theorem mod_row (i : Fin 8) : iblk m c 2 t (ix4 0 0 i j)
    = (m ((c.tc : Thread nD τ).loc main_arg2)) (ix4 ⟨t.val / 33, batch_lt ht⟩ (Cert.InprojRef.seg ⟨t.val % 33 * 256 + r.val, row_lt t.val r⟩) i j) := by
  refine (blk2 j m c t ht i).trans ?_
  exact congrArg (fun s => (m ((c.tc : Thread nD τ).loc main_arg2)) (ix4 ⟨t.val / 33, batch_lt ht⟩ s i j)) (seg_row r t)

theorem firstAt : tileFirst (grid0.coords t) (iblk m c 0 t) (iblk m c 1 t) (iblk m c 2 t) (iblk m c 3 t) (ix2 r j) = firstK m c ⟨t.val / 33, batch_lt ht⟩ ⟨t.val % 33 * 256 + r.val, row_lt t.val r⟩ j := by
  refine (tileFirst_apply r j (grid0.coords t) (iblk m c 0 t) (iblk m c 1 t) (iblk m c 2 t) (iblk m c 3 t)).trans ?_
  exact congrFun (normed_congr (fun j => (stream_row t _ _).trans (token_row r j m c t ht)) (fun j => blk3 j m c t) (fun j => mod_row r j m c t ht 1) (fun j => mod_row r j m c t ht 0)) j

theorem turnedAt (k : Fin 2048) : turned (pad fun k => tileWide (grid0.coords t) (iblk m c 0 t) (iblk m c 1 t) (iblk m c 2 t) (iblk m c 3 t) (iblk m c 4 t) (ix2 r k)) (pad fun k => iblk m c 6 t (ix2 0 k))
      (fun l => iblk m c 7 t (ix2 r l)) (fun l => iblk m c 8 t (ix2 r l)) k
    = turnedK m c ⟨t.val / 33, batch_lt ht⟩ ⟨t.val % 33 * 256 + r.val, row_lt t.val r⟩ k := by
  refine congrFun (turned_congr (fun k => congrFun (congrArg pad (funext fun k => ?_)) k) (fun k => congrFun (congrArg pad (funext fun k => blk6 m c t k)) k)
    (fun l => blk7 r m c t l) (fun l => blk8 r m c t l)) k
  refine (tileWide_apply r (grid0.coords t) (iblk m c 0 t) (iblk m c 1 t) (iblk m c 2 t) (iblk m c 3 t) (iblk m c 4 t) k).trans ?_
  exact congrFun (through_congr (fun j => firstAt r j m c t ht) (fun i k => blk4 m c t i k)) k

theorem valueAt_row (w : Vec Ideal S256x1024 .bf16) (h : Vec Ideal S256x1024 .bf16) (x : Fin 1024 → EReal) (y : Fin 1024 → EReal) (k : Fin 256) (hw : ∀ i, w (ix2 k i) = y i)
    (hh : ∀ i, h (ix2 r i) = x i) : valueAt w h r k = ∑ i : Fin 1024, x i * y i := by
  unfold valueAt
  exact Finset.sum_congr rfl fun i _ => by rw [hw, hh, mul_comm]

end At

/-! The three result arrays. -/

def result10 : FVec Ideal S4x8448x1024 .bf16 := fun i => turnedK m c (i 0) (i 1) ⟨(i 2).val, query_lt (i 2)⟩ * Ideal.ofBits .f32 0x3E38AA3B#32

def result11 : FVec Ideal S4x4x8448x64 .bf16 := fun i => turnedK m c (i 0) (i 2) ⟨1024 + ((i 1).val * 64 + (i 3).val), key_lt (i 1) (i 3)⟩

def result12 : FVec Ideal S4x4x80x8448 .bf16 := fun i =>
  if hu : (i 2).val < 64 then ∑ k : Fin 1024, firstK m c (i 0) (i 3) k * (m ((c.tc : Thread nD τ).loc main_arg5)) (ix2 ⟨(i 1).val * 64 + (i 2).val, value_lt (i 1) ⟨(i 2).val, hu⟩⟩ k)
  else if (i 2).val = 64 then 1 else 0

theorem result12_at (b : Fin 4) (hv : Fin 4) (u : Fin 80) (n : Fin 8448) : result12 m c (ix4 b hv u n)
    = if hu : u.val < 64 then ∑ k : Fin 1024, firstK m c b n k * (m ((c.tc : Thread nD τ).loc main_arg5)) (ix2 ⟨hv.val * 64 + u.val, value_lt hv ⟨u.val, hu⟩⟩ k)
      else if u.val = 64 then 1 else 0 := rfl

theorem final10 : (dats m 0 c).arrAt 10 cfg0.N = result10 m c := by
  refine (dats m 0 c).arrAt_eq_of_covers 10 _ (by decide +kernel) fun t hf y => ?_
  have ht : t.val < 132 := lt_of_lt_of_eq t.isLt N_0
  blk_simp
  rw [after0_10]
  obtain ⟨r, j, rfl⟩ : ∃ (r : Fin 256) (j : Fin 1024), y = ix3 0 r j := ⟨y 1, y 2, by
    funext a; fin_cases a
    · exact Fin.ext (by have := (y 0).isLt; change _ < 1 at this; change (y 0).val = 0; omega)
    all_goals rfl⟩
  refine ((out10 r j m c t (blk9 m c t)).trans (congrArg (· * Ideal.ofBits .f32 0x3E38AA3B#32) (turnedAt r m c t ht _))).trans ?_
  change result10 m c (ix3 ⟨t.val / 33, batch_lt ht⟩ ⟨t.val % 33 * 256 + r.val, row_lt t.val r⟩ j) = _
  congr 1
  blk_ext [index10]

theorem final11 : (dats m 0 c).arrAt 11 cfg0.N = result11 m c := by
  refine (dats m 0 c).arrAt_eq_of_covers 11 _ (by decide +kernel) fun t hf y => ?_
  have ht : t.val < 132 := lt_of_lt_of_eq t.isLt N_0
  blk_simp
  rw [after0_11]
  obtain ⟨hv, r, l, rfl⟩ : ∃ (hv : Fin 4) (r : Fin 256) (l : Fin 64), y = ix4 0 hv r l := ⟨y 1, y 2, y 3, by
    funext a; fin_cases a
    · exact Fin.ext (by have := (y 0).isLt; change _ < 1 at this; change (y 0).val = 0; omega)
    all_goals rfl⟩
  refine ((out11 r m c t hv l (blk9 m c t)).trans (turnedAt r m c t ht _)).trans ?_
  change result11 m c (ix4 ⟨t.val / 33, batch_lt ht⟩ hv ⟨t.val % 33 * 256 + r.val, row_lt t.val r⟩ l) = _
  congr 1
  blk_ext [index11]

theorem final12 : (dats m 0 c).arrAt 12 cfg0.N = result12 m c := by
  refine (dats m 0 c).arrAt_eq_of_covers 12 _ (by decide +kernel) fun t hf y => ?_
  have ht : t.val < 132 := lt_of_lt_of_eq t.isLt N_0
  blk_simp
  rw [after0_12]
  obtain ⟨hv, u, r, rfl⟩ : ∃ (hv : Fin 4) (u : Fin 80) (r : Fin 256), y = ix4 0 hv u r := ⟨y 1, y 2, y 3, by
    funext a; fin_cases a
    · exact Fin.ext (by have := (y 0).isLt; change _ < 1 at this; change (y 0).val = 0; omega)
    all_goals rfl⟩
  refine (out12 r m c t hv u).trans ?_
  trans result12 m c (ix4 ⟨t.val / 33, batch_lt ht⟩ hv u ⟨t.val % 33 * 256 + r.val, row_lt t.val r⟩)
  · rw [result12_at]
    by_cases hu : u.val < 64
    · rw [dif_pos hu, dif_pos hu]
      exact valueAt_row r _ _ _ _ _ (fun i => blk5 i m c t _) (fun i => firstAt r i m c t ht)
    · rw [dif_neg hu, dif_neg hu]
  congr 1
  blk_ext [index12]

end Cert.Kernel5Ideal.Hand

end
-- ==== Proof.EvenAgree.lean ====
/- The fifth call's three results agree over the reals. -/
module

public import proofs.«01_k».proof.Proof.EvenK

@[expose] public section

set_option maxRecDepth 16384

noncomputable section

namespace Cert.EvenAgree

open Idealize.ShloMosaic Idealize.ShloMosaic.Tactic Idealize.ShloMosaic.TcCoe Idealize.SL.Sem
open Cert.EvenRef

variable (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (h3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3))
    (h4 : m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4))
    (h5 : m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5))
    (h6 : m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6))
    (h7 : m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7))
    (h8 : m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8))

include h0 h1 h2 h3 h4 h6 h7 h8 in
theorem query_agree : Cert.Reference5Ideal.Value.res_main_v108 m' c = (Cert.Kernel5Ideal.Gen.dats m 0 c).arrAt 10 Cert.Kernel5Ideal.cfg0.N := by
  rw [Cert.Kernel5Ideal.Hand.final10, query_eq]
  change q (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) = _
  rw [h0, h1, h2, h3, h4, h6, h7, h8]
  funext i
  obtain ⟨b, n, j, rfl⟩ : ∃ (b : Fin 4) (n : Fin 8448) (j : Fin 1024), i = ix3 b n j := ⟨i 0, i 1, i 2, by funext a; fin_cases a <;> rfl⟩
  exact q_apply (b := b) (n := n) (j := j) ..

include h0 h1 h2 h3 h4 h6 h7 h8 in
theorem key_agree : Cert.Reference5Ideal.Value.res_main_v109 m' c = (Cert.Kernel5Ideal.Gen.dats m 0 c).arrAt 11 Cert.Kernel5Ideal.cfg0.N := by
  rw [Cert.Kernel5Ideal.Hand.final11, key_eq]
  change k (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) = _
  rw [h0, h1, h2, h3, h4, h6, h7, h8]
  funext i
  obtain ⟨b, h, n, l, rfl⟩ : ∃ (b : Fin 4) (h : Fin 4) (n : Fin 8448) (l : Fin 64), i = ix4 b h n l := ⟨i 0, i 1, i 2, i 3, by funext a; fin_cases a <;> rfl⟩
  exact k_apply (b := b) (n := n) (h := h) (l := l) ..

include h0 h1 h2 h3 h5 in
theorem value_agree : v (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg5)) = (Cert.Kernel5Ideal.Gen.dats m 0 c).arrAt 12 Cert.Kernel5Ideal.cfg0.N := by
  rw [Cert.Kernel5Ideal.Hand.final12]
  change v (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg5)) = _
  rw [h0, h1, h2, h3, h5]
  funext i
  obtain ⟨b, h, u, n, rfl⟩ : ∃ (b : Fin 4) (h : Fin 4) (u : Fin 80) (n : Fin 8448), i = ix4 b h u n := ⟨i 0, i 1, i 2, i 3, by funext a; fin_cases a <;> rfl⟩
  exact v_apply (b := b) (n := n) (h := h) (u := u) ..

end Cert.EvenAgree

end
-- ==== Proof.lean ====
module

public import proofs.«01_k».proof.Defs
public import proofs.«01_k».proof.Proof.RunK
public import proofs.«01_k».proof.Proof.RunKI
public import proofs.«01_k».proof.Proof.ValPre
public import proofs.«01_k».proof.Proof.Gen.Kernel
public import proofs.«01_k».proof.Proof.Gen.KernelIdeal
public import proofs.«01_k».proof.Proof.Gen.ReferenceIdeal.Run
public import proofs.«01_k».proof.Proof.Gen.Pre_finite_with_ones
public import proofs.«01_k».proof.Proof.Gen.Kernel2.Frame
public import proofs.«01_k».proof.Proof.PostAgree
public import proofs.«01_k».proof.Proof.Gen.Kernel2Ideal.Value
public import proofs.«01_k».proof.Proof.Gen.Reference2Ideal.Run
public import proofs.«01_k».proof.Proof.Gen.Kernel3.Frame
public import proofs.«01_k».proof.Proof.InprojAgree
public import proofs.«01_k».proof.Proof.Gen.Kernel3Ideal.Value
public import proofs.«01_k».proof.Proof.Gen.Reference3Ideal.Run
public import proofs.«01_k».proof.Proof.Gen.Kernel4.Frame
public import proofs.«01_k».proof.Proof.ModAgree
public import proofs.«01_k».proof.Proof.Gen.Kernel4Ideal.Value
public import proofs.«01_k».proof.Proof.Gen.Reference4Ideal.Run
public import proofs.«01_k».proof.Proof.Gen.Kernel5.Frame
public import proofs.«01_k».proof.Proof.EvenAgree
public import proofs.«01_k».proof.Proof.Gen.Kernel5Ideal.Value
public import proofs.«01_k».proof.Proof.Gen.Reference5Ideal.Run
public import Idealize.ShloMosaic.Adequacy
public import Idealize.ShloMosaic.Lib.Quiescent
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_finite_with_ones.Gen.facts
attribute [local instance] Cert.Kernel2.Gen.facts Cert.Kernel2Ideal.Gen.facts Cert.Reference2Ideal.Gen.facts
attribute [local instance] Cert.Kernel4.Gen.facts Cert.Kernel4Ideal.Gen.facts Cert.Reference4Ideal.Gen.facts
attribute [local instance] Cert.Kernel5.Gen.facts Cert.Kernel5Ideal.Gen.facts Cert.Reference5Ideal.Gen.facts
attribute [local instance] Cert.Kernel3.Gen.facts Cert.Kernel3Ideal.Gen.facts Cert.Reference3Ideal.Gen.facts

theorem frame_k : quiescent_Kernel := fun m ρ _ => Cert.Kernel.Hand.frame m ρ

theorem frame_ki : quiescent_KernelIdeal := fun m ρ _ => Cert.KernelIdeal.Hand.frame m ρ

theorem frame_ki_pre : quiescent_KernelIdeal_pre_finite_with_ones := fun m ρ _ => Cert.KernelIdeal.Hand.frame m ρ

theorem frame_ri : quiescent_ReferenceIdeal := fun m ρ _ =>
  (θ_run Cert.ReferenceIdeal.defs _ _).mono (fun r h => ⟨fun c => (h c).2,
      sem_eq_zero_of_no_sems (by decide) r.2⟩)
    (Cert.ReferenceIdeal.Value.run (F := Ideal) m ρ)

theorem frame_ri_pre : quiescent_ReferenceIdeal_pre_finite_with_ones := fun m ρ _ => frame_ri m ρ trivial

theorem agree : algebraic_KernelIdeal_ReferenceIdeal_pre_finite_with_ones := fun m ρ m' ρ' hpre hargs => by
  refine ⟨fun c => (Cert.KernelIdeal.Hand.dats m 0 c).arrAt 6 Cert.KernelIdeal.cfg0.N, ?_, ?_⟩
  · exact (θ_run Cert.KernelIdeal.defs _ _).mono (fun r h c => ⟨(h.2 c).1 6, h.1 c⟩)
      (θ_run_and (Cert.KernelIdeal.Hand.unchanged m ρ) (Cert.KernelIdeal.Hand.run_main m ρ))
  · refine (θ_run Cert.ReferenceIdeal.defs _ _).mono (fun r h c => ⟨(h c).1.trans ?_, (h c).2⟩) (Cert.ReferenceIdeal.Value.run (F := Ideal) m' ρ')
    obtain ⟨h0, h1, h2, h3, h4⟩ := hargs c
    exact Cert.PreVal.results_agree m m' hpre c h0 h1 h2 h3 h4

theorem frame_k2 : quiescent_Kernel2 := fun m ρ _ => Cert.Kernel2.Gen.frame m ρ

theorem frame_ki2 : quiescent_Kernel2Ideal := fun m ρ _ => Cert.Kernel2Ideal.Gen.frame m ρ

theorem frame_ri2 : quiescent_Reference2Ideal := fun m ρ _ =>
  (θ_run Cert.Reference2Ideal.defs _ _).mono (fun r h => ⟨fun c => (h c).2,
      sem_eq_zero_of_no_sems (by decide) r.2⟩)
    (Cert.Reference2Ideal.Value.run (F := Ideal) m ρ)

theorem agree2 : algebraic_Kernel2Ideal_Reference2Ideal := fun m ρ m' ρ' hpre hargs => by
  refine ⟨fun c => (Cert.Kernel2Ideal.Gen.dats m 0 c).arrAt 8 Cert.Kernel2Ideal.cfg0.N, Cert.Kernel2Ideal.Value.run_blocks (F := Ideal) m ρ, ?_⟩
  refine (θ_run Cert.Reference2Ideal.defs _ _).mono (fun r h c => ⟨(h c).1.trans ?_, (h c).2⟩) (Cert.Reference2Ideal.Value.run (F := Ideal) m' ρ')
  obtain ⟨h0, h1, h2, h3, h4, h5, h6⟩ := hargs c
  exact Cert.PostAgree.results_agree m m' c h0 h1 h2 h3 h4 h5 h6

theorem frame_k3 : quiescent_Kernel3 := fun m ρ _ => Cert.Kernel3.Gen.frame m ρ

theorem frame_ki3 : quiescent_Kernel3Ideal := fun m ρ _ => Cert.Kernel3Ideal.Gen.frame m ρ

theorem frame_ri3 : quiescent_Reference3Ideal := fun m ρ _ =>
  (θ_run Cert.Reference3Ideal.defs _ _).mono (fun r h => ⟨fun c => (h c).2.2.2.2,
      sem_eq_zero_of_no_sems (by decide) r.2⟩)
    (Cert.Reference3Ideal.Value.run (F := Ideal) m ρ)

theorem agree3 : algebraic_Kernel3Ideal_Reference3Ideal := fun m ρ m' ρ' hpre hargs => by
  refine ⟨fun c => (Cert.Kernel3Ideal.Gen.dats m 0 c).arrAt 17 Cert.Kernel3Ideal.cfg0.N, fun c => (Cert.Kernel3Ideal.Gen.dats m 0 c).arrAt 18 Cert.Kernel3Ideal.cfg0.N,
    fun c => (Cert.Kernel3Ideal.Gen.dats m 0 c).arrAt 19 Cert.Kernel3Ideal.cfg0.N, fun c => (Cert.Kernel3Ideal.Gen.dats m 0 c).arrAt 20 Cert.Kernel3Ideal.cfg0.N,
    Cert.Kernel3Ideal.Value.run_blocks (F := Ideal) m ρ, ?_⟩
  refine (θ_run Cert.Reference3Ideal.defs _ _).mono (fun r h c => ⟨(h c).1.trans ?_, (h c).2.1.trans ?_, (h c).2.2.1.trans ?_, (h c).2.2.2.1.trans ?_,
    (h c).2.2.2.2⟩) (Cert.Reference3Ideal.Value.run (F := Ideal) m' ρ')
  all_goals obtain ⟨h0, h1, h2, h3, h4, h5, h6, h7, h8, h9, h10, h11, h12, h13, h14, h15⟩ := hargs c
  · exact Cert.InprojAgree.stream_agree m m' c h0 h1 h2 h3 h4 h5 h6 h7 h8
  · exact Cert.InprojAgree.query_agree m m' c h0 h1 h2 h3 h4 h5 h6 h7 h8 h9 h10 h11 h13 h14 h15
  · exact Cert.InprojAgree.key_agree m m' c h0 h1 h2 h3 h4 h5 h6 h7 h8 h9 h10 h11 h13 h14 h15
  · exact Cert.InprojAgree.value_agree m m' c h0 h1 h2 h3 h4 h5 h6 h7 h8 h9 h10 h12

theorem frame_k4 : quiescent_Kernel4 := fun m ρ _ => Cert.Kernel4.Gen.frame m ρ

theorem frame_ki4 : quiescent_Kernel4Ideal := fun m ρ _ => Cert.Kernel4Ideal.Gen.frame m ρ

theorem frame_ri4 : quiescent_Reference4Ideal := fun m ρ _ =>
  (θ_run Cert.Reference4Ideal.defs _ _).mono (fun r h => ⟨fun c => (h c).2,
      sem_eq_zero_of_no_sems (by decide) r.2⟩)
    (Cert.Reference4Ideal.Value.run (F := Ideal) m ρ)

theorem agree4 : algebraic_Kernel4Ideal_Reference4Ideal := fun m ρ m' ρ' hpre hargs => by
  refine ⟨fun c => (Cert.Kernel4Ideal.Gen.dats m 0 c).arrAt 3 Cert.Kernel4Ideal.cfg0.N, Cert.Kernel4Ideal.Value.run_blocks (F := Ideal) m ρ, ?_⟩
  refine (θ_run Cert.Reference4Ideal.defs _ _).mono (fun r h c => ⟨(h c).1.trans ?_, (h c).2⟩) (Cert.Reference4Ideal.Value.run (F := Ideal) m' ρ')
  obtain ⟨h0, h1, h2⟩ := hargs c
  exact Cert.Modulation.results_agree m m' c h0 h1 h2

theorem frame_k5 : quiescent_Kernel5 := fun m ρ _ => Cert.Kernel5.Gen.frame m ρ

theorem frame_ki5 : quiescent_Kernel5Ideal := fun m ρ _ => Cert.Kernel5Ideal.Gen.frame m ρ

theorem frame_ri5 : quiescent_Reference5Ideal := fun m ρ _ =>
  (θ_run Cert.Reference5Ideal.defs _ _).mono (fun r h => ⟨fun c => (h c).2.2.2,
      sem_eq_zero_of_no_sems (by decide) r.2⟩)
    (Cert.Reference5Ideal.Value.run (F := Ideal) m ρ)

theorem agree5 : algebraic_Kernel5Ideal_Reference5Ideal := fun m ρ m' ρ' hpre hargs => by
  refine ⟨fun c => (Cert.Kernel5Ideal.Gen.dats m 0 c).arrAt 10 Cert.Kernel5Ideal.cfg0.N, fun c => (Cert.Kernel5Ideal.Gen.dats m 0 c).arrAt 11 Cert.Kernel5Ideal.cfg0.N,
    fun c => (Cert.Kernel5Ideal.Gen.dats m 0 c).arrAt 12 Cert.Kernel5Ideal.cfg0.N, Cert.Kernel5Ideal.Value.run_blocks (F := Ideal) m ρ, ?_⟩
  refine (θ_run Cert.Reference5Ideal.defs _ _).mono (fun r h c => ⟨(h c).1.trans ?_, (h c).2.1.trans ?_, (h c).2.2.1.trans ?_,
    (h c).2.2.2⟩) (Cert.Reference5Ideal.Value.run (F := Ideal) m' ρ')
  all_goals obtain ⟨h0, h1, h2, h3, h4, h5, h6, h7, h8⟩ := hargs c
  · exact Cert.EvenAgree.query_agree m m' c h0 h1 h2 h3 h4 h6 h7 h8
  · exact Cert.EvenAgree.key_agree m m' c h0 h1 h2 h3 h4 h6 h7 h8
  · exact Cert.EvenAgree.value_agree m m' c h0 h1 h2 h3 h5

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite_with_ones.Gen.facts,
    frame_k, frame_ki, frame_ki_pre, frame_ri, frame_ri_pre, frame_k2, frame_ki2, frame_ri2, frame_k3, frame_ki3, frame_ri3, frame_k4, frame_ki4, frame_ri4, frame_k5, frame_ki5, frame_ri5,
    trivial, agree, trivial, agree2, trivial, agree3, trivial, agree4, trivial, agree5⟩

end Cert.Proof

end
